-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs2 [hPre_finite_inputs2 : Cert.Pre_finite_inputs2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs2 [hPre_finite_inputs2 : Cert.Pre_finite_inputs2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_inputs3 [hPre_finite_inputs3 : Cert.Pre_finite_inputs3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_inputs3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite_inputs3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite_inputs3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_inputs3 [hPre_finite_inputs3 : Cert.Pre_finite_inputs3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_inputs3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite_inputs3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite_inputs3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_finite_inputs2 [hKernel2Ideal : Cert.Kernel2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_finite_inputs2 [hReference2Ideal : Cert.Reference2Ideal.Facts] [hPre_finite_inputs2 : Cert.Pre_finite_inputs2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_inputs3 [hKernel3Ideal : Cert.Kernel3Ideal.Facts] [hPre_finite_inputs3 : Cert.Pre_finite_inputs3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_inputs3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_inputs3 [hReference3Ideal : Cert.Reference3Ideal.Facts] [hPre_finite_inputs3 : Cert.Pre_finite_inputs3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_inputs3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_inputs2 [hKernel2Ideal : Cert.Kernel2Ideal.Facts] [hReference2Ideal : Cert.Reference2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)) (v3 : (c : Dev Cert.Kernel2Ideal.nD) → Buf (Elt Ideal) ((c.tc : Thread Cert.Kernel2Ideal.nD Cert.Kernel2Ideal.τ).loc Cert.Kernel2Ideal.main_v23_3)) (v4 : (c : Dev Cert.Kernel2Ideal.nD) → Buf (Elt Ideal) ((c.tc : Thread Cert.Kernel2Ideal.nD Cert.Kernel2Ideal.τ).loc Cert.Kernel2Ideal.main_v23_4)) (v5 : (c : Dev Cert.Kernel2Ideal.nD) → Buf (Elt Ideal) ((c.tc : Thread Cert.Kernel2Ideal.nD Cert.Kernel2Ideal.τ).loc Cert.Kernel2Ideal.main_v23_5)) (v6 : (c : Dev Cert.Kernel2Ideal.nD) → Buf (Elt Ideal) ((c.tc : Thread Cert.Kernel2Ideal.nD Cert.Kernel2Ideal.τ).loc Cert.Kernel2Ideal.main_v23_6)) (v7 : (c : Dev Cert.Kernel2Ideal.nD) → Buf (Elt Ideal) ((c.tc : Thread Cert.Kernel2Ideal.nD Cert.Kernel2Ideal.τ).loc Cert.Kernel2Ideal.main_v23_7)) (v8 : (c : Dev Cert.Kernel2Ideal.nD) → Buf (Elt Ideal) ((c.tc : Thread Cert.Kernel2Ideal.nD Cert.Kernel2Ideal.τ).loc Cert.Kernel2Ideal.main_v23_8)) (v9 : (c : Dev Cert.Kernel2Ideal.nD) → Buf (Elt Ideal) ((c.tc : Thread Cert.Kernel2Ideal.nD Cert.Kernel2Ideal.τ).loc Cert.Kernel2Ideal.main_v23_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_v23_3) = v3 c
          ∧ r.2.mem ((c.tc : Thread Cert.Kernel2Ideal.nD Cert.Kernel2Ideal.τ).loc Cert.Kernel2Ideal.main_v23_4) = v4 c
          ∧ r.2.mem ((c.tc : Thread Cert.Kernel2Ideal.nD Cert.Kernel2Ideal.τ).loc Cert.Kernel2Ideal.main_v23_5) = v5 c
          ∧ r.2.mem ((c.tc : Thread Cert.Kernel2Ideal.nD Cert.Kernel2Ideal.τ).loc Cert.Kernel2Ideal.main_v23_6) = v6 c
          ∧ r.2.mem ((c.tc : Thread Cert.Kernel2Ideal.nD Cert.Kernel2Ideal.τ).loc Cert.Kernel2Ideal.main_v23_7) = v7 c
          ∧ r.2.mem ((c.tc : Thread Cert.Kernel2Ideal.nD Cert.Kernel2Ideal.τ).loc Cert.Kernel2Ideal.main_v23_8) = v8 c
          ∧ r.2.mem ((c.tc : Thread Cert.Kernel2Ideal.nD Cert.Kernel2Ideal.τ).loc Cert.Kernel2Ideal.main_v23_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v158) = v0 c
          ∧ r.2.mem ((c.tc : Thread Cert.Reference2Ideal.nD Cert.Reference2Ideal.τ).loc Cert.Reference2Ideal.main_v160) = v1 c
          ∧ r.2.mem ((c.tc : Thread Cert.Reference2Ideal.nD Cert.Reference2Ideal.τ).loc Cert.Reference2Ideal.main_v162) = v2 c
          ∧ r.2.mem ((c.tc : Thread Cert.Reference2Ideal.nD Cert.Reference2Ideal.τ).loc Cert.Reference2Ideal.main_v152) = v3 c
          ∧ r.2.mem ((c.tc : Thread Cert.Reference2Ideal.nD Cert.Reference2Ideal.τ).loc Cert.Reference2Ideal.main_v157) = v4 c
          ∧ r.2.mem ((c.tc : Thread Cert.Reference2Ideal.nD Cert.Reference2Ideal.τ).loc Cert.Reference2Ideal.main_v164) = v5 c
          ∧ r.2.mem ((c.tc : Thread Cert.Reference2Ideal.nD Cert.Reference2Ideal.τ).loc Cert.Reference2Ideal.main_v166) = v6 c
          ∧ r.2.mem ((c.tc : Thread Cert.Reference2Ideal.nD Cert.Reference2Ideal.τ).loc Cert.Reference2Ideal.main_v168) = v7 c
          ∧ r.2.mem ((c.tc : Thread Cert.Reference2Ideal.nD Cert.Reference2Ideal.τ).loc Cert.Reference2Ideal.main_v170) = v8 c
          ∧ r.2.mem ((c.tc : Thread Cert.Reference2Ideal.nD Cert.Reference2Ideal.τ).loc Cert.Reference2Ideal.main_v172) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  IdealRules.named_const.Statement Cert.Kernel3Ideal.κ "mask" .f32 0xF149F2CA#32 ⊥

def algebraic_Kernel3Ideal_Reference3Ideal_pre_finite_inputs3 [hKernel3Ideal : Cert.Kernel3Ideal.Facts] [hReference3Ideal : Cert.Reference3Ideal.Facts] [hPre_finite_inputs3 : Cert.Pre_finite_inputs3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_inputs3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v45_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v45_1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v138) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts) (hPre_finite_inputs2 : Cert.Pre_finite_inputs2.Facts) (hPre_finite_inputs3 : Cert.Pre_finite_inputs3.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_inputs2 (hKernel2Ideal := hKernel2Ideal) (hPre_finite_inputs2 := hPre_finite_inputs2)
    ∧ quiescent_Reference2Ideal (hReference2Ideal := hReference2Ideal)
    ∧ quiescent_Reference2Ideal_pre_finite_inputs2 (hReference2Ideal := hReference2Ideal) (hPre_finite_inputs2 := hPre_finite_inputs2)
    ∧ quiescent_Kernel3 (hKernel3 := hKernel3)
    ∧ quiescent_Kernel3Ideal (hKernel3Ideal := hKernel3Ideal)
    ∧ quiescent_Kernel3Ideal_pre_finite_inputs3 (hKernel3Ideal := hKernel3Ideal) (hPre_finite_inputs3 := hPre_finite_inputs3)
    ∧ quiescent_Reference3Ideal (hReference3Ideal := hReference3Ideal)
    ∧ quiescent_Reference3Ideal_pre_finite_inputs3 (hReference3Ideal := hReference3Ideal) (hPre_finite_inputs3 := hPre_finite_inputs3)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_inputs2 (hKernel2Ideal := hKernel2Ideal) (hReference2Ideal := hReference2Ideal) (hPre_finite_inputs2 := hPre_finite_inputs2)
    ∧ preserves_Kernel3_Kernel3Ideal
    ∧ algebraic_Kernel3Ideal_Reference3Ideal_pre_finite_inputs3 (hKernel3Ideal := hKernel3Ideal) (hReference3Ideal := hReference3Ideal) (hPre_finite_inputs3 := hPre_finite_inputs3)
-- ==== Pre_finite_inputs.lean ====
abbrev S1x8192x1024 : Shape := ⟨3, ![1, 8192, 1024]⟩
abbrev S1x1024 : Shape := ⟨2, ![1, 1024]⟩
abbrev S1x1024x3328 : Shape := ⟨3, ![1, 1024, 3328]⟩
abbrev S1x8192x3328 : Shape := ⟨3, ![1, 8192, 3328]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x3328 : S_.BroadcastsInDim S1x1024x3328 (![] : Fin 0 → Fin S1x1024x3328.rank)
  bcast_S_S1x8192x3328 : S_.BroadcastsInDim S1x8192x3328 (![] : Fin 0 → Fin S1x8192x3328.rank)

variable [Facts]

def fn {F : FTy → Type} [FloatOps F] (main_arg0 : FVec F S1x8192x1024 .f32) (main_arg1 : FVec F S1x1024 .f32) (main_arg2 : FVec F S1x1024x3328 .f32) (main_arg3 : FVec F S1x8192x3328 .f32) (main_arg4 : FVec F S1x8192x1024 .f32) : IVec S1x8192x1024 1 × IVec S1x1024 1 × IVec S1x1024x3328 1 × IVec S1x8192x3328 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x3328 .f32 := Host.absf main_arg2
  let main_cst_1 : FVec F S_ .f32 := constant S_ .f32 0x7F800000#32
  let main_v7 : FVec F S1x1024x3328 .f32 := broadcastInDim S1x1024x3328 ![] bcast_S_S1x1024x3328 main_cst_1
  let main_v8 : IVec S1x1024x3328 1 := cmpf .olt main_v6 main_v7
  let main_v9 : FVec F S1x8192x3328 .f32 := Host.absf main_arg3
  let main_cst_2 : FVec F S_ .f32 := constant S_ .f32 0x7F800000#32
  let main_v10 : FVec F S1x8192x3328 .f32 := broadcastInDim S1x8192x3328 ![] bcast_S_S1x8192x3328 main_cst_2
  let main_v11 : IVec S1x8192x3328 1 := cmpf .olt main_v9 main_v10
  (main_v2, main_v5, main_v8, main_v11)
-- ==== Pre_finite_inputs2.lean ====
abbrev S1x8192x1024 : Shape := ⟨3, ![1, 8192, 1024]⟩
abbrev S1x8192x512 : Shape := ⟨3, ![1, 8192, 512]⟩
abbrev S1x8192x2048 : Shape := ⟨3, ![1, 8192, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  bcast_S_S1x8192x512 : S_.BroadcastsInDim S1x8192x512 (![] : Fin 0 → Fin S1x8192x512.rank)
  bcast_S_S1x512x1024 : S_.BroadcastsInDim S1x512x1024 (![] : Fin 0 → Fin S1x512x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)
  bcast_S_S1024 : S_.BroadcastsInDim S1024 (![] : Fin 0 → Fin S1024.rank)

variable [Facts]

def fn_part1 {F : FTy → Type} [FloatOps F] (main_arg7 : FVec F S1x1024 .f32) (main_arg8 : FVec F S1x1024x4096 .f32) (main_arg9 : FVec F S1x4096x1024 .f32) (main_arg10 : FVec F S1024 .f32) (main_arg11 : FVec F S1x8192x1024 .f32) (main_v2 : IVec S1x8192x1024 1) (main_v5 : IVec S1x8192x512 1) (main_v8 : IVec S1x8192x512 1) (main_v11 : IVec S1x512x1024 1) (main_v14 : IVec S1x512x1024 1) (main_v17 : IVec S1x1024x1024 1) : IVec S1x8192x1024 1 × IVec S1x8192x512 1 × IVec S1x8192x512 1 × IVec S1x512x1024 1 × IVec S1x512x1024 1 × IVec S1x1024x1024 1 × IVec S1x1024 1 × IVec S1x1024x4096 1 × IVec S1x4096x1024 1 × IVec S1024 1 × IVec S1x8192x1024 1 :=
  let main_v18 : FVec F S1x1024 .f32 := Host.absf main_arg7
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024x4096 .f32 := Host.absf main_arg8
  let main_cst_6 : FVec F S_ .f32 := constant S_ .f32 0x7F800000#32
  let main_v22 : FVec F S1x1024x4096 .f32 := broadcastInDim S1x1024x4096 ![] bcast_S_S1x1024x4096 main_cst_6
  let main_v23 : IVec S1x1024x4096 1 := cmpf .olt main_v21 main_v22
  let main_v24 : FVec F S1x4096x1024 .f32 := Host.absf main_arg9
  let main_cst_7 : FVec F S_ .f32 := constant S_ .f32 0x7F800000#32
  let main_v25 : FVec F S1x4096x1024 .f32 := broadcastInDim S1x4096x1024 ![] bcast_S_S1x4096x1024 main_cst_7
  let main_v26 : IVec S1x4096x1024 1 := cmpf .olt main_v24 main_v25
  let main_v27 : FVec F S1024 .f32 := Host.absf main_arg10
  let main_cst_8 : FVec F S_ .f32 := constant S_ .f32 0x7F800000#32
  let main_v28 : FVec F S1024 .f32 := broadcastInDim S1024 ![] bcast_S_S1024 main_cst_8
  let main_v29 : IVec S1024 1 := cmpf .olt main_v27 main_v28
  let main_v30 : FVec F S1x8192x1024 .f32 := Host.absf main_arg11
  let main_cst_9 : FVec F S_ .f32 := constant S_ .f32 0x7F800000#32
  let main_v31 : FVec F S1x8192x1024 .f32 := broadcastInDim S1x8192x1024 ![] bcast_S_S1x8192x1024 main_cst_9
  let main_v32 : IVec S1x8192x1024 1 := cmpf .olt main_v30 main_v31
  (main_v2, main_v5, main_v8, main_v11, main_v14, main_v17, main_v20, main_v23, main_v26, main_v29, main_v32)

def fn {F : FTy → Type} [FloatOps F] (main_arg0 : FVec F S1x8192x1024 .f32) (main_arg1 : FVec F S1x8192x512 .f32) (main_arg2 : FVec F S1x8192x512 .f32) (main_arg3 : FVec F S1x8192x2048 .f32) (main_arg4 : FVec F S1x512x1024 .f32) (main_arg5 : FVec F S1x512x1024 .f32) (main_arg6 : FVec F S1x1024x1024 .f32) (main_arg7 : FVec F S1x1024 .f32) (main_arg8 : FVec F S1x1024x4096 .f32) (main_arg9 : FVec F S1x4096x1024 .f32) (main_arg10 : FVec F S1024 .f32) (main_arg11 : FVec F S1x8192x1024 .f32) : IVec S1x8192x1024 1 × IVec S1x8192x512 1 × IVec S1x8192x512 1 × IVec S1x512x1024 1 × IVec S1x512x1024 1 × IVec S1x1024x1024 1 × IVec S1x1024 1 × IVec S1x1024x4096 1 × IVec S1x4096x1024 1 × IVec S1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x512 .f32 := Host.absf main_arg1
  let main_cst_0 : FVec F S_ .f32 := constant S_ .f32 0x7F800000#32
  let main_v4 : FVec F S1x8192x512 .f32 := broadcastInDim S1x8192x512 ![] bcast_S_S1x8192x512 main_cst_0
  let main_v5 : IVec S1x8192x512 1 := cmpf .olt main_v3 main_v4
  let main_v6 : FVec F S1x8192x512 .f32 := Host.absf main_arg2
  let main_cst_1 : FVec F S_ .f32 := constant S_ .f32 0x7F800000#32
  let main_v7 : FVec F S1x8192x512 .f32 := broadcastInDim S1x8192x512 ![] bcast_S_S1x8192x512 main_cst_1
  let main_v8 : IVec S1x8192x512 1 := cmpf .olt main_v6 main_v7
  let main_v9 : FVec F S1x512x1024 .f32 := Host.absf main_arg4
  let main_cst_2 : FVec F S_ .f32 := constant S_ .f32 0x7F800000#32
  let main_v10 : FVec F S1x512x1024 .f32 := broadcastInDim S1x512x1024 ![] bcast_S_S1x512x1024 main_cst_2
  let main_v11 : IVec S1x512x1024 1 := cmpf .olt main_v9 main_v10
  let main_v12 : FVec F S1x512x1024 .f32 := Host.absf main_arg5
  let main_cst_3 : FVec F S_ .f32 := constant S_ .f32 0x7F800000#32
  let main_v13 : FVec F S1x512x1024 .f32 := broadcastInDim S1x512x1024 ![] bcast_S_S1x512x1024 main_cst_3
  let main_v14 : IVec S1x512x1024 1 := cmpf .olt main_v12 main_v13
  let main_v15 : FVec F S1x1024x1024 .f32 := Host.absf main_arg6
  let main_cst_4 : FVec F S_ .f32 := constant S_ .f32 0x7F800000#32
  let main_v16 : FVec F S1x1024x1024 .f32 := broadcastInDim S1x1024x1024 ![] bcast_S_S1x1024x1024 main_cst_4
  let main_v17 : IVec S1x1024x1024 1 := cmpf .olt main_v15 main_v16
  fn_part1 (F := F) main_arg7 main_arg8 main_arg9 main_arg10 main_arg11 main_v2 main_v5 main_v8 main_v11 main_v14 main_v17
-- ==== Pre_finite_inputs3.lean ====
abbrev S1x8192x1280 : Shape := ⟨3, ![1, 8192, 1280]⟩
abbrev S1x4x128x128 : Shape := ⟨4, ![1, 4, 128, 128]⟩
abbrev S1x4x128 : Shape := ⟨3, ![1, 4, 128]⟩
abbrev S1x512 : Shape := ⟨2, ![1, 512]⟩
abbrev S1x8 : Shape := ⟨2, ![1, 8]⟩
abbrev S1x8192x512 : Shape := ⟨3, ![1, 8192, 512]⟩
abbrev S_ : Shape := ⟨0, ![]⟩

class Facts : Prop where
  bcast_S_S1x8192x1280 : S_.BroadcastsInDim S1x8192x1280 (![] : Fin 0 → Fin S1x8192x1280.rank)
  bcast_S_S1x8 : S_.BroadcastsInDim S1x8 (![] : Fin 0 → Fin S1x8.rank)
  bcast_S_S1x8192x512 : S_.BroadcastsInDim S1x8192x512 (![] : Fin 0 → Fin S1x8192x512.rank)

variable [Facts]

def fn {F : FTy → Type} [FloatOps F] (main_arg0 : FVec F S1x8192x1280 .f32) (main_arg1 : FVec F S1x4x128x128 .f32) (main_arg2 : FVec F S1x4x128 .f32) (main_arg3 : FVec F S1x512 .f32) (main_arg4 : FVec F S1x8 .f32) (main_arg5 : FVec F S1x8192x512 .f32) (main_arg6 : FVec F S1x8192x512 .f32) : IVec S1x8192x1280 1 × IVec S1x8 1 × IVec S1x8192x512 1 :=
  let main_v0 : FVec F S1x8192x1280 .f32 := Host.absf main_arg0
  let main_cst : FVec F S_ .f32 := constant S_ .f32 0x7F800000#32
  let main_v1 : FVec F S1x8192x1280 .f32 := broadcastInDim S1x8192x1280 ![] bcast_S_S1x8192x1280 main_cst
  let main_v2 : IVec S1x8192x1280 1 := cmpf .olt main_v0 main_v1
  let main_v3 : FVec F S1x8 .f32 := Host.absf main_arg4
  let main_cst_0 : FVec F S_ .f32 := constant S_ .f32 0x7F800000#32
  let main_v4 : FVec F S1x8 .f32 := broadcastInDim S1x8 ![] bcast_S_S1x8 main_cst_0
  let main_v5 : IVec S1x8 1 := cmpf .olt main_v3 main_v4
  let main_v6 : FVec F S1x8192x512 .f32 := Host.absf main_arg6
  let main_cst_1 : FVec F S_ .f32 := constant S_ .f32 0x7F800000#32
  let main_v7 : FVec F S1x8192x512 .f32 := broadcastInDim S1x8192x512 ![] bcast_S_S1x8192x512 main_cst_1
  let main_v8 : IVec S1x8192x512 1 := cmpf .olt main_v6 main_v7
  (main_v2, main_v5, main_v8)
-- ==== Kernel.lean ====
abbrev S1x8192x1024 : Shape := ⟨3, ![1, 8192, 1024]⟩
abbrev S1x1024 : Shape := ⟨2, ![1, 1024]⟩
abbrev S1x1024x3328 : Shape := ⟨3, ![1, 1024, 3328]⟩
abbrev S1x8192x3328 : Shape := ⟨3, ![1, 8192, 3328]⟩
abbrev S1024x3328 : Shape := ⟨2, ![1024, 3328]⟩
abbrev S3328x1024 : Shape := ⟨2, ![3328, 1024]⟩
abbrev S8192x3328 : Shape := ⟨2, ![8192, 3328]⟩
abbrev S_ : Shape := ⟨0, ![]⟩
abbrev S8x128 : Shape := ⟨2, ![8, 128]⟩
abbrev S8192x512 : Shape := ⟨2, ![8192, 512]⟩
abbrev S8192x256 : Shape := ⟨2, ![8192, 256]⟩
abbrev S8192x2048 : Shape := ⟨2, ![8192, 2048]⟩
abbrev S8192x1024 : Shape := ⟨2, ![8192, 1024]⟩
abbrev S512x512 : Shape := ⟨2, ![512, 512]⟩
abbrev S512x256 : Shape := ⟨2, ![512, 256]⟩
abbrev S512x2048 : Shape := ⟨2, ![512, 2048]⟩
abbrev S512x1024 : Shape := ⟨2, ![512, 1024]⟩
abbrev S256x1024 : Shape := ⟨2, ![256, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 20
  | .vmem => 17
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x3328, .f32⟩
  | .hbm, ⟨3, _⟩ => ⟨S1x8192x3328, .f32⟩
  | .hbm, ⟨4, _⟩ => ⟨S1x8192x1024, .f32⟩
  | .hbm, ⟨5, _⟩ => ⟨S1024x3328, .f32⟩
  | .hbm, ⟨6, _⟩ => ⟨S3328x1024, .f32⟩
  | .hbm, ⟨7, _⟩ => ⟨S3328x1024, .bf16⟩
  | .hbm, ⟨8, _⟩ => ⟨S8192x3328, .f32⟩
  | .hbm, ⟨9, _⟩ => ⟨S8192x3328, .bf16⟩
  | .hbm, ⟨10, _⟩ => ⟨S_, .f32⟩
  | .hbm, ⟨11, _⟩ => ⟨S8x128, .f32⟩
  | .hbm, ⟨12, _⟩ => ⟨S8192x512, .bf16⟩
  | .hbm, ⟨13, _⟩ => ⟨S8192x512, .bf16⟩
  | .hbm, ⟨14, _⟩ => ⟨S8192x256, .bf16⟩
  | .hbm, ⟨15, _⟩ => ⟨S8192x2048, .bf16⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x2048, .bf16⟩
  | .local _ .vmem, ⟨7, _⟩ => ⟨S512x2048, .bf16⟩
  | .local _ .vmem, ⟨8, _⟩ => ⟨S3328x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3328x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x8192x1024 : Shape := ⟨3, ![1, 8192, 1024]⟩
abbrev S1x1024 : Shape := ⟨2, ![1, 1024]⟩
abbrev S1x1024x3328 : Shape := ⟨3, ![1, 1024, 3328]⟩
abbrev S1x8192x3328 : Shape := ⟨3, ![1, 8192, 3328]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3328 : Shape := ⟨2, ![1024, 3328]⟩
abbrev S8192 : Shape := ⟨1, ![8192]⟩
abbrev S8192x1024 : Shape := ⟨2, ![8192, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x3328, .f32⟩
  | .hbm, ⟨3, _⟩ => ⟨S1x8192x3328, .f32⟩
  | .hbm, ⟨4, _⟩ => ⟨S1x8192x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1024x3328, .f32⟩
  | .hbm, ⟨27, _⟩ => ⟨S1x8192x3328, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x1024, .f32⟩
  | .hbm, ⟨57, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel2.lean ====
abbrev S1x8192x1024 : Shape := ⟨3, ![1, 8192, 1024]⟩
abbrev S1x8192x512 : Shape := ⟨3, ![1, 8192, 512]⟩
abbrev S1x8192x2048 : Shape := ⟨3, ![1, 8192, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S512x1024 : Shape := ⟨2, ![512, 1024]⟩
abbrev S1024x512 : Shape := ⟨2, ![1024, 512]⟩
abbrev S1024x8x512 : Shape := ⟨3, ![1024, 8, 512]⟩
abbrev S8x1024x512 : Shape := ⟨3, ![8, 1024, 512]⟩
abbrev S8192x1024 : Shape := ⟨2, ![8192, 1024]⟩
abbrev S8192x512 : Shape := ⟨2, ![8192, 512]⟩
abbrev S8192x2048 : Shape := ⟨2, ![8192, 2048]⟩
abbrev S8192x4096 : Shape := ⟨2, ![8192, 4096]⟩
abbrev S8x1024 : Shape := ⟨2, ![8, 1024]⟩
abbrev S256x1024 : Shape := ⟨2, ![256, 1024]⟩
abbrev S256x512 : Shape := ⟨2, ![256, 512]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩
abbrev S1x1024x512 : Shape := ⟨3, ![1, 1024, 512]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 45
  | .vmem => 36
  | .smem => 0
  | _ => 0

abbrev bufTy : (tb : Table) → Fin (tcTables nBuf tb) → BufTy
  | .hbm, ⟨0, _⟩ => ⟨S1x8192x1024, .f32⟩
  | .hbm, ⟨1, _⟩ => ⟨S1x8192x512, .f32⟩
  | .hbm, ⟨2, _⟩ => ⟨S1x8192x512, .f32⟩
  | .hbm, ⟨3, _⟩ => ⟨S1x8192x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4096, .f32⟩
  | .hbm, ⟨9, _⟩ => ⟨S1x4096x1024, .f32⟩
  | .hbm, ⟨10, _⟩ => ⟨S1024, .f32⟩
  | .hbm, ⟨11, _⟩ => ⟨S1x8192x1024, .f32⟩
  | .hbm, ⟨12, _⟩ => ⟨S1024x1024, .f32⟩
  | .hbm, ⟨13, _⟩ => ⟨S1024x1024, .bf16⟩
  | .hbm, ⟨14, _⟩ => ⟨S1024x4096, .f32⟩
  | .hbm, ⟨15, _⟩ => ⟨S1024x4096, .bf16⟩
  | .hbm, ⟨16, _⟩ => ⟨S4096x1024, .f32⟩
  | .hbm, ⟨17, _⟩ => ⟨S4096x1024, .bf16⟩
  | .hbm, ⟨18, _⟩ => ⟨S512x1024, .f32⟩
  | .hbm, ⟨19, _⟩ => ⟨S1024x512, .f32⟩
  | .hbm, ⟨20, _⟩ => ⟨S1024x512, .bf16⟩
  | .hbm, ⟨21, _⟩ => ⟨S512x1024, .f32⟩
  | .hbm, ⟨22, _⟩ => ⟨S1024x512, .f32⟩
  | .hbm, ⟨23, _⟩ => ⟨S1024x512, .bf16⟩
  | .hbm, ⟨24, _⟩ => ⟨S1024x8x512, .bf16⟩
  | .hbm, ⟨25, _⟩ => ⟨S8x1024x512, .bf16⟩
  | .hbm, ⟨26, _⟩ => ⟨S8192x1024, .f32⟩
  | .hbm, ⟨27, _⟩ => ⟨S8192x512, .f32⟩
  | .hbm, ⟨28, _⟩ => ⟨S8192x512, .bf16⟩
  | .hbm, ⟨29, _⟩ => ⟨S8192x512, .f32⟩
  | .hbm, ⟨30, _⟩ => ⟨S8192x512, .bf16⟩
  | .hbm, ⟨31, _⟩ => ⟨S8192x2048, .f32⟩
  | .hbm, ⟨32, _⟩ => ⟨S8192x2048, .bf16⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x4096, .bf16⟩
  | .hbm, ⟨37, _⟩ => ⟨S8192x4096, .bf16⟩
  | .hbm, ⟨38, _⟩ => ⟨S8192x4096, .bf16⟩
  | .hbm, ⟨39, _⟩ => ⟨S8x1024, .f32⟩
  | .hbm, ⟨40, _⟩ => ⟨S8192x1024, .bf16⟩
  | .hbm, ⟨41, _⟩ => ⟨S8192x1024, .bf16⟩
  | .hbm, ⟨42, _⟩ => ⟨S8192x2048, .bf16⟩
  | .hbm, ⟨43, _⟩ => ⟨S8192x512, .bf16⟩
  | .hbm, ⟨44, _⟩ => ⟨S8192x512, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1024x512, .bf16⟩
  | .local _ .vmem, ⟨13, _⟩ => ⟨S1024x512, .bf16⟩
  | .local _ .vmem, ⟨14, _⟩ => ⟨S1024x1024, .bf16⟩
  | .local _ .vmem, ⟨15, _⟩ => ⟨S8x1024x512, .bf16⟩
  | .local _ .vmem, ⟨16, _⟩ => ⟨S4096x1024, .bf16⟩
  | .local _ .vmem, ⟨17, _⟩ => ⟨S256x1024, .f32⟩
  | .local _ .vmem, ⟨18, _⟩ => ⟨S256x1024, .f32⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S256x4096, .bf16⟩
  | .local _ .vmem, ⟨23, _⟩ => ⟨S256x4096, .bf16⟩
  | .local _ .vmem, ⟨24, _⟩ => ⟨S256x4096, .bf16⟩
  | .local _ .vmem, ⟨25, _⟩ => ⟨S8x1024, .f32⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x2048, .bf16⟩
  | .local _ .vmem, ⟨31, _⟩ => ⟨S256x2048, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev main_v23_4 : Ref sig .tc := ⟨.hbm, 39, rfl⟩
abbrev main_v23_5 : Ref sig .tc := ⟨.hbm, 40, rfl⟩
abbrev main_v23_6 : Ref sig .tc := ⟨.hbm, 41, rfl⟩
abbrev main_v23_7 : Ref sig .tc := ⟨.hbm, 42, rfl⟩
abbrev main_v23_8 : Ref sig .tc := ⟨.hbm, 43, rfl⟩
abbrev main_v23_9 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S1x8192x1024 : Shape := ⟨3, ![1, 8192, 1024]⟩
abbrev S1x8192x512 : Shape := ⟨3, ![1, 8192, 512]⟩
abbrev S1x8192x2048 : Shape := ⟨3, ![1, 8192, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S512x1024 : Shape := ⟨2, ![512, 1024]⟩
abbrev S_ : Shape := ⟨0, ![]⟩
abbrev S1024x1024 : Shape := ⟨2, ![1024, 1024]⟩
abbrev S1x8192 : Shape := ⟨2, ![1, 8192]⟩
abbrev S1x8192x1 : Shape := ⟨3, ![1, 8192, 1]⟩
abbrev S1x1x1024 : Shape := ⟨3, ![1, 1, 1024]⟩
abbrev S1024x4096 : Shape := ⟨2, ![1024, 4096]⟩
abbrev S1x8192x4096 : Shape := ⟨3, ![1, 8192, 4096]⟩
abbrev S4096x1024 : Shape := ⟨2, ![4096, 1024]⟩
abbrev S8192 : Shape := ⟨1, ![8192]⟩
abbrev S8192x4096 : Shape := ⟨2, ![8192, 4096]⟩
abbrev S5x1024 : Shape := ⟨2, ![5, 1024]⟩
abbrev S8x1024 : Shape := ⟨2, ![8, 1024]⟩
abbrev S8192x1024 : Shape := ⟨2, ![8192, 1024]⟩
abbrev S8192x2048 : Shape := ⟨2, ![8192, 2048]⟩
abbrev S8192x512 : Shape := ⟨2, ![8192, 512]⟩

abbrev nBuf : Space → Nat
  | .hbm => 225
  | .vmem => 0
  | .smem => 0
  | _ => 0

abbrev hbmTy0_0 (i : Nat) : BufTy := match i % 128 with
  | 0 => ⟨S1x8192x1024, .f32⟩
  | 1 => ⟨S1x8192x512, .f32⟩
  | 2 => ⟨S1x8192x512, .f32⟩
  | 3 => ⟨S1x8192x2048, .f32⟩
  | 4 => ⟨S1x512x1024, .f32⟩
  | 5 => ⟨S1x512x1024, .f32⟩
  | 6 => ⟨S1x1024x1024, .f32⟩
  | 7 => ⟨S1x1024, .f32⟩
  | 8 => ⟨S1x1024x4096, .f32⟩
  | 9 => ⟨S1x4096x1024, .f32⟩
  | 10 => ⟨S1024, .f32⟩
  | 11 => ⟨S1x8192x1024, .f32⟩
  | 12 => ⟨S512x1024, .f32⟩
  | 13 => ⟨S1x8192x1024, .f32⟩
  | 14 => ⟨S512x1024, .f32⟩
  | 15 => ⟨S1x8192x1024, .f32⟩
  | 16 => ⟨S1x8192x1024, .f32⟩
  | 17 => ⟨S1x8192x1024, .f32⟩
  | 18 => ⟨S1x8192x1024, .f32⟩
  | 19 => ⟨S_, .f32⟩
  | 20 => ⟨S1x8192x1024, .f32⟩
  | 21 => ⟨S1x8192x1024, .f32⟩
  | 22 => ⟨S_, .f32⟩
  | 23 => ⟨S1x8192x1024, .f32⟩
  | 24 => ⟨S1x8192x1024, .f32⟩
  | 25 => ⟨S_, .f32⟩
  | 26 => ⟨S1x8192x1024, .f32⟩
  | 27 => ⟨S1x8192x1024, .f32⟩
  | 28 => ⟨S1x8192x1024, .f32⟩
  | 29 => ⟨S1x8192x1024, .f32⟩
  | 30 => ⟨S1x8192x1024, .f32⟩
  | 31 => ⟨S1x8192x1024, .f32⟩
  | 32 => ⟨S_, .f32⟩
  | 33 => ⟨S1x8192x1024, .f32⟩
  | 34 => ⟨S1x8192x1024, .f32⟩
  | 35 => ⟨S_, .f32⟩
  | 36 => ⟨S1x8192x1024, .f32⟩
  | 37 => ⟨S1x8192x1024, .f32⟩
  | 38 => ⟨S_, .f32⟩
  | 39 => ⟨S1x8192x1024, .f32⟩
  | 40 => ⟨S1x8192x1024, .f32⟩
  | 41 => ⟨S1x8192x1024, .f32⟩
  | 42 => ⟨S1x8192x1024, .f32⟩
  | 43 => ⟨S1x8192x1024, .f32⟩
  | 44 => ⟨S1x8192x1024, .f32⟩
  | 45 => ⟨S1024x1024, .f32⟩
  | 46 => ⟨S1x8192x1024, .f32⟩
  | 47 => ⟨S1x8192x1024, .f32⟩
  | 48 => ⟨S1024, .f32⟩
  | 49 => ⟨S1x8192x1024, .f32⟩
  | 50 => ⟨S_, .f32⟩
  | 51 => ⟨S1x8192, .f32⟩
  | 52 => ⟨S1x8192x1, .f32⟩
  | 53 => ⟨S_, .f32⟩
  | 54 => ⟨S1x8192x1, .f32⟩
  | 55 => ⟨S1x8192x1, .f32⟩
  | 56 => ⟨S_, .f32⟩
  | 57 => ⟨S1x8192x1, .f32⟩
  | 58 => ⟨S1x8192x1, .f32⟩
  | 59 => ⟨S1x8192x1, .f32⟩
  | 60 => ⟨S1x8192x1, .f32⟩
  | 61 => ⟨S_, .f32⟩
  | 62 => ⟨S1x8192x1, .f32⟩
  | 63 => ⟨S1x8192x1, .f32⟩
  | 64 => ⟨S1x8192x1024, .f32⟩
  | 65 => ⟨S1x8192x1024, .f32⟩
  | 66 => ⟨S1x1x1024, .f32⟩
  | 67 => ⟨S1x8192x1024, .f32⟩
  | 68 => ⟨S1x8192x1024, .f32⟩
  | 69 => ⟨S1024x4096, .f32⟩
  | 70 => ⟨S1x8192x4096, .f32⟩
  | 71 => ⟨S_, .f32⟩
  | 72 => ⟨S1x8192x4096, .f32⟩
  | 73 => ⟨S1x8192x4096, .f32⟩
  | 74 => ⟨S_, .f32⟩
  | 75 => ⟨S1x8192x4096, .f32⟩
  | 76 => ⟨S1x8192x4096, .i1⟩
  | 77 => ⟨S_, .f32⟩
  | 78 => ⟨S1x8192x4096, .f32⟩
  | 79 => ⟨S1x8192x4096, .f32⟩
  | 80 => ⟨S4096x1024, .f32⟩
  | 81 => ⟨S1x8192x1024, .f32⟩
  | 82 => ⟨S1x8192x1024, .f32⟩
  | 83 => ⟨S1x8192x1024, .f32⟩
  | 84 => ⟨S_, .f32⟩
  | 85 => ⟨S1x8192, .f32⟩
  | 86 => ⟨S1x8192x1, .f32⟩
  | 87 => ⟨S_, .f32⟩
  | 88 => ⟨S1x8192x1, .f32⟩
  | 89 => ⟨S1x8192x1, .f32⟩
  | 90 => ⟨S_, .f32⟩
  | 91 => ⟨S1x8192x1, .f32⟩
  | 92 => ⟨S1x8192x1, .f32⟩
  | 93 => ⟨S1x8192x1, .f32⟩
  | 94 => ⟨S1x8192x1, .f32⟩
  | 95 => ⟨S_, .f32⟩
  | 96 => ⟨S1x8192x1, .f32⟩
  | 97 => ⟨S1x8192x1, .f32⟩
  | 98 => ⟨S1x8192x1024, .f32⟩
  | 99 => ⟨S1x8192x1024, .f32⟩
  | 100 => ⟨S1x1x1024, .f32⟩
  | 101 => ⟨S1x8192x1024, .f32⟩
  | 102 => ⟨S1x8192x1024, .f32⟩
  | 103 => ⟨S1x8192x1024, .f32⟩
  | 104 => ⟨S1x8192x1024, .f32⟩
  | 105 => ⟨S_, .f32⟩
  | 106 => ⟨S1x8192x1024, .f32⟩
  | 107 => ⟨S1x8192x1024, .f32⟩
  | 108 => ⟨S_, .f32⟩
  | 109 => ⟨S1x8192, .f32⟩
  | 110 => ⟨S_, .f32⟩
  | 111 => ⟨S1x8192, .f32⟩
  | 112 => ⟨S1x8192, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S1x8192, .f32⟩
  | 121 => ⟨S_, .f32⟩
  | 122 => ⟨S1x8192, .f32⟩
  | 123 => ⟨S1x8192, .f32⟩
  | 124 => ⟨S1x8192x1024, .f32⟩
  | 125 => ⟨S1x8192x1024, .f32⟩
  | 126 => ⟨S1x8192x1024, .f32⟩
  | 127 => ⟨S_, .f32⟩
  | _ => ⟨S1x8192x1024, .f32⟩

abbrev hbmTy0_1 (i : Nat) : BufTy := match i % 128 with
  | 0 => ⟨S1x1024, .f32⟩
  | 1 => ⟨S1x1x1024, .f32⟩
  | 2 => ⟨S1x8192x1024, .f32⟩
  | 3 => ⟨S1x8192x1024, .f32⟩
  | 4 => ⟨S_, .f32⟩
  | 5 => ⟨S1024, .f32⟩
  | 6 => ⟨S1x8192x1024, .f32⟩
  | 7 => ⟨S_, .f32⟩
  | 8 => ⟨S1x8192, .f32⟩
  | 9 => ⟨S1x8192x1, .f32⟩
  | 10 => ⟨S1x8192x1024, .f32⟩
  | 11 => ⟨S1x8192x1024, .f32⟩
  | 12 => ⟨S1x8192x1, .f32⟩
  | 13 => ⟨S_, .f32⟩
  | 14 => ⟨S1x8192x1, .f32⟩
  | 15 => ⟨S1x8192x1, .f32⟩
  | 16 => ⟨S_, .f32⟩
  | 17 => ⟨S8192, .f32⟩
  | 18 => ⟨S1x8192, .f32⟩
  | 19 => ⟨S1x8192x1024, .f32⟩
  | 20 => ⟨S1x8192x1024, .f32⟩
  | 21 => ⟨S1x8192x1024, .f32⟩
  | 22 => ⟨S1x8192x1024, .f32⟩
  | 23 => ⟨S1x8192x1024, .f32⟩
  | 24 => ⟨S1x8192x4096, .f32⟩
  | 25 => ⟨S1x8192x4096, .f32⟩
  | 26 => ⟨S1x8192x4096, .f32⟩
  | 27 => ⟨S1x8192x4096, .f32⟩
  | 28 => ⟨S_, .f32⟩
  | 29 => ⟨S1x8192x4096, .f32⟩
  | 30 => ⟨S1x8192x4096, .f32⟩
  | 31 => ⟨S1x8192x1024, .f32⟩
  | 32 => ⟨S1x8192x1024, .f32⟩
  | 33 => ⟨S_, .f32⟩
  | 34 => ⟨S1x1024, .f32⟩
  | 35 => ⟨S1x1x1024, .f32⟩
  | 36 => ⟨S1x8192x1024, .f32⟩
  | 37 => ⟨S1x8192x1024, .f32⟩
  | 38 => ⟨S_, .f32⟩
  | 39 => ⟨S1024, .f32⟩
  | 40 => ⟨S1x8192x1024, .f32⟩
  | 41 => ⟨S_, .f32⟩
  | 42 => ⟨S1x8192, .f32⟩
  | 43 => ⟨S1x8192x1, .f32⟩
  | 44 => ⟨S1x8192x1024, .f32⟩
  | 45 => ⟨S1x8192x1024, .f32⟩
  | 46 => ⟨S1x8192x1, .f32⟩
  | 47 => ⟨S_, .f32⟩
  | 48 => ⟨S1x8192x1, .f32⟩
  | 49 => ⟨S1x8192x1, .f32⟩
  | 50 => ⟨S_, .f32⟩
  | 51 => ⟨S8192, .f32⟩
  | 52 => ⟨S1x8192, .f32⟩
  | 53 => ⟨S1x8192x1024, .f32⟩
  | 54 => ⟨S1x8192x1024, .f32⟩
  | 55 => ⟨S1x8192x1024, .f32⟩
  | 56 => ⟨S1x8192x1024, .f32⟩
  | 57 => ⟨S1x8192x1024, .f32⟩
  | 58 => ⟨S1x8192x1024, .f32⟩
  | 59 => ⟨S1x8192x1024, .f32⟩
  | 60 => ⟨S1x8192x1024, .f32⟩
  | 61 => ⟨S1x8192x1024, .f32⟩
  | 62 => ⟨S1x8192x1024, .f32⟩
  | 63 => ⟨S1x8192x1024, .f32⟩
  | 64 => ⟨S1x8192x1024, .f32⟩
  | 65 => ⟨S_, .f32⟩
  | 66 => ⟨S1x8192x2048, .f32⟩
  | 67 => ⟨S1x8192x1024, .f32⟩
  | 68 => ⟨S_, .f32⟩
  | 69 => ⟨S1x8192x2048, .f32⟩
  | 70 => ⟨S1x8192x2048, .f32⟩
  | 71 => ⟨S1x8192x512, .f32⟩
  | 72 => ⟨S1x8192x512, .f32⟩
  | 73 => ⟨S1x8192x4096, .f32⟩
  | 74 => ⟨S8192x4096, .f32⟩
  | 75 => ⟨S8192x4096, .bf16⟩
  | 76 => ⟨S1x1024, .f32⟩
  | 77 => ⟨S1x1024, .f32⟩
  | 78 => ⟨S1x1024, .f32⟩
  | 79 => ⟨S_, .f32⟩
  | 80 => ⟨S5x1024, .f32⟩
  | 81 => ⟨S8x1024, .f32⟩
  | 82 => ⟨S8192x1024, .f32⟩
  | 83 => ⟨S8192x4096, .f32⟩
  | 84 => ⟨S8192x4096, .bf16⟩
  | 85 => ⟨S8192x4096, .f32⟩
  | 86 => ⟨S8192x4096, .bf16⟩
  | 87 => ⟨S8192x1024, .f32⟩
  | 88 => ⟨S8192x1024, .bf16⟩
  | 89 => ⟨S8192x1024, .f32⟩
  | 90 => ⟨S8192x1024, .bf16⟩
  | 91 => ⟨S8192x2048, .f32⟩
  | 92 => ⟨S8192x2048, .bf16⟩
  | 93 => ⟨S8192x512, .f32⟩
  | 94 => ⟨S8192x512, .bf16⟩
  | 95 => ⟨S8192x512, .f32⟩
  | 96 => ⟨S8192x512, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_cst_17 : Ref sig .tc := ⟨.hbm, 110, rfl⟩
abbrev main_v78 : Ref sig .tc := ⟨.hbm, 111, rfl⟩
abbrev main_v79 : Ref sig .tc := ⟨.hbm, 112, rfl⟩
abbrev main_cst_18 : Ref sig .tc := ⟨.hbm, 113, rfl⟩
abbrev main_v80 : Ref sig .tc := ⟨.hbm, 114, rfl⟩
abbrev main_cst_19 : Ref sig .tc := ⟨.hbm, 115, rfl⟩
abbrev main_v81 : Ref sig .tc := ⟨.hbm, 116, rfl⟩
abbrev main_cst_20 : Ref sig .tc := ⟨.hbm, 117, rfl⟩
abbrev main_cst_21 : Ref sig .tc := ⟨.hbm, 118, rfl⟩
abbrev main_v82 : Ref sig .tc := ⟨.hbm, 119, rfl⟩
abbrev main_v83 : Ref sig .tc := ⟨.hbm, 120, rfl⟩
abbrev main_cst_22 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_23 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_24 : Ref sig .tc := ⟨.hbm, 132, rfl⟩
abbrev main_v93 : Ref sig .tc := ⟨.hbm, 133, rfl⟩
abbrev main_v94 : Ref sig .tc := ⟨.hbm, 134, rfl⟩
abbrev main_cst_25 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_26 : Ref sig .tc := ⟨.hbm, 141, rfl⟩
abbrev main_v100 : Ref sig .tc := ⟨.hbm, 142, rfl⟩
abbrev main_v101 : Ref sig .tc := ⟨.hbm, 143, rfl⟩
abbrev main_cst_27 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_28 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_29 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_30 : Ref sig .tc := ⟨.hbm, 166, rfl⟩
abbrev main_v121 : Ref sig .tc := ⟨.hbm, 167, rfl⟩
abbrev main_v122 : Ref sig .tc := ⟨.hbm, 168, rfl⟩
abbrev main_cst_31 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_32 : Ref sig .tc := ⟨.hbm, 175, rfl⟩
abbrev main_v128 : Ref sig .tc := ⟨.hbm, 176, rfl⟩
abbrev main_v129 : Ref sig .tc := ⟨.hbm, 177, rfl⟩
abbrev main_cst_33 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_34 : Ref sig .tc := ⟨.hbm, 193, rfl⟩
abbrev main_v144 : Ref sig .tc := ⟨.hbm, 194, rfl⟩
abbrev main_v145 : Ref sig .tc := ⟨.hbm, 195, rfl⟩
abbrev main_cst_35 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_36 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩

abbrev nD : Nat := 1
abbrev τ : Topo := Topo.v7x

variable {F : FTy → Type} [FloatOps F]
-- ==== Kernel3.lean ====
abbrev S1x8192x1280 : Shape := ⟨3, ![1, 8192, 1280]⟩
abbrev S1x4x128x128 : Shape := ⟨4, ![1, 4, 128, 128]⟩
abbrev S1x4x128 : Shape := ⟨3, ![1, 4, 128]⟩
abbrev S1x512 : Shape := ⟨2, ![1, 512]⟩
abbrev S1x8 : Shape := ⟨2, ![1, 8]⟩
abbrev S1x8192x512 : Shape := ⟨3, ![1, 8192, 512]⟩
abbrev S8 : Shape := ⟨1, ![8]⟩
abbrev S4x128x128 : Shape := ⟨3, ![4, 128, 128]⟩
abbrev S4x128 : Shape := ⟨2, ![4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S8x1x1 : Shape := ⟨3, ![8, 1, 1]⟩
abbrev S1x128x128 : Shape := ⟨3, ![1, 128, 128]⟩
abbrev S8x128x128 : Shape := ⟨3, ![8, 128, 128]⟩
abbrev S2x4x128x128 : Shape := ⟨4, ![2, 4, 128, 128]⟩
abbrev S2x128x4x128 : Shape := ⟨4, ![2, 128, 4, 128]⟩
abbrev S2x128x512 : Shape := ⟨3, ![2, 128, 512]⟩
abbrev S2x4 : Shape := ⟨2, ![2, 4]⟩
abbrev S2x4x128 : Shape := ⟨3, ![2, 4, 128]⟩
abbrev S2x512 : Shape := ⟨2, ![2, 512]⟩
abbrev S2x1x512 : Shape := ⟨3, ![2, 1, 512]⟩
abbrev S8192x1280 : Shape := ⟨2, ![8192, 1280]⟩
abbrev S8x128 : Shape := ⟨2, ![8, 128]⟩
abbrev S8192x512 : Shape := ⟨2, ![8192, 512]⟩
abbrev S8192x256 : Shape := ⟨2, ![8192, 256]⟩
abbrev S528x128 : Shape := ⟨2, ![528, 128]⟩
abbrev S512x512 : Shape := ⟨2, ![512, 512]⟩
abbrev S16x512 : Shape := ⟨2, ![16, 512]⟩
abbrev S512x256 : Shape := ⟨2, ![512, 256]⟩
abbrev S128x256 : Shape := ⟨2, ![128, 256]⟩
abbrev S2x640x128 : Shape := ⟨3, ![2, 640, 128]⟩
abbrev S8320x256 : Shape := ⟨2, ![8320, 256]⟩
abbrev S528x512 : Shape := ⟨2, ![528, 512]⟩
abbrev S512x128 : Shape := ⟨2, ![512, 128]⟩
abbrev S16x128 : Shape := ⟨2, ![16, 128]⟩
abbrev S496x128 : Shape := ⟨2, ![496, 128]⟩
abbrev S1x512x128 : Shape := ⟨3, ![1, 512, 128]⟩
abbrev S128x512 : Shape := ⟨2, ![128, 512]⟩
abbrev S1x256x128 : Shape := ⟨3, ![1, 256, 128]⟩
abbrev S256x128 : Shape := ⟨2, ![256, 128]⟩
abbrev S1x128x512 : Shape := ⟨3, ![1, 128, 512]⟩
abbrev S1x1x512 : Shape := ⟨3, ![1, 1, 512]⟩
abbrev S256x512 : Shape := ⟨2, ![256, 512]⟩
abbrev S512 : Shape := ⟨1, ![512]⟩
abbrev S256x256 : Shape := ⟨2, ![256, 256]⟩
abbrev S1x1x128 : Shape := ⟨3, ![1, 1, 128]⟩
abbrev S1 : Shape := ⟨1, ![1]⟩
abbrev S1x1 : Shape := ⟨2, ![1, 1]⟩

abbrev nBuf : Space → Nat
  | .hbm => 60
  | .vmem => 32
  | .smem => 0
  | _ => 0

abbrev bufTy : (tb : Table) → Fin (tcTables nBuf tb) → BufTy
  | .hbm, ⟨0, _⟩ => ⟨S1x8192x1280, .f32⟩
  | .hbm, ⟨1, _⟩ => ⟨S1x4x128x128, .f32⟩
  | .hbm, ⟨2, _⟩ => ⟨S1x4x128, .f32⟩
  | .hbm, ⟨3, _⟩ => ⟨S1x512, .f32⟩
  | .hbm, ⟨4, _⟩ => ⟨S1x8, .f32⟩
  | .hbm, ⟨5, _⟩ => ⟨S1x8192x512, .f32⟩
  | .hbm, ⟨6, _⟩ => ⟨S1x8192x512, .f32⟩
  | .hbm, ⟨7, _⟩ => ⟨S8, .f32⟩
  | .hbm, ⟨8, _⟩ => ⟨S4x128x128, .f32⟩
  | .hbm, ⟨9, _⟩ => ⟨S4x128x128, .bf16⟩
  | .hbm, ⟨10, _⟩ => ⟨S4x128, .f32⟩
  | .hbm, ⟨11, _⟩ => ⟨S1x512, .f32⟩
  | .hbm, ⟨12, _⟩ => ⟨S8, .f32⟩
  | .hbm, ⟨13, _⟩ => ⟨S128, .i32⟩
  | .hbm, ⟨14, _⟩ => ⟨S128x1, .i32⟩
  | .hbm, ⟨15, _⟩ => ⟨S128, .i32⟩
  | .hbm, ⟨16, _⟩ => ⟨S1x128, .i32⟩
  | .hbm, ⟨17, _⟩ => ⟨S128x128, .i32⟩
  | .hbm, ⟨18, _⟩ => ⟨S128x128, .i32⟩
  | .hbm, ⟨19, _⟩ => ⟨S128x128, .i1⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S_, .i32⟩
  | .hbm, ⟨24, _⟩ => ⟨S1x128, .i32⟩
  | .hbm, ⟨25, _⟩ => ⟨S1x128, .i32⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .i32⟩
  | .hbm, ⟨30, _⟩ => ⟨S128x128, .f32⟩
  | .hbm, ⟨31, _⟩ => ⟨S8x1x1, .f32⟩
  | .hbm, ⟨32, _⟩ => ⟨S8x1x1, .f32⟩
  | .hbm, ⟨33, _⟩ => ⟨S1x128x128, .f32⟩
  | .hbm, ⟨34, _⟩ => ⟨S8x128x128, .f32⟩
  | .hbm, ⟨35, _⟩ => ⟨S8x128x128, .f32⟩
  | .hbm, ⟨36, _⟩ => ⟨S8x128x128, .f32⟩
  | .hbm, ⟨37, _⟩ => ⟨S2x4x128x128, .f32⟩
  | .hbm, ⟨38, _⟩ => ⟨S2x128x4x128, .f32⟩
  | .hbm, ⟨39, _⟩ => ⟨S2x128x512, .f32⟩
  | .hbm, ⟨40, _⟩ => ⟨S2x4, .f32⟩
  | .hbm, ⟨41, _⟩ => ⟨S2x4x128, .f32⟩
  | .hbm, ⟨42, _⟩ => ⟨S2x512, .f32⟩
  | .hbm, ⟨43, _⟩ => ⟨S2x1x512, .f32⟩
  | .hbm, ⟨44, _⟩ => ⟨S8192x1280, .f32⟩
  | .hbm, ⟨45, _⟩ => ⟨S8192x1280, .bf16⟩
  | .hbm, ⟨46, _⟩ => ⟨S_, .f32⟩
  | .hbm, ⟨47, _⟩ => ⟨S8x128, .f32⟩
  | .hbm, ⟨48, _⟩ => ⟨S8192x512, .bf16⟩
  | .hbm, ⟨49, _⟩ => ⟨S8192x512, .bf16⟩
  | .hbm, ⟨50, _⟩ => ⟨S8192x256, .bf16⟩
  | .hbm, ⟨51, _⟩ => ⟨S8192x512, .f32⟩
  | .hbm, ⟨52, _⟩ => ⟨S8192x512, .bf16⟩
  | .hbm, ⟨53, _⟩ => ⟨S8192x512, .f32⟩
  | .hbm, ⟨54, _⟩ => ⟨S8192x512, .bf16⟩
  | .hbm, ⟨55, _⟩ => ⟨S8192x512, .bf16⟩
  | .hbm, ⟨56, _⟩ => ⟨S8192x512, .bf16⟩
  | .hbm, ⟨57, _⟩ => ⟨S8192x256, .bf16⟩
  | .hbm, ⟨58, _⟩ => ⟨S528x128, .f32⟩
  | .hbm, ⟨59, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S512x512, .bf16⟩
  | .local _ .vmem, ⟨11, _⟩ => ⟨S512x512, .bf16⟩
  | .local _ .vmem, ⟨12, _⟩ => ⟨S16x512, .bf16⟩
  | .local _ .vmem, ⟨13, _⟩ => ⟨S16x512, .bf16⟩
  | .local _ .vmem, ⟨14, _⟩ => ⟨S512x512, .bf16⟩
  | .local _ .vmem, ⟨15, _⟩ => ⟨S512x512, .bf16⟩
  | .local _ .vmem, ⟨16, _⟩ => ⟨S4x128x128, .bf16⟩
  | .local _ .vmem, ⟨17, _⟩ => ⟨S1x512, .f32⟩
  | .local _ .vmem, ⟨18, _⟩ => ⟨S1x512, .f32⟩
  | .local _ .vmem, ⟨19, _⟩ => ⟨S2x128x512, .f32⟩
  | .local _ .vmem, ⟨20, _⟩ => ⟨S2x1x512, .f32⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S8192x256, .bf16⟩
  | .local _ .vmem, ⟨26, _⟩ => ⟨S528x128, .f32⟩
  | .local _ .vmem, ⟨27, _⟩ => ⟨S1x512, .f32⟩
  | .local _ .vmem, ⟨28, _⟩ => ⟨S2x640x128, .bf16⟩
  | .local _ .vmem, ⟨29, _⟩ => ⟨S2x640x128, .bf16⟩
  | .local _ .vmem, ⟨30, _⟩ => ⟨S2x1x512, .f32⟩
  | .local _ .vmem, ⟨31, _⟩ => ⟨S8320x256, .f32⟩
  | _, _ => ⟨S1x8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_0 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45_0 : Ref sig .tc := ⟨.hbm, 55, rfl⟩
abbrev main_v45_1 : Ref sig .tc := ⟨.hbm, 56, rfl⟩
abbrev main_v45_2 : Ref sig .tc := ⟨.hbm, 57, rfl⟩
abbrev main_v45_3 : Ref sig .tc := ⟨.hbm, 58, rfl⟩
abbrev main_v45_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c512_i32_298 : BitVec 32 := 512#32
  let v694 : BitVec 32 := Scalar.muli arg0 c512_i32_298
  let c0_i32_299 : BitVec 32 := 0#32
  let v695 : BitVec 32 := Scalar.addi v694 c0_i32_299
  v695
def k0_off1 (i : grid0.Coords) (c0_i32_299 : BitVec 32) : Fin 2 → Nat :=
  let arg0 : BitVec 32 := BitVec.ofNat 32 (i 0).val
  let c512_i32_298 : BitVec 32 := 512#32
  let v694 : BitVec 32 := Scalar.muli arg0 c512_i32_298
  let v695 : BitVec 32 := Scalar.addi v694 c0_i32_299
  let v696 : BitVec 32 := v695
  let v697 : Index := Scalar.indexCast v696
  let c0_300 : Index := 0#32
  ![v697.toNat, 0]
def k0_mult2 (i : grid0.Coords) : BitVec 32 :=
  let arg0 : BitVec 32 := BitVec.ofNat 32 (i 0).val
  let c512_i32_403 : BitVec 32 := 512#32
  let v944 : BitVec 32 := Scalar.muli arg0 c512_i32_403
  let c128_i32 : BitVec 32 := 128#32
  let v945 : BitVec 32 := Scalar.addi v944 c128_i32
  v945
def k0_mult3 (i : grid0.Coords) : BitVec 32 :=
  let arg0 : BitVec 32 := BitVec.ofNat 32 (i 0).val
  let c512_i32_507 : BitVec 32 := 512#32
  let v1194 : BitVec 32 := Scalar.muli arg0 c512_i32_507
  let c256_i32 : BitVec 32 := 256#32
  let v1195 : BitVec 32 := Scalar.addi v1194 c256_i32
  v1195
def k0_mult4 (i : grid0.Coords) : BitVec 32 :=
  let arg0 : BitVec 32 := BitVec.ofNat 32 (i 0).val
  let c512_i32_611 : BitVec 32 := 512#32
  let v1444 : BitVec 32 := Scalar.muli arg0 c512_i32_611
  let c384_i32 : BitVec 32 := 384#32
  let v1445 : BitVec 32 := Scalar.addi v1444 c384_i32
  v1445
def k0_cond2 (i : grid0.Coords) : BitVec 1 :=
  let arg0 : BitVec 32 := BitVec.ofNat 32 (i 0).val
  let c15_i32_614 : BitVec 32 := 15#32
  let v1454 : BitVec 1 := Scalar.cmpi .eq arg0 c15_i32_614
  let v1455 : BitVec 32 := Scalar.extui v1454
  let c0_i32_615 : BitVec 32 := 0#32
  let v1456 : BitVec 1 := Scalar.cmpi .ne v1455 c0_i32_615
  v1456

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8192x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S528x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Kernel3Ideal.lean ====
variable {F : FTy → Type} [FloatOps F] [Named F]
def κ : String → Option EReal := fun
  | "mask" => some ⊥
  | _ => none
-- ==== Reference3Ideal.lean ====
abbrev S1x8192x1280 : Shape := ⟨3, ![1, 8192, 1280]⟩
abbrev S1x4x128x128 : Shape := ⟨4, ![1, 4, 128, 128]⟩
abbrev S1x4x128 : Shape := ⟨3, ![1, 4, 128]⟩
abbrev S1x512 : Shape := ⟨2, ![1, 512]⟩
abbrev S1x8 : Shape := ⟨2, ![1, 8]⟩
abbrev S1x8192x512 : Shape := ⟨3, ![1, 8192, 512]⟩
abbrev S1x8192x128 : Shape := ⟨3, ![1, 8192, 128]⟩
abbrev S8 : Shape := ⟨1, ![8]⟩
abbrev S1x64x128x2x4x64 : Shape := ⟨6, ![1, 64, 128, 2, 4, 64]⟩
abbrev S1x64x128x2x64 : Shape := ⟨5, ![1, 64, 128, 2, 64]⟩
abbrev S_ : Shape := ⟨0, ![]⟩
abbrev S1x65x128x2x64 : Shape := ⟨5, ![1, 65, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S2x4 : Shape := ⟨2, ![2, 4]⟩
abbrev S1x1x2x4x1x1 : Shape := ⟨6, ![1, 1, 2, 4, 1, 1]⟩
abbrev S1x1x1x1x128x256 : Shape := ⟨6, ![1, 1, 1, 1, 128, 256]⟩
abbrev S1x1x2x4x128x256 : Shape := ⟨6, ![1, 1, 2, 4, 128, 256]⟩
abbrev S1x64x1x1x128x256 : Shape := ⟨6, ![1, 64, 1, 1, 128, 256]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S64x2x4x128 : Shape := ⟨4, ![64, 2, 4, 128]⟩
abbrev S1x64x2x128x4x64 : Shape := ⟨6, ![1, 64, 2, 128, 4, 64]⟩
abbrev S8192x512 : Shape := ⟨2, ![8192, 512]⟩

abbrev nBuf : Space → Nat
  | .hbm => 179
  | .vmem => 0
  | .smem => 0
  | _ => 0

abbrev hbmTy0_0 (i : Nat) : BufTy := match i % 128 with
  | 0 => ⟨S1x8192x1280, .f32⟩
  | 1 => ⟨S1x4x128x128, .f32⟩
  | 2 => ⟨S1x4x128, .f32⟩
  | 3 => ⟨S1x512, .f32⟩
  | 4 => ⟨S1x8, .f32⟩
  | 5 => ⟨S1x8192x512, .f32⟩
  | 6 => ⟨S1x8192x512, .f32⟩
  | 7 => ⟨S1x8192x512, .f32⟩
  | 8 => ⟨S1x8192x128, .f32⟩
  | 9 => ⟨S1x8192x128, .f32⟩
  | 10 => ⟨S8, .f32⟩
  | 11 => ⟨S1x64x128x2x4x64, .f32⟩
  | 12 => ⟨S1x64x128x2x64, .f32⟩
  | 13 => ⟨S1x64x128x2x64, .f32⟩
  | 14 => ⟨S_, .i32⟩
  | 15 => ⟨S_, .f32⟩
  | 16 => ⟨S1x65x128x2x64, .f32⟩
  | 17 => ⟨S1x64x128x2x64, .f32⟩
  | 18 => ⟨S1x64x256x2x64, .f32⟩
  | 19 => ⟨S_, .i32⟩
  | 20 => ⟨S_, .f32⟩
  | 21 => ⟨S1x65x128x2x64, .f32⟩
  | 22 => ⟨S1x64x128x2x64, .f32⟩
  | 23 => ⟨S1x64x256x2x64, .f32⟩
  | 24 => ⟨S1x64x2x256x128x4, .f32⟩
  | 25 => ⟨S1x64x2x4x128x256, .f32⟩
  | 26 => ⟨S_, .f32⟩
  | 27 => ⟨S1x64x2x4x128x256, .f32⟩
  | 28 => ⟨S1x64x2x4x128x256, .f32⟩
  | 29 => ⟨S128, .i32⟩
  | 30 => ⟨S128x1, .i32⟩
  | 31 => ⟨S256, .i32⟩
  | 32 => ⟨S1x256, .i32⟩
  | 33 => ⟨S_, .i32⟩
  | 34 => ⟨S128x1, .i32⟩
  | 35 => ⟨S128x1, .i32⟩
  | 36 => ⟨S128x256, .i32⟩
  | 37 => ⟨S128x256, .i32⟩
  | 38 => ⟨S128x256, .i32⟩
  | 39 => ⟨S64, .i32⟩
  | 40 => ⟨S64x1, .i32⟩
  | 41 => ⟨S_, .i32⟩
  | 42 => ⟨S64x1, .i32⟩
  | 43 => ⟨S64x1, .i32⟩
  | 44 => ⟨S_, .i32⟩
  | 45 => ⟨S64x1, .i32⟩
  | 46 => ⟨S64x1, .i32⟩
  | 47 => ⟨S64x256, .i32⟩
  | 48 => ⟨S64x256, .i32⟩
  | 49 => ⟨S64x256, .i32⟩
  | 50 => ⟨S_, .i32⟩
  | 51 => ⟨S128x256, .i32⟩
  | 52 => ⟨S128x256, .i1⟩
  | 53 => ⟨S_, .i32⟩
  | 54 => ⟨S128x256, .i32⟩
  | 55 => ⟨S128x256, .i1⟩
  | 56 => ⟨S128x256, .i1⟩
  | 57 => ⟨S1x128x256, .i1⟩
  | 58 => ⟨S_, .i32⟩
  | 59 => ⟨S64x256, .i32⟩
  | 60 => ⟨S64x256, .i1⟩
  | 61 => ⟨S64x1x256, .i1⟩
  | 62 => ⟨S64x128x256, .i1⟩
  | 63 => ⟨S64x128x256, .i1⟩
  | 64 => ⟨S64x128x256, .i1⟩
  | 65 => ⟨S8, .i32⟩
  | 66 => ⟨S_, .i32⟩
  | 67 => ⟨S8, .i32⟩
  | 68 => ⟨S8, .i32⟩
  | 69 => ⟨S8, .f32⟩
  | 70 => ⟨S_, .f32⟩
  | 71 => ⟨S8, .f32⟩
  | 72 => ⟨S8, .f32⟩
  | 73 => ⟨S2x4, .f32⟩
  | 74 => ⟨S1x1x2x4x1x1, .f32⟩
  | 75 => ⟨S128x256, .f32⟩
  | 76 => ⟨S1x1x1x1x128x256, .f32⟩
  | 77 => ⟨S1x1x2x4x128x256, .f32⟩
  | 78 => ⟨S1x1x2x4x128x256, .f32⟩
  | 79 => ⟨S1x1x2x4x128x256, .f32⟩
  | 80 => ⟨S1x64x2x4x128x256, .f32⟩
  | 81 => ⟨S1x64x2x4x128x256, .f32⟩
  | 82 => ⟨S1x64x1x1x128x256, .i1⟩
  | 83 => ⟨S_, .f32⟩
  | 84 => ⟨S_, .f32⟩
  | 85 => ⟨S1x64x2x4x128x256, .i1⟩
  | 86 => ⟨S1x64x2x4x128x256, .f32⟩
  | 87 => ⟨S1x64x2x4x128x256, .f32⟩
  | 88 => ⟨S_, .f32⟩
  | 89 => ⟨S1x64x2x4x128x256, .f32⟩
  | 90 => ⟨S2x4, .f32⟩
  | 91 => ⟨S1x1x2x4x1x1, .f32⟩
  | 92 => ⟨S_, .f32⟩
  | 93 => ⟨S1x64x2x4x128, .f32⟩
  | 94 => ⟨S1x64x2x4x128x1, .f32⟩
  | 95 => ⟨S1x64x2x4x128x256, .f32⟩
  | 96 => ⟨S1x64x2x4x128x256, .i1⟩
  | 97 => ⟨S1x64x2x4x128x256, .f32⟩
  | 98 => ⟨S_, .f32⟩
  | 99 => ⟨S1x64x2x4x128, .f32⟩
  | 100 => ⟨S1x64x2x4x128x1, .f32⟩
  | 101 => ⟨S1x64x2x4x128x1, .f32⟩
  | 102 => ⟨S1x64x2x4x128x1, .f32⟩
  | 103 => ⟨S1x64x2x4x128x1, .f32⟩
  | 104 => ⟨S1x64x2x4x128x1, .i1⟩
  | 105 => ⟨S1x64x2x4x128x1, .f32⟩
  | 106 => ⟨S1x64x2x4x128x1, .i1⟩
  | 107 => ⟨S_, .f32⟩
  | 108 => ⟨S1x64x2x4x128x1, .f32⟩
  | 109 => ⟨S_, .f32⟩
  | 110 => ⟨S1x64x2x4x128x1, .f32⟩
  | 111 => ⟨S_, .f32⟩
  | 112 => ⟨S1x64x2x4x128x1, .f32⟩
  | 113 => ⟨S1x64x2x4x128x1, .f32⟩
  | 114 => ⟨S1x64x2x4x128x1, .f32⟩
  | 115 => ⟨S1x64x2x4x128x256, .f32⟩
  | 116 => ⟨S1x64x2x4x128x256, .f32⟩
  | 117 => ⟨S1x64x2x4x128x256, .f32⟩
  | 118 => ⟨S_, .f32⟩
  | 119 => ⟨S1x64x2x4x128, .f32⟩
  | 120 => ⟨S1x64x2x4x128x1, .f32⟩
  | 121 => ⟨S1x64x2x4x128x1, .f32⟩
  | 122 => ⟨S1x64x2x4x128x1, .f32⟩
  | 123 => ⟨S1x64x2x4x128x1, .f32⟩
  | 124 => ⟨S1x64x2x4x128x1, .f32⟩
  | 125 => ⟨S1x64x2x4x128x256, .f32⟩
  | 126 => ⟨S1x64x2x4x128x256, .f32⟩
  | 127 => ⟨S1x64x2x4x128x1, .f32⟩
  | _ => ⟨S1x8192x1280, .f32⟩

abbrev hbmTy0_1 (i : Nat) : BufTy := match i % 128 with
  | 0 => ⟨S_, .f32⟩
  | 1 => ⟨S1x64x2x4x128x1, .f32⟩
  | 2 => ⟨S1x64x2x4x128x1, .f32⟩
  | 3 => ⟨S1x64x2x64x4x128, .f32⟩
  | 4 => ⟨S1x64x128x2x4x64, .f32⟩
  | 5 => ⟨S1x8192x512, .f32⟩
  | 6 => ⟨S1x64x128x2x4x64, .f32⟩
  | 7 => ⟨S1x64x2x64x4x128, .f32⟩
  | 8 => ⟨S1x64x2x4x128x256, .f32⟩
  | 9 => ⟨S1x64x2x4x128x256, .f32⟩
  | 10 => ⟨S1x64x2x4x128x256, .f32⟩
  | 11 => ⟨S1x64x2x4x128x256, .f32⟩
  | 12 => ⟨S_, .f32⟩
  | 13 => ⟨S1x64x2x4x128, .f32⟩
  | 14 => ⟨S1x64x2x4x128x1, .f32⟩
  | 15 => ⟨S1x64x2x4x128x1, .f32⟩
  | 16 => ⟨S1x64x2x4x128x256, .f32⟩
  | 17 => ⟨S1x64x2x4x128x256, .f32⟩
  | 18 => ⟨S1x64x2x4x128x1, .f32⟩
  | 19 => ⟨S1x64x2x4x128x1, .f32⟩
  | 20 => ⟨S_, .f32⟩
  | 21 => ⟨S64x2x4x128, .f32⟩
  | 22 => ⟨S1x64x2x4x128, .f32⟩
  | 23 => ⟨S1x64x2x4x128x256, .f32⟩
  | 24 => ⟨S1x64x2x4x128x256, .f32⟩
  | 25 => ⟨S1x64x2x4x128x256, .f32⟩
  | 26 => ⟨S1x64x2x4x128x256, .f32⟩
  | 27 => ⟨S_, .f32⟩
  | 28 => ⟨S1x64x2x4x128, .f32⟩
  | 29 => ⟨S1x64x2x4x128x1, .f32⟩
  | 30 => ⟨S1x64x2x4x128x1, .f32⟩
  | 31 => ⟨S1x64x2x4x128x1, .f32⟩
  | 32 => ⟨S_, .f32⟩
  | 33 => ⟨S64x2x4x128, .f32⟩
  | 34 => ⟨S1x64x2x4x128, .f32⟩
  | 35 => ⟨S1x64x2x4x128, .f32⟩
  | 36 => ⟨S1x64x2x4x128x256, .f32⟩
  | 37 => ⟨S1x64x2x4x128x256, .f32⟩
  | 38 => ⟨S1x64x2x4x128x256, .f32⟩
  | 39 => ⟨S_, .f32⟩
  | 40 => ⟨S1x64x2x4x128x256, .f32⟩
  | 41 => ⟨S1x64x2x4x128x256, .f32⟩
  | 42 => ⟨S_, .f32⟩
  | 43 => ⟨S1x64x2x4x128x256, .f32⟩
  | 44 => ⟨S1x64x2x4x128x256, .f32⟩
  | 45 => ⟨S1x64x2x256x128x4, .f32⟩
  | 46 => ⟨S1x64x2x128x4x64, .f32⟩
  | 47 => ⟨S1x64x128x2x4x64, .f32⟩
  | 48 => ⟨S1x8192x512, .f32⟩
  | 49 => ⟨S8192x512, .f32⟩
  | 50 => ⟨S8192x512, .bf16⟩
  | _ => ⟨S1x8192x1280, .f32⟩

abbrev hbmTy (i : Nat) : BufTy := match i / 128 with
  | 0 => hbmTy0_0 i
  | 1 => hbmTy0_1 i
  | _ => ⟨S1x8192x1280, .f32⟩

abbrev bufTy : (tb : Table) → Fin (tcTables nBuf tb) → BufTy
  | .hbm, ⟨i, _⟩ => hbmTy i
  | _, _ => ⟨S1x8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_call2_v0 : Ref sig .tc := ⟨.hbm, 84, rfl⟩
abbrev main_v63_1 : Ref sig .tc := ⟨.hbm, 85, rfl⟩
abbrev main_call2_v2 : Ref sig .tc := ⟨.hbm, 86, rfl⟩
abbrev main_v63_0 : Ref sig .tc := ⟨.hbm, 87, rfl⟩
abbrev main_call2_cst : Ref sig .tc := ⟨.hbm, 88, rfl⟩
abbrev main_v63_2 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_11 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_12 : Ref sig .tc := ⟨.hbm, 107, rfl⟩
abbrev main_v79 : Ref sig .tc := ⟨.hbm, 108, rfl⟩
abbrev main_cst_13 : Ref sig .tc := ⟨.hbm, 109, rfl⟩
abbrev main_v80 : Ref sig .tc := ⟨.hbm, 110, rfl⟩
abbrev main_cst_14 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_16 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_17 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_18 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_19 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_20 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_call3_cst : Ref sig .tc := ⟨.hbm, 167, rfl⟩
abbrev main_call3_v0 : Ref sig .tc := ⟨.hbm, 168, rfl⟩
abbrev main_v130 : Ref sig .tc := ⟨.hbm, 169, rfl⟩
abbrev main_cst_21 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩

abbrev nD : Nat := 1
abbrev τ : Topo := Topo.v7x

variable {F : FTy → Type} [FloatOps F]
-- ==== Proof.Finite.lean ====
module

public import Idealize.ShloMosaic.Lib.Pipeline.ValueKit
public import Mathlib.Data.EReal.Inv

@[expose] public section

noncomputable section

open Idealize.ShloMosaic

namespace Cert.Math

/-- `a` is a real number. -/
def IsReal (a : EReal) : Prop := ∃ r : ℝ, a = (r : EReal)

theorem IsReal.coe (r : ℝ) : IsReal (r : EReal) := ⟨r, rfl⟩

theorem IsReal.zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.neg {a : EReal} (ha : IsReal a) : IsReal (-a) := by
  obtain ⟨x, rfl⟩ := ha; exact ⟨-x, (EReal.coe_neg x).symm⟩

theorem IsReal.max {a b : EReal} (ha : IsReal a) (hb : IsReal b) : IsReal (max a b) := by
  rcases max_choice a b with h | h <;> rw [h] <;> assumption

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

theorem IsReal.sum {ι : Type*} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- A value whose magnitude compares below the word of infinity is a real number. -/
theorem IsReal.of_abs_lt {a : Ideal .f32} (h : FloatOps.cmpf .olt (FloatOps.absf a) (Scalar.ofBits .f32 0x7F800000#32) = 1#1) : IsReal a := by
  have h' : Ideal.cmp .olt (Max.max (a : EReal) (-(a : EReal))) (Ideal.ofBits .f32 0x7F800000#32) = 1#1 := h
  have hinf : Ideal.ofBits .f32 0x7F800000#32 = ⊤ := by simp [Ideal.ofBits, Ideal.ieee]
  rw [hinf] at h'
  induction a using EReal.rec with
  | bot => simp [Ideal.cmp] at h'
  | top => simp [Ideal.cmp] at h'
  | coe r => exact ⟨r, rfl⟩

end Cert.Math

end
-- ==== Proof.NormBwd.lean ====
/- The gradient of the root-mean-square norm over rows of 1024 entries: the form a kernel writes and the form the
   derivative of the plain norm takes are the same number on finite rows. -/
module

public import proofs.«01_k».proof.Proof.Finite

@[expose] public section

noncomputable section

open Idealize.ShloMosaic

namespace Cert.Math

/-- 1024 as the programs write it. -/
abbrev width : EReal := Ideal.ofBits .f32 1149239296#32
/-- The norm's epsilon as the programs write it. -/
abbrev eps : EReal := Ideal.ofBits .f32 925353388#32
/-- −½ as the programs write it. -/
abbrev negHalf : EReal := Ideal.ofBits .f32 3204448256#32

theorem width_eq : width = ((1024 : ℝ) : EReal) := by
  simp [Ideal.ofBits, Ideal.ieee]; rw [← EReal.coe_mul]; norm_num

theorem negHalf_eq : negHalf = ((-(1/2) : ℝ) : EReal) := by
  simp [Ideal.ofBits, Ideal.ieee]; rw [← EReal.coe_mul]; norm_num

theorem eps_eq : ∃ e : ℝ, 0 < e ∧ eps = (e : EReal) := by
  refine ⟨_, ?_, by simp [Ideal.ofBits, Ideal.ieee]; norm_cast⟩
  norm_num

/-- The mean square of a row plus epsilon. -/
abbrev msEps (x : Fin 1024 → EReal) : EReal := Ideal.div (∑ k, x k * x k) width + eps

/-- The reciprocal root mean square of a row. -/
abbrev rmsInv (x : Fin 1024 → EReal) : EReal := Ideal.rsqrt (msEps x)

/-- The factor of `x` in the derivative of the norm as differentiation writes it, halved. -/
abbrev normCoef (x d : Fin 1024 → EReal) : EReal :=
  Ideal.div ((∑ k, x k * d k) * (negHalf * Ideal.div (rmsInv x) (msEps x))) width

theorem div_width (a : ℝ) : Ideal.div (a : EReal) width = ((a / 1024 : ℝ) : EReal) := by
  rw [width_eq, Ideal.div_coe (by norm_num), ← EReal.coe_mul]; congr 1; ring

/-- On a real row the mean square plus epsilon is a positive real `v` and the reciprocal root its `(√v)⁻¹`. -/
theorem msEps_real (X : Fin 1024 → ℝ) :
    ∃ v : ℝ, 0 < v ∧ msEps (fun k => (X k : EReal)) = (v : EReal) ∧ rmsInv (fun k => (X k : EReal)) = (((√v)⁻¹ : ℝ) : EReal) := by
  obtain ⟨e, he, heq⟩ := eps_eq
  have hv : 0 < (∑ k, X k * X k) / 1024 + e := by
    have : 0 ≤ ∑ k, X k * X k := Finset.sum_nonneg fun k _ => mul_self_nonneg _
    positivity
  have hm : msEps (fun k => (X k : EReal)) = (((∑ k, X k * X k) / 1024 + e : ℝ) : EReal) := by
    unfold msEps
    rw [heq, EReal.coe_add, ← div_width, coe_sum]
    simp only [EReal.coe_mul]
  refine ⟨_, hv, hm, ?_⟩
  unfold rmsInv
  rw [hm, Ideal.rsqrt_coe, if_neg hv.not_gt, if_neg hv.ne']

theorem IsReal.rmsInv {x : Fin 1024 → EReal} (hx : ∀ k, IsReal (x k)) : IsReal (rmsInv x) := by
  choose X hX using hx
  obtain rfl : x = fun k => (X k : EReal) := funext hX
  obtain ⟨v, -, -, h⟩ := msEps_real X
  exact ⟨_, h⟩

/-- The gradient of the norm, as the kernels write it and as differentiation writes it. -/
theorem norm_grad {x d : Fin 1024 → EReal} (hx : ∀ k, IsReal (x k)) (hd : ∀ k, IsReal (d k)) (j : Fin 1024) :
    rmsInv x * (d j - x j * rmsInv x * Ideal.div (∑ k, d k * (x k * rmsInv x)) width)
      = d j * rmsInv x + x j * normCoef x d + normCoef x d * x j := by
  choose X hX using hx
  choose D hD using hd
  obtain rfl : x = fun k => (X k : EReal) := funext hX
  obtain rfl : d = fun k => (D k : EReal) := funext hD
  obtain ⟨v, hv, hm, hr⟩ := msEps_real X
  have hs : √v * √v = v := Real.mul_self_sqrt hv.le
  have hs0 : √v ≠ 0 := (Real.sqrt_pos.mpr hv).ne'
  simp only [normCoef, hm, hr, negHalf_eq, Ideal.div_coe hv.ne', ← EReal.coe_mul, ← coe_sum, div_width, ← EReal.coe_sub, ← EReal.coe_add]
  congr 1
  have h1 : ∑ k, D k * (X k * (√v)⁻¹) = (∑ k, X k * D k) * (√v)⁻¹ := by
    rw [Finset.sum_mul]; exact Finset.sum_congr rfl fun k _ => by ring
  rw [h1]
  generalize ∑ k, X k * D k = S
  have h2 : 1 / v = (√v)⁻¹ * (√v)⁻¹ := by rw [← mul_inv, hs, one_div]
  rw [h2]; ring

end Cert.Math

end
-- ==== Proof.InBwdBlocks.lean ====
/- The blocks of a grid point, read in the argument arrays. -/
module

public import proofs.«01_k».proof.Proof.Gen.KernelIdeal.Value
public import proofs.«01_k».proof.Proof.NormBwd
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Math

variable (m : (ℓ : Loc nD τ sig) → Buf (Elt Ideal) ℓ)

/-- Where the blocks of the grid's points lie. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0]
    ∧ win0_8.index t = ![t.val, 0] ∧ win0_9.index t = ![0, 0] :=
  (by decide +kernel : ∀ t : Fin grid0.N, _)

/-- A sum over the 3328 columns, in the four pieces the kernel multiplies apart. -/
theorem sum_columns (f : Fin 3328 → EReal) : ∑ j, f j
    = (∑ k : Fin 512, f ⟨k.val, by omega⟩) + (∑ k : Fin 512, f ⟨512 + k.val, by omega⟩) + (∑ k : Fin 256, f ⟨1024 + k.val, by omega⟩)
      + ∑ k : Fin 2048, f ⟨1280 + k.val, by omega⟩ := by
  have h1 := Fin.sum_univ_add (a := 1280) (b := 2048) f
  have h2 := Fin.sum_univ_add (a := 1024) (b := 256) fun k : Fin 1280 => f ⟨k.val, by omega⟩
  have h3 := Fin.sum_univ_add (a := 512) (b := 512) fun k : Fin 1024 => f ⟨k.val, by omega⟩
  exact h1.trans (congrArg (· + _) (h2.trans (congrArg (· + _) h3)))

variable (c : Dev nD)

/-- The stream, the gains, the projection and the two cotangents. -/
abbrev X : FVec Ideal S1x8192x1024 .f32 := m ((c : Thread nD τ).loc main_arg0)
abbrev G : FVec Ideal S1x1024 .f32 := m ((c : Thread nD τ).loc main_arg1)
abbrev W : FVec Ideal S1x1024x3328 .f32 := m ((c : Thread nD τ).loc main_arg2)
abbrev DZ : FVec Ideal S1x8192x3328 .f32 := m ((c : Thread nD τ).loc main_arg3)
abbrev DH : FVec Ideal S1x8192x1024 .f32 := m ((c : Thread nD τ).loc main_arg4)

/-- The gradient of the normed row at row `i`, column `k`. -/
abbrev du (i : Fin 8192) (k : Fin 1024) : EReal := ∑ j : Fin 3328, DZ m c (ix3 0 i j) * W m c (ix3 0 k j)

/-- The block of the normed rows' gradient at a point: the sum of its four products. -/
abbrev dblk (t : Fin cfg0.N) : FVec Ideal S512x1024 .f32 :=
  k0_pay6 (F := Ideal) (iblk m c 0 t) (View.ld (iblk m c 4 t) (Rect.unit ![0, 0] S512x1024.size inb_S3328x1024_S512x1024_0_0)) (iblk m c 1 t)
    (View.ld (iblk m c 4 t) (Rect.unit ![512, 0] S512x1024.size inb_S3328x1024_S512x1024_512_0)) (iblk m c 2 t)
    (View.ld (iblk m c 4 t) (Rect.unit ![1024, 0] S256x1024.size inb_S3328x1024_S256x1024_1024_0)) (iblk m c 3 t)
    (View.ld (iblk m c 4 t) (Rect.unit ![1280, 0] S2048x1024.size inb_S3328x1024_S2048x1024_1280_0))

theorem dblk_eq (t : Fin cfg0.N) (a : Fin 512) (b : Fin 1024) (h : t.val * 512 + a.val < 8192) :
    dblk m c t (ix2 a b) = du m c ⟨t.val * 512 + a.val, h⟩ b := by
  unfold dblk du
  rw [sum_columns]
  pointwise [k0_pay6]
  blk_point [iblk, V, idx t]

theorem xblk_eq (t : Fin cfg0.N) (a : Fin 512) (b : Fin 1024) (h : t.val * 512 + a.val < 8192) :
    iblk m c 5 t (ix2 a b) = X m c (ix3 0 ⟨t.val * 512 + a.val, h⟩ b) := by
  blk_point [iblk, V, idx t]

theorem hblk_eq (t : Fin cfg0.N) (a : Fin 512) (b : Fin 1024) (h : t.val * 512 + a.val < 8192) :
    iblk m c 6 t (ix2 a b) = DH m c (ix3 0 ⟨t.val * 512 + a.val, h⟩ b) := by
  blk_point [iblk, V, idx t]

theorem gblk_eq (t : Fin cfg0.N) (b : Fin 1024) : iblk m c 7 t (ix2 0 b) = G m c (ix2 0 b) := by
  blk_point [iblk, V, idx t]

end Cert.KernelIdeal.Hand

end
-- ==== Proof.InBwdKernel.lean ====
/- What the kernel leaves in its two result arrays. -/
module

public import proofs.«01_k».proof.Proof.InBwdBlocks

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Math

variable (m : (ℓ : Loc nD τ sig) → Buf (Elt Ideal) ℓ) (c : Dev nD)

/-- A row of the stream. -/
abbrev xrow (i : Fin 8192) (k : Fin 1024) : EReal := X m c (ix3 0 i k)

/-- The gradient of the normed row times the gains. -/
abbrev dgain (i : Fin 8192) (k : Fin 1024) : EReal := du m c i k * G m c (ix2 0 k)

/-- The first result: the gradient of the stream. -/
abbrev dx : FVec Ideal S8192x1024 .f32 := fun j =>
  DH m c (ix3 0 (j 0) (j 1)) + rmsInv (xrow m c (j 0)) * (dgain m c (j 0) (j 1)
    - xrow m c (j 0) (j 1) * rmsInv (xrow m c (j 0)) * Ideal.div (∑ k, dgain m c (j 0) k * (xrow m c (j 0) k * rmsInv (xrow m c (j 0)))) width)

theorem row_lt (t : Fin cfg0.N) (a : Fin 512) : t.val * 512 + a.val < 8192 := by
  have h : t.val < 16 := lt_of_lt_of_eq t.isLt N_0
  omega

/-- The row of the whole stream that row `a` of point `t`'s block is. -/
abbrev row (t : Fin cfg0.N) (a : Fin 512) : Fin 8192 := ⟨t.val * 512 + a.val, row_lt t a⟩

theorem dx_point (t : Fin cfg0.N) (y : S512x1024.Idx) :
    k0_pay4 (F := Ideal) (dblk m c t) (k0_pay7 (iblk m c 5 t)) (k0_pay8 (iblk m c 5 t)) k0_pay9 (iblk m c 7 t) (iblk m c 6 t) y
      = dx m c (ix2 (row t (y 0)) (y 1)) := by
  obtain ⟨a, b, rfl⟩ : ∃ (a : Fin 512) (b : Fin 1024), y = ix2 a b :=
    ⟨y 0, y 1, by funext d; match d with | ⟨0, _⟩ => rfl | ⟨1, _⟩ => rfl⟩
  unfold dx
  pointwise [k0_pay4, k0_pay7, k0_pay8, k0_pay9, k0_pay2, k0_pay1]
  simp only [dblk_eq m c t a _ (row_lt t a), xblk_eq m c t a _ (row_lt t a), hblk_eq m c t a _ (row_lt t a), gblk_eq]

/-- The first result array after the run. -/
theorem final8 : (dats m 0 c).arrAt 8 cfg0.N = dx m c := by
  refine (dats m 0 c).arrAt_eq_of_covers 8 _ (by decide +kernel) fun t _ y => ?_
  blk_simp
  have e : dx m c (((cfg0.win 8).blk t).view.emb y) = dx m c (ix2 (row t (y 0)) (y 1)) := by
    blk_ext [idx t]
  rw [after0_8]
  by_cases h0 : t.val % 16 = 0
  · rw [outsAt0_A m c t h0]
    frame_out
    exact (dx_point m c t y).trans e.symm
  · rw [outsAt0_B m c t h0]
    frame_out
    exact (dx_point m c t y).trans e.symm

/-- The second result: the gradient of the gains. -/
abbrev dg : FVec Ideal S1x1024 .f32 := fun j =>
  ∑ i : Fin 8192, du m c i (j 1) * (xrow m c i (j 1) * rmsInv (xrow m c i))

/-- What one point adds to the gradient of the gains. -/
abbrev dgTerm (t : Fin cfg0.N) (j : S1x1024.Idx) : EReal :=
  ∑ a : Fin 512, du m c (row t a) (j 1) * (xrow m c (row t a) (j 1) * rmsInv (xrow m c (row t a)))

theorem dg_point (t : Fin cfg0.N) (acc : FVec Ideal S1x1024 .f32) (y : S1x1024.Idx) :
    k0_pay3 (F := Ideal) (dblk m c t) (k0_pay7 (iblk m c 5 t)) (k0_pay8 (iblk m c 5 t)) k0_pay9 acc y
      = acc y + dgTerm m c t y := by
  obtain ⟨b, rfl⟩ : ∃ b : Fin 1024, y = ix2 0 b :=
    ⟨y 1, by funext d; match d with | ⟨0, _⟩ => exact Subsingleton.elim (α := Fin 1) _ _ | ⟨1, _⟩ => rfl⟩
  unfold dgTerm
  pointwise [k0_pay3, k0_pay7, k0_pay8, k0_pay9, k0_pay2, k0_pay1]
  simp only [dblk_eq m c t _ _ (row_lt t _), xblk_eq m c t _ _ (row_lt t _)]

/-- The second result array after the run. -/
theorem final9 : (dats m 0 c).arrAt 9 cfg0.N = dg m c := by
  refine (dats m 0 c).arrAt_eq_of_after_last 9 t0_15 (by decide +kernel) _ fun j => ?_
  blk_simp
  rw [after0_9, Pipeline.eq_sum_fin_of_reset_step_apply_last (fun n h => (outsAt0 m c n h).2) 16 (fun _ => 0) (dgTerm m c)
    (fun t h j => by
      rw [outsAt0_A m c t h]; frame_out
      refine (dg_point m c t _ j).trans (congrArg (· + _) ?_)
      pointwise [k0_pay5])
    (fun t h j => by
      rw [outsAt0_B m c t h]; frame_out
      exact dg_point m c t _ j) (le_of_eq N_0) t0_15 rfl j, zero_add]
  exact Fin.sum_mul_add_congr (S := 16) (n := 512) (fun _ _ _ => rfl)

end Cert.KernelIdeal.Hand

end
-- ==== Proof.HostSum.lean ====
/- Host sums over two axes of a rank 3 array, all of them unit axes: they read the one entry. -/
module

public import Idealize.ShloMosaic.Lib.Pipeline.ValueKit

@[expose] public section

noncomputable section

open Idealize.ShloMosaic

namespace Cert.Math

/-- A host sum at an index from which one source index alone is dropped. -/
theorem hostReduceAdd_single {s t : Shape} {axes : List (Fin s.rank)} (h : s.ReducesTo axes t) (v : s.Idx → EReal) (init : EReal) (j : t.Idx)
    (i₀ : s.Idx) (hi : ∀ i, h.drop i = j ↔ i₀ = i) : Ideal.hostReduceAdd h v init j = init + v i₀ :=
  congrArg (init + ·) ((Finset.sum_filter_eq_sum_of_fiber _ (fun _ : Fin 1 => i₀) (fun _ _ _ => Subsingleton.elim _ _)
    (fun i => ⟨fun e => ⟨0, (hi i).mp e⟩, fun ⟨_, e⟩ => (hi i).mpr e⟩) v).trans (by simp))

variable {n : Nat}

/-- Summing a column of unit rows over its two unit axes reads the column. -/
theorem hostReduceAdd_col (h : (⟨3, ![1, n, 1]⟩ : Shape).ReducesTo [0, 2] ⟨1, ![n]⟩) (v : (⟨3, ![1, n, 1]⟩ : Shape).Idx → EReal) (init : EReal)
    (j : (⟨1, ![n]⟩ : Shape).Idx) : Ideal.hostReduceAdd h v init j = init + v (ix3 0 (j 0) 0) := by
  refine hostReduceAdd_single h v init j _ fun i => ⟨fun e => ?_, ?_⟩
  · funext a; apply Fin.ext
    match a with
    | ⟨0, _⟩ => exact congrArg Fin.val (Subsingleton.elim (α := Fin 1) 0 (i 0))
    | ⟨1, _⟩ => exact (congrArg Fin.val (congrFun e 0)).symm
    | ⟨2, _⟩ => exact congrArg Fin.val (Subsingleton.elim (α := Fin 1) 0 (i 2))
  · rintro rfl
    funext b; apply Fin.ext
    match b with
    | ⟨0, _⟩ => rfl

/-- Summing one row over its two unit axes reads the row. -/
theorem hostReduceAdd_row (h : (⟨3, ![1, 1, n]⟩ : Shape).ReducesTo [0, 1] ⟨1, ![n]⟩) (v : (⟨3, ![1, 1, n]⟩ : Shape).Idx → EReal) (init : EReal)
    (j : (⟨1, ![n]⟩ : Shape).Idx) : Ideal.hostReduceAdd h v init j = init + v (ix3 0 0 (j 0)) := by
  refine hostReduceAdd_single h v init j _ fun i => ⟨fun e => ?_, ?_⟩
  · funext a; apply Fin.ext
    match a with
    | ⟨0, _⟩ => exact congrArg Fin.val (Subsingleton.elim (α := Fin 1) 0 (i 0))
    | ⟨1, _⟩ => exact congrArg Fin.val (Subsingleton.elim (α := Fin 1) 0 (i 1))
    | ⟨2, _⟩ => exact (congrArg Fin.val (congrFun e 0)).symm
  · rintro rfl
    funext b; apply Fin.ext
    match b with
    | ⟨0, _⟩ => rfl

end Cert.Math

end
-- ==== Proof.InBwdRef.lean ====
/- The reference's two results, read at an index. -/
module

public import proofs.«01_k».proof.Proof.Gen.ReferenceIdeal.Run
public import proofs.«01_k».proof.Proof.Gen.ReferenceIdeal.Read
public import proofs.«01_k».proof.Proof.NormBwd
public import proofs.«01_k».proof.Proof.HostSum

@[expose] public section

set_option maxRecDepth 16384

noncomputable section

open Idealize.ShloMosaic Idealize.ShloMosaic.TcCoe

namespace Cert.ReferenceIdeal.Hand
open Cert.ReferenceIdeal Cert.ReferenceIdeal.Read Cert.Math

/-- The gradient of the normed row at row `i`, column `k`. -/
abbrev du (w : FVec Ideal S1x1024x3328 .f32) (dz : FVec Ideal S1x8192x3328 .f32) (i : Fin 8192) (k : Fin 1024) : EReal :=
  ∑ j : Fin 3328, dz (ix3 0 i j) * w (ix3 0 k j)

theorem v19_eq (w : FVec Ideal S1x1024x3328 .f32) (dz : FVec Ideal S1x8192x3328 .f32) (i : Fin 8192) (k : Fin 1024) :
    val_main_v19 (F := Ideal) w dz (ix3 0 i k) = du w dz i k := by
  rw [val_main_v19_apply]
  refine Finset.sum_congr rfl fun j _ => ?_
  have hl : lidx_main_v19 (ix3 0 i k) j = ix3 0 i j := by
    funext a; match a with | ⟨0, _⟩ => rfl | ⟨1, _⟩ => rfl | ⟨2, _⟩ => rfl
  have hr : ridx_main_v19 (ix3 0 i k) j = ix2 k j := by
    funext a; match a with | ⟨0, _⟩ => rfl | ⟨1, _⟩ => rfl
  rw [hl, hr]
  pointwise [val_main_v17]

theorem dx_eq (x0 : FVec Ideal S1x8192x1024 .f32) (x1 : FVec Ideal S1x1024 .f32) (x2 : FVec Ideal S1x1024x3328 .f32)
    (x3 : FVec Ideal S1x8192x3328 .f32) (x4 : FVec Ideal S1x8192x1024 .f32) (a : Fin 8192) (b : Fin 1024) :
    val_main_v43 (F := Ideal) x0 x1 x2 x3 x4 (ix2 a b) =
      x4 (ix3 0 a b) + du x2 x3 a b * x1 (ix2 0 b) * rmsInv (fun k => x0 (ix3 0 a k))
        + x0 (ix3 0 a b) * normCoef (fun k => x0 (ix3 0 a k)) (fun k => du x2 x3 a k * x1 (ix2 0 k))
        + normCoef (fun k => x0 (ix3 0 a k)) (fun k => du x2 x3 a k * x1 (ix2 0 k)) * x0 (ix3 0 a b) := by
  pointwise [hostReduceAdd_col, hostReduceAdd_row, val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v20, val_main_cst_3, val_main_v21, val_main_v22, val_main_v23, val_main_v24, val_main_cst_4, val_main_v25, val_main_v26, val_main_cst_5, val_main_v27, val_main_v28, val_main_v29, val_main_v30, val_main_v31, val_main_v32, val_main_cst_6, val_main_v33, val_main_v34, val_main_cst_7, val_main_v35, val_main_v36, val_main_v37, val_main_v38, val_main_v39, val_main_v40, val_main_v41, val_main_v42, val_main_v43]
  simp only [v19_eq]

theorem dg_eq (x0 : FVec Ideal S1x8192x1024 .f32) (x2 : FVec Ideal S1x1024x3328 .f32)
    (x3 : FVec Ideal S1x8192x3328 .f32) (b : Fin 1024) :
    val_main_v42 (F := Ideal) x0 x2 x3 (ix2 0 b) = (∑ i : Fin 8192, x0 (ix3 0 i b) * rmsInv (fun k => x0 (ix3 0 i k)) * du x2 x3 i b : EReal) := by
  pointwise [hostReduceAdd_col, hostReduceAdd_row, val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v20, val_main_cst_3, val_main_v21, val_main_v22, val_main_v23, val_main_v24, val_main_cst_4, val_main_v25, val_main_v26, val_main_cst_5, val_main_v27, val_main_v28, val_main_v29, val_main_v30, val_main_v31, val_main_v32, val_main_cst_6, val_main_v33, val_main_v34, val_main_cst_7, val_main_v35, val_main_v36, val_main_v37, val_main_v38, val_main_v39, val_main_v40, val_main_v41, val_main_v42, val_main_v43]
  simp only [v19_eq]

end Cert.ReferenceIdeal.Hand

end
-- ==== Proof.InBwd.lean ====
/- The backward of the input projection and its norm: the kernel's two results are the reference's. -/
module

public import proofs.«01_k».proof.Defs
public import proofs.«01_k».proof.Proof.Gen.Kernel.Frame
public import proofs.«01_k».proof.Proof.Gen.KernelIdeal.Frame
public import proofs.«01_k».proof.Proof.InBwdKernel
public import proofs.«01_k».proof.Proof.InBwdRef
public import Idealize.ShloMosaic.Lib.Quiescent

@[expose] public section

set_option maxRecDepth 16384

noncomputable section

open Idealize.ShloMosaic Idealize.ShloMosaic.TcCoe Idealize.SL.Sem

namespace Cert.Proof.InBwd
open Cert.Math Cert.KernelIdeal.Hand

theorem pre_facts : Cert.Pre_finite_inputs.Facts := ⟨by decide, by decide, by decide, by decide⟩

/-- What the precondition says of one device's arguments. -/
theorem finite (m : (ℓ : Loc Cert.KernelIdeal.nD Cert.KernelIdeal.τ Cert.KernelIdeal.sig) → Buf (Elt Ideal) ℓ)
    (h : Cert.Pre_KernelIdeal_finite_inputs (hPre_finite_inputs := pre_facts) m) (c : Dev Cert.KernelIdeal.nD) :
    (∀ i, IsReal (X m c i)) ∧ (∀ i, IsReal (G m c i)) ∧ (∀ i, IsReal (W m c i)) ∧ ∀ i, IsReal (DZ m c i) := by
  obtain ⟨h0, h1, h2, h3⟩ := h c
  exact ⟨fun i => .of_abs_lt (congrFun h0 i), fun i => .of_abs_lt (congrFun h1 i), fun i => .of_abs_lt (congrFun h2 i), fun i => .of_abs_lt (congrFun h3 i)⟩

/-- The first result: only here the finiteness is used. -/
theorem dx_agree (m : (ℓ : Loc Cert.KernelIdeal.nD Cert.KernelIdeal.τ Cert.KernelIdeal.sig) → Buf (Elt Ideal) ℓ)
    (h : Cert.Pre_KernelIdeal_finite_inputs (hPre_finite_inputs := pre_facts) m) (c : Dev Cert.KernelIdeal.nD) :
    Cert.ReferenceIdeal.Read.val_main_v43 (F := Ideal) (X m c) (G m c) (W m c) (DZ m c) (DH m c) = dx m c := by
  obtain ⟨hx, hg, hw, hz⟩ := finite m h c
  funext y
  obtain ⟨a, b, rfl⟩ : ∃ (a : Fin 8192) (b : Fin 1024), y = ix2 a b :=
    ⟨y 0, y 1, by funext d; match d with | ⟨0, _⟩ => rfl | ⟨1, _⟩ => rfl⟩
  rw [Cert.ReferenceIdeal.Hand.dx_eq]
  have hd : ∀ k, IsReal (dgain m c a k) := fun k => (IsReal.sum fun j => (hz _).mul (hw _)).mul (hg _)
  have e := norm_grad (x := xrow m c a) (d := dgain m c a) (fun k => hx _) hd b
  refine Eq.trans ?_ (congrArg (DH m c (ix3 0 a b) + ·) e).symm
  simp only [add_assoc]

/-- The second result: the same terms, in another order. -/
theorem dg_agree (m : (ℓ : Loc Cert.KernelIdeal.nD Cert.KernelIdeal.τ Cert.KernelIdeal.sig) → Buf (Elt Ideal) ℓ) (c : Dev Cert.KernelIdeal.nD) :
    Cert.ReferenceIdeal.Read.val_main_v42 (F := Ideal) (X m c) (W m c) (DZ m c) = dg m c := by
  funext y
  obtain ⟨b, rfl⟩ : ∃ b : Fin 1024, y = ix2 0 b :=
    ⟨y 1, by funext d; match d with | ⟨0, _⟩ => exact Subsingleton.elim (α := Fin 1) _ _ | ⟨1, _⟩ => rfl⟩
  rw [Cert.ReferenceIdeal.Hand.dg_eq]
  exact Finset.sum_congr rfl fun i _ => mul_comm _ _

theorem frame_reference : Cert.quiescent_ReferenceIdeal (hReferenceIdeal := Cert.ReferenceIdeal.Gen.facts) := by
  intro m g _
  exact (θ_run _ _ _).mono (fun r h => ⟨fun c => (h c).2.2, sem_eq_zero_of_no_sems rfl _⟩) (Cert.ReferenceIdeal.Value.run m g)

theorem algebraic : Cert.algebraic_KernelIdeal_ReferenceIdeal_pre_finite_inputs (hKernelIdeal := Cert.KernelIdeal.Gen.facts)
    (hReferenceIdeal := Cert.ReferenceIdeal.Gen.facts) (hPre_finite_inputs := pre_facts) := by
  intro m g m' g' hpre hargs
  refine ⟨fun c => dx m c, fun c => dg m c, ?_, ?_⟩
  · refine (θ_run _ _ _).mono (fun r h c => ?_) (Cert.KernelIdeal.Value.run_blocks m g)
    obtain ⟨h8, h9, h⟩ := h c
    exact ⟨h8.trans (final8 m c), h9.trans (final9 m c), h⟩
  · refine (θ_run _ _ _).mono (fun r h c => ?_) (Cert.ReferenceIdeal.Value.run m' g')
    obtain ⟨e0, e1, e2, e3, e4⟩ := hargs c
    obtain ⟨h43, h42, h⟩ := h c
    refine ⟨h43.trans ?_, h42.trans ?_, h⟩
    · rw [Cert.ReferenceIdeal.Read.val_main_v43_eq, e0, e1, e2, e3, e4]
      exact dx_agree m hpre c
    · rw [Cert.ReferenceIdeal.Read.val_main_v42_eq, e0, e2, e3]
      exact dg_agree m c

end Cert.Proof.InBwd

end
-- ==== Proof.CoreSpec.lean ====
/- What the middle call computes, row by row, as mathematics: projections, gated mix, feed-forward, two norms, the loss and the
   gradients back to the mixers' outputs. -/
module

public import proofs.«01_k».proof.Proof.NormBwd

@[expose] public section

noncomputable section

open Idealize.ShloMosaic

namespace Cert.Math

/-- 1, 2, ½ and 1/1024 as the programs write them. -/
abbrev one : EReal := Ideal.ofBits .f32 1065353216#32
abbrev two : EReal := Ideal.ofBits .f32 1073741824#32
abbrev half : EReal := Ideal.ofBits .f32 1056964608#32
abbrev invWidth : EReal := Ideal.ofBits .f32 981467136#32

theorem one_eq : one = ((1 : ℝ) : EReal) := by
  simp [Ideal.ofBits, Ideal.ieee]

theorem two_eq : two = ((2 : ℝ) : EReal) := by
  simp [Ideal.ofBits, Ideal.ieee]; rw [← EReal.coe_mul]; norm_num

theorem half_eq : half = ((1/2 : ℝ) : EReal) := by
  simp [Ideal.ofBits, Ideal.ieee]; rw [← EReal.coe_mul]; norm_num

theorem invWidth_eq : invWidth = ((1/1024 : ℝ) : EReal) := by
  simp [Ideal.ofBits, Ideal.ieee]; rw [← EReal.coe_mul]; norm_num

theorem IsReal.logistic (z : EReal) : IsReal (Ideal.logistic z) := by
  unfold Ideal.logistic
  induction z using EReal.rec with
  | bot =>
    have h : (1 : EReal) + ⊤ = ⊤ := EReal.add_top_of_ne_bot (EReal.coe_ne_bot 1)
    refine ⟨0, ?_⟩
    rw [EReal.neg_bot, Ideal.exp_top, h]
    simp [Ideal.div]
  | top => exact ⟨1, by simp [Ideal.div]⟩
  | coe r =>
    have h : (1 + Real.exp (-r)) ≠ 0 := by positivity
    refine ⟨1 / (1 + Real.exp (-r)), ?_⟩
    rw [← EReal.coe_neg, Ideal.exp_coe, ← EReal.coe_one, ← EReal.coe_add, Ideal.div_coe h, ← EReal.coe_mul, one_mul]

/-- The gradient of a normed row, in terms of the row and of the cotangent times the gains. -/
def normGrad (x d : Fin 1024 → EReal) (j : Fin 1024) : EReal :=
  rmsInv x * (d j - x j * rmsInv x * Ideal.div (∑ k, d k * (x k * rmsInv x)) width)

theorem IsReal.div_width {a : EReal} (h : IsReal a) : IsReal (Ideal.div a width) := by
  obtain ⟨r, rfl⟩ := h
  exact ⟨_, Cert.Math.div_width r⟩

theorem IsReal.normGrad {x d : Fin 1024 → EReal} (hx : ∀ k, IsReal (x k)) (hd : ∀ k, IsReal (d k)) (j : Fin 1024) :
    IsReal (Cert.Math.normGrad x d j) := by
  have hr := IsReal.rmsInv hx
  exact hr.mul ((hd j).sub (((hx j).mul hr).mul (IsReal.sum fun k => (hd k).mul ((hx k).mul hr)).div_width))

/-- The arrays the call is given. -/
structure Core where
  x : Fin 8192 → Fin 1024 → EReal
  pm : Fin 8192 → Fin 512 → EReal
  o : Fin 8192 → Fin 512 → EReal
  zg : Fin 8192 → Fin 2048 → EReal
  pp : Fin 512 → Fin 1024 → EReal
  pa : Fin 512 → Fin 1024 → EReal
  wo : Fin 1024 → Fin 1024 → EReal
  gm : Fin 1024 → EReal
  wu : Fin 1024 → Fin 4096 → EReal
  wd : Fin 4096 → Fin 1024 → EReal
  gf : Fin 1024 → EReal
  tgt : Fin 8192 → Fin 1024 → EReal

/-- The first and the second half of the 2048 columns. -/
abbrev lo (j : Fin 1024) : Fin 2048 := ⟨j.val, by omega⟩
abbrev hi (j : Fin 1024) : Fin 2048 := ⟨1024 + j.val, by omega⟩

namespace Core

variable (A : Core) (i : Fin 8192)

def yp (j : Fin 1024) : EReal := ∑ k, A.pm i k * A.pp k j
def ya (j : Fin 1024) : EReal := ∑ k, A.o i k * A.pa k j
def gp (j : Fin 1024) : EReal := Ideal.logistic (A.zg i (lo j))
def ga (j : Fin 1024) : EReal := Ideal.logistic (A.zg i (hi j))
def mixed (j : Fin 1024) : EReal := A.gp i j * A.yp i j + A.ga i j * A.ya i j
def h1 (j : Fin 1024) : EReal := A.x i j + ∑ k, A.mixed i k * A.wo k j
def u2 (j : Fin 1024) : EReal := A.h1 i j * rmsInv (A.h1 i) * A.gm j
def pre (f : Fin 4096) : EReal := ∑ k, A.u2 i k * A.wu k f
def act (f : Fin 4096) : EReal := max (A.pre i f) 0
def h2 (j : Fin 1024) : EReal := A.h1 i j + ∑ f, A.act i f * A.act i f * A.wd f j
def diff (j : Fin 1024) : EReal := A.h2 i j * rmsInv (A.h2 i) * A.gf j - A.tgt i j
def dy (j : Fin 1024) : EReal := A.diff i j * invWidth
def dh2 (j : Fin 1024) : EReal := normGrad (A.h2 i) (fun k => A.dy i k * A.gf k) j
def da (f : Fin 4096) : EReal := ∑ k, A.dh2 i k * A.wd f k
def dap (f : Fin 4096) : EReal := A.da i f * (two * A.act i f)
def du2 (k : Fin 1024) : EReal := ∑ f, A.dap i f * A.wu k f
def dh1 (j : Fin 1024) : EReal := A.dh2 i j + normGrad (A.h1 i) (fun k => A.du2 i k * A.gm k) j
def dm (k : Fin 1024) : EReal := ∑ j, A.dh1 i j * A.wo k j
def dyp (j : Fin 1024) : EReal := A.dm i j * A.gp i j
def dya (j : Fin 1024) : EReal := A.dm i j * A.ga i j
def dzp (j : Fin 1024) : EReal := A.dm i j * A.yp i j * (A.gp i j * (one - A.gp i j))
def dza (j : Fin 1024) : EReal := A.dm i j * A.ya i j * (A.ga i j * (one - A.ga i j))
def dpm (k : Fin 512) : EReal := ∑ j, A.dyp i j * A.pp k j
def dob (k : Fin 512) : EReal := ∑ j, A.dya i j * A.pa k j
/-- What a row adds to the gradients of the two norms' gains and to the loss. -/
def dgm (j : Fin 1024) : EReal := A.du2 i j * (A.h1 i j * rmsInv (A.h1 i))
def dgf (j : Fin 1024) : EReal := A.dy i j * (A.h2 i j * rmsInv (A.h2 i))
def msq : EReal := Ideal.div (∑ k, A.diff i k * A.diff i k) width

/-- The four row functions the call packs side by side: the mixed row, the normed row and the two streams' gradients. -/
def packed (q : Fin 4096) : EReal :=
  if _ : q.val < 1024 then A.mixed i ⟨q.val, by omega⟩
  else if _ : q.val - 1024 < 1024 then A.u2 i ⟨q.val - 1024, by omega⟩
  else if _ : q.val - 1024 - 1024 < 1024 then A.dh2 i ⟨q.val - 1024 - 1024, by omega⟩
  else A.dh1 i ⟨q.val - 1024 - 1024 - 1024, by omega⟩

/-- The gradient of the gates' arguments, the two halves side by side. -/
def dzg (q : Fin 2048) : EReal :=
  if _ : q.val < 1024 then A.dzp i ⟨q.val, by omega⟩ else A.dza i ⟨q.val - 1024, by omega⟩

/-- What a row adds to the eight rows of sums: the two gains' gradients, the loss, five rows of zeros. -/
def sums (r : Fin 8) (j : Fin 1024) : EReal :=
  if r.val < 1 then A.dgm i j else if r.val - 1 < 1 then A.dgf i j else if r.val - 1 - 1 < 1 then half * A.msq i else 0

section
variable (b : Fin 1024)

theorem packed_0 : A.packed i ⟨b.val, by omega⟩ = A.mixed i b := dif_pos b.isLt
theorem packed_1 : A.packed i ⟨1024 + b.val, by omega⟩ = A.u2 i b := by
  have e : 1024 + b.val - 1024 = b.val := by omega
  simp only [packed, e, dif_neg (by omega : ¬ (1024 + b.val < 1024)), dif_pos b.isLt]
theorem packed_2 : A.packed i ⟨2048 + b.val, by omega⟩ = A.dh2 i b := by
  have e : 2048 + b.val - 1024 - 1024 = b.val := by omega
  simp only [packed, e, dif_neg (by omega : ¬ (2048 + b.val < 1024)), dif_neg (by omega : ¬ (2048 + b.val - 1024 < 1024)), dif_pos b.isLt]
theorem packed_3 : A.packed i ⟨3072 + b.val, by omega⟩ = A.dh1 i b := by
  have e : 3072 + b.val - 1024 - 1024 - 1024 = b.val := by omega
  simp only [packed, e, dif_neg (by omega : ¬ (3072 + b.val < 1024)), dif_neg (by omega : ¬ (3072 + b.val - 1024 < 1024)),
    dif_neg (by omega : ¬ (3072 + b.val - 1024 - 1024 < 1024))]
theorem dzg_0 : A.dzg i ⟨b.val, by omega⟩ = A.dzp i b := dif_pos b.isLt
theorem dzg_1 : A.dzg i ⟨1024 + b.val, by omega⟩ = A.dza i b := by
  have e : 1024 + b.val - 1024 = b.val := by omega
  simp only [dzg, e, dif_neg (by omega : ¬ (1024 + b.val < 1024))]

end

/-- Everything but the gates' arguments is finite. -/
structure Finite : Prop where
  x : ∀ i k, IsReal (A.x i k)
  pm : ∀ i k, IsReal (A.pm i k)
  o : ∀ i k, IsReal (A.o i k)
  pp : ∀ i k, IsReal (A.pp i k)
  pa : ∀ i k, IsReal (A.pa i k)
  wo : ∀ i k, IsReal (A.wo i k)
  gm : ∀ k, IsReal (A.gm k)
  wu : ∀ i k, IsReal (A.wu i k)
  wd : ∀ i k, IsReal (A.wd i k)
  gf : ∀ k, IsReal (A.gf k)
  tgt : ∀ i k, IsReal (A.tgt i k)

variable {A} (hA : A.Finite)
include hA

theorem Finite.h1 (j : Fin 1024) : IsReal (A.h1 i j) :=
  (hA.x i j).add (IsReal.sum fun k => (((IsReal.logistic _).mul (IsReal.sum fun q => (hA.pm i q).mul (hA.pp q k))).add
    ((IsReal.logistic _).mul (IsReal.sum fun q => (hA.o i q).mul (hA.pa q k)))).mul (hA.wo k j))

theorem Finite.pre (f : Fin 4096) : IsReal (A.pre i f) :=
  IsReal.sum fun k => (((hA.h1 i k).mul (IsReal.rmsInv (hA.h1 i))).mul (hA.gm k)).mul (hA.wu k f)

theorem Finite.act (f : Fin 4096) : IsReal (A.act i f) := (hA.pre i f).max IsReal.zero

theorem Finite.h2 (j : Fin 1024) : IsReal (A.h2 i j) :=
  (hA.h1 i j).add (IsReal.sum fun f => ((hA.act i f).mul (hA.act i f)).mul (hA.wd f j))

theorem Finite.diff (j : Fin 1024) : IsReal (A.diff i j) :=
  (((hA.h2 i j).mul (IsReal.rmsInv (hA.h2 i))).mul (hA.gf j)).sub (hA.tgt i j)

theorem Finite.msq : IsReal (A.msq i) := (IsReal.sum fun k => (hA.diff i k).mul (hA.diff i k)).div_width

theorem Finite.dyg (j : Fin 1024) : IsReal (A.dy i j * A.gf j) :=
  ((hA.diff i j).mul (by rw [invWidth_eq]; exact .coe _)).mul (hA.gf j)

theorem Finite.dh2 (j : Fin 1024) : IsReal (A.dh2 i j) := IsReal.normGrad (hA.h2 i) (hA.dyg i) j

theorem Finite.da (f : Fin 4096) : IsReal (A.da i f) := IsReal.sum fun k => (hA.dh2 i k).mul (hA.wd f k)

theorem Finite.dap (f : Fin 4096) : IsReal (A.dap i f) :=
  (hA.da i f).mul ((by rw [two_eq]; exact .coe _ : IsReal two).mul (hA.act i f))

theorem Finite.dug (k : Fin 1024) : IsReal (A.du2 i k * A.gm k) :=
  (IsReal.sum fun f => (hA.dap i f).mul (hA.wu k f)).mul (hA.gm k)

/-- The cotangent through the square and the positive part, as differentiation writes it: the square's two halves, kept where the
    positive part's argument is positive. -/
theorem dap_eq (f : Fin 4096) : A.dap i f = if 0 < A.pre i f then A.act i f * A.da i f + A.da i f * A.act i f else 0 := by
  obtain ⟨p, hp⟩ := hA.pre i f
  obtain ⟨d, hd⟩ := hA.da i f
  unfold dap act
  rw [hp, hd, two_eq]
  by_cases h : (0 : EReal) < (p : EReal)
  · rw [if_pos h, max_eq_left h.le, ← EReal.coe_mul, ← EReal.coe_mul, ← EReal.coe_mul, ← EReal.coe_mul, ← EReal.coe_add]
    congr 1; ring
  · rw [if_neg h, max_eq_right (not_lt.mp h), mul_zero, mul_zero]

/-- The cotangent of the normed row under half the mean of the squares, as differentiation writes it. -/
theorem dy_eq (j : Fin 1024) : A.dy i j = Ideal.div (half * one) width * (two * A.diff i j) := by
  obtain ⟨d, hd⟩ := hA.diff i j
  unfold dy
  rw [hd, half_eq, one_eq, two_eq, invWidth_eq, ← EReal.coe_mul, ← EReal.coe_mul (1/2), div_width, ← EReal.coe_mul, ← EReal.coe_mul]
  congr 1; ring

theorem dh2_eq (j : Fin 1024) : A.dh2 i j = A.dy i j * A.gf j * rmsInv (A.h2 i)
    + A.h2 i j * normCoef (A.h2 i) (fun k => A.dy i k * A.gf k) + normCoef (A.h2 i) (fun k => A.dy i k * A.gf k) * A.h2 i j :=
  norm_grad (hA.h2 i) (hA.dyg i) j

theorem dh1_eq (j : Fin 1024) : A.dh1 i j = A.dh2 i j + (A.du2 i j * A.gm j * rmsInv (A.h1 i)
    + A.h1 i j * normCoef (A.h1 i) (fun k => A.du2 i k * A.gm k) + normCoef (A.h1 i) (fun k => A.du2 i k * A.gm k) * A.h1 i j) :=
  congrArg (A.dh2 i j + ·) (norm_grad (hA.h1 i) (hA.dug i) j)

omit hA in
/-- Half a sum is the sum of the halves. -/
theorem half_sum {n : ℕ} (f : Fin n → EReal) : half * ∑ k, f k = ∑ k, half * f k := by
  have h0 : (0 : EReal) ≤ half := by rw [half_eq]; exact_mod_cast (by norm_num : (0 : ℝ) ≤ 1/2)
  have h1 : half ≠ ⊤ := by rw [half_eq]; exact EReal.coe_ne_top _
  exact map_sum (⟨⟨(half * ·), mul_zero _⟩, EReal.left_distrib_of_nonneg_of_ne_top h0 h1⟩ : EReal →+ EReal) f Finset.univ

end Core

end Cert.Math

end
-- ==== Proof.CoreBlocks.lean ====
/- The blocks of a grid point of the middle call, read in the argument arrays. -/
module

public import proofs.«01_k».proof.Proof.Gen.Kernel2Ideal.Value
public import proofs.«01_k».proof.Proof.CoreSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Hand
open Cert.Kernel2Ideal Cert.Kernel2Ideal.Gen Cert.Math

variable (m : (ℓ : Loc nD τ sig) → Buf (Elt Ideal) ℓ) (c : Dev nD)

abbrev X0 : FVec Ideal S1x8192x1024 .f32 := m ((c : Thread nD τ).loc main_arg0)
abbrev X1 : FVec Ideal S1x8192x512 .f32 := m ((c : Thread nD τ).loc main_arg1)
abbrev X2 : FVec Ideal S1x8192x512 .f32 := m ((c : Thread nD τ).loc main_arg2)
abbrev X3 : FVec Ideal S1x8192x2048 .f32 := m ((c : Thread nD τ).loc main_arg3)
abbrev X4 : FVec Ideal S1x512x1024 .f32 := m ((c : Thread nD τ).loc main_arg4)
abbrev X5 : FVec Ideal S1x512x1024 .f32 := m ((c : Thread nD τ).loc main_arg5)
abbrev X6 : FVec Ideal S1x1024x1024 .f32 := m ((c : Thread nD τ).loc main_arg6)
abbrev X7 : FVec Ideal S1x1024 .f32 := m ((c : Thread nD τ).loc main_arg7)
abbrev X8 : FVec Ideal S1x1024x4096 .f32 := m ((c : Thread nD τ).loc main_arg8)
abbrev X9 : FVec Ideal S1x4096x1024 .f32 := m ((c : Thread nD τ).loc main_arg9)
abbrev X10 : FVec Ideal S1024 .f32 := m ((c : Thread nD τ).loc main_arg10)
abbrev X11 : FVec Ideal S1x8192x1024 .f32 := m ((c : Thread nD τ).loc main_arg11)

/-- The kernel's arrays. -/
abbrev core : Core where
  x i k := X0 m c (ix3 0 i k)
  pm i k := X1 m c (ix3 0 i k)
  o i k := X2 m c (ix3 0 i k)
  zg i k := X3 m c (ix3 0 i k)
  pp i k := X4 m c (ix3 0 i k)
  pa i k := X5 m c (ix3 0 i k)
  wo i k := X6 m c (ix3 0 i k)
  gm k := X7 m c (ix2 0 k)
  wu i k := X8 m c (ix3 0 i k)
  wd i k := X9 m c (ix3 0 i k)
  gf k := X10 m c (ix1 k)
  tgt i k := X11 m c (ix3 0 i k)

/-- Where the blocks of the grid's points lie. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0]
    ∧ win0_8.index t = ![0, 0] ∧ win0_9.index t = ![0, 0] ∧ win0_10.index t = ![0, 0, 0] ∧ win0_11.index t = ![0, 0]
    ∧ win0_12.index t = ![t.val, 0] ∧ win0_13.index t = ![t.val, 0] ∧ win0_14.index t = ![t.val, 0] ∧ win0_15.index t = ![t.val, 0]
    ∧ win0_16.index t = ![0, 0] ∧ win0_17.index t = ![t.val, 0] ∧ win0_18.index t = ![t.val, 0] ∧ win0_19.index t = ![t.val, 0]
    ∧ win0_20.index t = ![t.val, 0] ∧ win0_21.index t = ![t.val, 0] :=
  (by decide +kernel : ∀ t : Fin grid0.N, _)

theorem row_lt (t : Fin cfg0.N) (a : Fin 256) : t.val * 256 + a.val < 8192 := by
  have h : t.val < 32 := lt_of_lt_of_eq t.isLt N_0
  omega

/-- The row of the whole stream that row `a` of point `t`'s block is. -/
abbrev row (t : Fin cfg0.N) (a : Fin 256) : Fin 8192 := ⟨t.val * 256 + a.val, row_lt t a⟩

variable (t : Fin cfg0.N)

theorem blk0 (a : Fin 256) (k : Fin 1024) : iblk m c 0 t (ix2 a k) = X0 m c (ix3 0 (row t a) k) := by blk_point [iblk, V, idx t]
theorem blk1 (a : Fin 256) (k : Fin 512) : iblk m c 1 t (ix2 a k) = X1 m c (ix3 0 (row t a) k) := by blk_point [iblk, V, idx t]
theorem blk2 (a : Fin 256) (k : Fin 512) : iblk m c 2 t (ix2 a k) = X2 m c (ix3 0 (row t a) k) := by blk_point [iblk, V, idx t]
theorem blk3 (a : Fin 256) (k : Fin 2048) : iblk m c 3 t (ix2 a k) = X3 m c (ix3 0 (row t a) k) := by blk_point [iblk, V, idx t]
theorem blk4 (a : Fin 256) (k : Fin 1024) : iblk m c 4 t (ix2 a k) = X11 m c (ix3 0 (row t a) k) := by blk_point [iblk, V, idx t]
theorem blk5 (k : Fin 1024) : iblk m c 5 t (ix2 0 k) = X7 m c (ix2 0 k) := by blk_point [iblk, V, idx t]
theorem blk6 (k : Fin 1024) : iblk m c 6 t (ix2 0 k) = X10 m c (ix1 k) := by blk_point [iblk, V, idx t]
theorem blk7 (j : Fin 1024) (k : Fin 512) : iblk m c 7 t (ix2 j k) = X4 m c (ix3 0 k j) := by blk_point [iblk, V, idx t]
theorem blk8 (j : Fin 1024) (k : Fin 512) : iblk m c 8 t (ix2 j k) = X5 m c (ix3 0 k j) := by blk_point [iblk, V, idx t]
theorem blk9 (j k : Fin 1024) : iblk m c 9 t (ix2 j k) = X6 m c (ix3 0 j k) := by blk_point [iblk, V, idx t]
theorem blk10 (q : Fin 8) (k : Fin 1024) (f : Fin 512) : iblk m c 10 t (ix3 q k f) = X8 m c (ix3 0 k ⟨q.val * 512 + f.val, by omega⟩) := by
  blk_point [iblk, V, idx t]
theorem blk11 (f : Fin 4096) (k : Fin 1024) : iblk m c 11 t (ix2 f k) = X9 m c (ix3 0 f k) := by blk_point [iblk, V, idx t]

end Cert.Kernel2Ideal.Hand

end
-- ==== Proof.CoreFwd.lean ====
/- The first half of a grid point of the middle call: from the mixers' outputs to the difference from the target. -/
module

public import proofs.«01_k».proof.Proof.CoreBlocks

@[expose] public section

set_option maxRecDepth 16384

noncomputable section

open Idealize.ShloMosaic Idealize.ShloMosaic.TcCoe Idealize.SL.Sem
open Idealize.ShloMosaic.Pipeline (Dat)

namespace Cert.Kernel2Ideal.Hand
open Cert.Kernel2Ideal Cert.Kernel2Ideal.Gen Cert.Math

variable (m : (ℓ : Loc nD τ sig) → Buf (Elt Ideal) ℓ) (c : Dev nD) (t : Fin cfg0.N)

/-- The eight blocks of 512 columns of the feed-forward's first matrix, and the four of 1024 rows of its second. -/
abbrev up0 : FVec Ideal S1x1024x512 .bf16 := View.ld (iblk m c 10 t) (Rect.unit ![0, 0, 0] S1x1024x512.size inb_S8x1024x512_S1x1024x512_0_0_0)
abbrev up1 : FVec Ideal S1x1024x512 .bf16 := View.ld (iblk m c 10 t) (Rect.unit ![1, 0, 0] S1x1024x512.size inb_S8x1024x512_S1x1024x512_1_0_0)
abbrev up2 : FVec Ideal S1x1024x512 .bf16 := View.ld (iblk m c 10 t) (Rect.unit ![2, 0, 0] S1x1024x512.size inb_S8x1024x512_S1x1024x512_2_0_0)
abbrev up3 : FVec Ideal S1x1024x512 .bf16 := View.ld (iblk m c 10 t) (Rect.unit ![3, 0, 0] S1x1024x512.size inb_S8x1024x512_S1x1024x512_3_0_0)
abbrev up4 : FVec Ideal S1x1024x512 .bf16 := View.ld (iblk m c 10 t) (Rect.unit ![4, 0, 0] S1x1024x512.size inb_S8x1024x512_S1x1024x512_4_0_0)
abbrev up5 : FVec Ideal S1x1024x512 .bf16 := View.ld (iblk m c 10 t) (Rect.unit ![5, 0, 0] S1x1024x512.size inb_S8x1024x512_S1x1024x512_5_0_0)
abbrev up6 : FVec Ideal S1x1024x512 .bf16 := View.ld (iblk m c 10 t) (Rect.unit ![6, 0, 0] S1x1024x512.size inb_S8x1024x512_S1x1024x512_6_0_0)
abbrev up7 : FVec Ideal S1x1024x512 .bf16 := View.ld (iblk m c 10 t) (Rect.unit ![7, 0, 0] S1x1024x512.size inb_S8x1024x512_S1x1024x512_7_0_0)
abbrev down0 : FVec Ideal S1024x1024 .bf16 := View.ld (iblk m c 11 t) (Rect.unit ![0, 0] S1024x1024.size inb_S4096x1024_S1024x1024_0_0)
abbrev down1 : FVec Ideal S1024x1024 .bf16 := View.ld (iblk m c 11 t) (Rect.unit ![1024, 0] S1024x1024.size inb_S4096x1024_S1024x1024_1024_0)
abbrev down2 : FVec Ideal S1024x1024 .bf16 := View.ld (iblk m c 11 t) (Rect.unit ![2048, 0] S1024x1024.size inb_S4096x1024_S1024x1024_2048_0)
abbrev down3 : FVec Ideal S1024x1024 .bf16 := View.ld (iblk m c 11 t) (Rect.unit ![3072, 0] S1024x1024.size inb_S4096x1024_S1024x1024_3072_0)

theorem up_eq (q : Fin 8) (h : ∀ a, ![q.val, 0, 0] a + S1x1024x512.size a ≤ S8x1024x512.size a) (k : Fin 1024) (f : Fin 512) :
    View.ld (iblk m c 10 t) (Rect.unit ![q.val, 0, 0] S1x1024x512.size h) (ix3 0 k f) = X8 m c (ix3 0 k ⟨q.val * 512 + f.val, by omega⟩) := by
  refine Eq.trans (congrArg (iblk m c 10 t) ?_) (blk10 m c t q k f)
  funext d
  apply Fin.ext
  match d with
  | ⟨0, _⟩ => exact Nat.add_zero _
  | ⟨1, _⟩ => simp [Rect.unit, Rect.emb]
  | ⟨2, _⟩ => simp [Rect.unit, Rect.emb]

theorem down_eq (q : Fin 4) (h : ∀ a, ![q.val * 1024, 0] a + S1024x1024.size a ≤ S4096x1024.size a) (f k : Fin 1024) :
    View.ld (iblk m c 11 t) (Rect.unit ![q.val * 1024, 0] S1024x1024.size h) (ix2 f k) = X9 m c (ix3 0 ⟨q.val * 1024 + f.val, by omega⟩ k) := by
  refine Eq.trans (congrArg (iblk m c 11 t) ?_) (blk11 m c t ⟨q.val * 1024 + f.val, by omega⟩ k)
  funext d
  apply Fin.ext
  match d with
  | ⟨0, _⟩ => simp [Rect.unit, Rect.emb]
  | ⟨1, _⟩ => simp [Rect.unit, Rect.emb]

theorem up0_eq (k : Fin 1024) (f : Fin 512) : up0 m c t (ix3 0 k f) = X8 m c (ix3 0 k ⟨0 + f.val, by omega⟩) :=
  up_eq m c t 0 _ k f
theorem up1_eq (k : Fin 1024) (f : Fin 512) : up1 m c t (ix3 0 k f) = X8 m c (ix3 0 k ⟨512 + f.val, by omega⟩) :=
  up_eq m c t 1 _ k f
theorem up2_eq (k : Fin 1024) (f : Fin 512) : up2 m c t (ix3 0 k f) = X8 m c (ix3 0 k ⟨1024 + f.val, by omega⟩) :=
  up_eq m c t 2 _ k f
theorem up3_eq (k : Fin 1024) (f : Fin 512) : up3 m c t (ix3 0 k f) = X8 m c (ix3 0 k ⟨1536 + f.val, by omega⟩) :=
  up_eq m c t 3 _ k f
theorem up4_eq (k : Fin 1024) (f : Fin 512) : up4 m c t (ix3 0 k f) = X8 m c (ix3 0 k ⟨2048 + f.val, by omega⟩) :=
  up_eq m c t 4 _ k f
theorem up5_eq (k : Fin 1024) (f : Fin 512) : up5 m c t (ix3 0 k f) = X8 m c (ix3 0 k ⟨2560 + f.val, by omega⟩) :=
  up_eq m c t 5 _ k f
theorem up6_eq (k : Fin 1024) (f : Fin 512) : up6 m c t (ix3 0 k f) = X8 m c (ix3 0 k ⟨3072 + f.val, by omega⟩) :=
  up_eq m c t 6 _ k f
theorem up7_eq (k : Fin 1024) (f : Fin 512) : up7 m c t (ix3 0 k f) = X8 m c (ix3 0 k ⟨3584 + f.val, by omega⟩) :=
  up_eq m c t 7 _ k f
theorem down0_eq (f k : Fin 1024) : down0 m c t (ix2 f k) = X9 m c (ix3 0 ⟨0 + f.val, by omega⟩ k) :=
  down_eq m c t 0 _ f k
theorem down1_eq (f k : Fin 1024) : down1 m c t (ix2 f k) = X9 m c (ix3 0 ⟨1024 + f.val, by omega⟩ k) :=
  down_eq m c t 1 _ f k
theorem down2_eq (f k : Fin 1024) : down2 m c t (ix2 f k) = X9 m c (ix3 0 ⟨2048 + f.val, by omega⟩ k) :=
  down_eq m c t 2 _ f k
theorem down3_eq (f k : Fin 1024) : down3 m c t (ix2 f k) = X9 m c (ix3 0 ⟨3072 + f.val, by omega⟩ k) :=
  down_eq m c t 3 _ f k

/-- A sum over the feed-forward's 4096 columns, in four pieces. -/
theorem sum_ff (f : Fin 4096 → EReal) : ∑ j, f j
    = (∑ k : Fin 1024, f ⟨0 + k.val, by omega⟩) + (∑ k : Fin 1024, f ⟨1024 + k.val, by omega⟩) + (∑ k : Fin 1024, f ⟨2048 + k.val, by omega⟩)
      + ∑ k : Fin 1024, f ⟨3072 + k.val, by omega⟩ := by
  have h1 := Fin.sum_univ_add (a := 3072) (b := 1024) f
  have h2 := Fin.sum_univ_add (a := 2048) (b := 1024) fun k : Fin 3072 => f ⟨k.val, by omega⟩
  have h3 := Fin.sum_univ_add (a := 1024) (b := 1024) fun k : Fin 2048 => f ⟨k.val, by omega⟩
  simp only [Nat.zero_add]
  exact h1.trans (congrArg (· + _) (h2.trans (congrArg (· + _) h3)))

/-- A sum over 1024 columns, in two pieces. -/
theorem sum_half (f : Fin 1024 → EReal) : ∑ j, f j = (∑ k : Fin 512, f ⟨k.val, by omega⟩) + ∑ k : Fin 512, f ⟨512 + k.val, by omega⟩ :=
  Fin.sum_univ_add (a := 512) (b := 512) f

/-- The point's values, named as in the row functions. -/
abbrev yp : FVec Ideal S256x1024 .f32 := k0_pay4 (F := Ideal) (iblk m c 1 t) (iblk m c 7 t)
abbrev ya : FVec Ideal S256x1024 .f32 := k0_pay5 (F := Ideal) (iblk m c 2 t) (iblk m c 8 t)
abbrev gp : FVec Ideal S256x1024 .f32 := k0_pay6 (F := Ideal) (iblk m c 3 t)
abbrev ga : FVec Ideal S256x1024 .f32 := k0_pay7 (F := Ideal) (iblk m c 3 t)
abbrev mixed : FVec Ideal S256x1024 .bf16 := k0_pay8 (F := Ideal) (iblk m c 1 t) (iblk m c 2 t) (iblk m c 3 t) (iblk m c 7 t) (iblk m c 8 t)
abbrev h1 : FVec Ideal S256x1024 .f32 :=
  k0_pay9 (F := Ideal) (iblk m c 1 t) (iblk m c 2 t) (iblk m c 3 t) (iblk m c 7 t) (iblk m c 8 t) (iblk m c 0 t) (iblk m c 9 t)
abbrev h1sq : FVec Ideal S256x1024 .f32 :=
  k0_pay10 (F := Ideal) (iblk m c 1 t) (iblk m c 2 t) (iblk m c 3 t) (iblk m c 7 t) (iblk m c 8 t) (iblk m c 0 t) (iblk m c 9 t)
abbrev r1 : FVec Ideal S256x1 .f32 := k0_pay11 (F := Ideal) (h1sq m c t)
abbrev xh1 : FVec Ideal S256x1024 .f32 := k0_pay12 (F := Ideal) (h1 m c t) (h1sq m c t)
abbrev u2 : FVec Ideal S256x1024 .bf16 := k0_pay13 (F := Ideal) (h1 m c t) (iblk m c 5 t) (h1sq m c t)
abbrev act0 : FVec Ideal S256x1024 .bf16 := k0_pay15 (F := Ideal) (h1 m c t) (iblk m c 5 t) (h1sq m c t) (up0 m c t) (up1 m c t)
abbrev acc0 : FVec Ideal S256x1024 .f32 := k0_pay16 (F := Ideal) (h1 m c t) (iblk m c 5 t) (h1sq m c t) (up0 m c t) (up1 m c t) (down0 m c t)
abbrev pre2 : FVec Ideal S256x512 .f32 := k0_pay17 (F := Ideal) (h1 m c t) (iblk m c 5 t) (h1sq m c t) (up2 m c t)
abbrev act1 : FVec Ideal S256x1024 .bf16 := k0_pay19 (F := Ideal) (u2 m c t) (pre2 m c t) (up3 m c t)
abbrev act2 : FVec Ideal S256x1024 .bf16 := k0_pay21 (F := Ideal) (u2 m c t) (up4 m c t) (up5 m c t)
abbrev acc2 : FVec Ideal S256x1024 .f32 :=
  k0_pay22 (F := Ideal) (u2 m c t) (acc0 m c t) (pre2 m c t) (up3 m c t) (down1 m c t) (up4 m c t) (up5 m c t) (down2 m c t)
abbrev act3 : FVec Ideal S256x1024 .bf16 := k0_pay24 (F := Ideal) (u2 m c t) (up6 m c t) (up7 m c t)
abbrev h2 : FVec Ideal S256x1024 .f32 := k0_pay25 (F := Ideal) (h1 m c t) (u2 m c t) (acc2 m c t) (up6 m c t) (up7 m c t) (down3 m c t)
abbrev r2 : FVec Ideal S256x1 .f32 := k0_pay26 (F := Ideal) (h1 m c t) (u2 m c t) (acc2 m c t) (up6 m c t) (up7 m c t) (down3 m c t)
abbrev xh2 : FVec Ideal S256x1024 .f32 := k0_pay27 (F := Ideal) (h1 m c t) (u2 m c t) (acc2 m c t) (up6 m c t) (up7 m c t) (down3 m c t)
abbrev diff : FVec Ideal S256x1024 .f32 :=
  k0_pay28 (F := Ideal) (h1 m c t) (u2 m c t) (acc2 m c t) (up6 m c t) (up7 m c t) (down3 m c t) (iblk m c 6 t) (iblk m c 4 t)

variable (a : Fin 256)

theorem yp_eq (j : Fin 1024) : yp m c t (ix2 a j) = (core m c).yp (row t a) j := by
  unfold Core.yp
  pointwise [k0_pay4]
  simp only [blk1, blk7]

theorem ya_eq (j : Fin 1024) : ya m c t (ix2 a j) = (core m c).ya (row t a) j := by
  unfold Core.ya
  pointwise [k0_pay5]
  simp only [blk2, blk8]

theorem gp_eq (j : Fin 1024) : gp m c t (ix2 a j) = (core m c).gp (row t a) j := by
  unfold Core.gp
  pointwise [k0_pay6, k0_pay3]
  simp only [blk3]

theorem ga_eq (j : Fin 1024) : ga m c t (ix2 a j) = (core m c).ga (row t a) j := by
  unfold Core.ga
  pointwise [k0_pay7, k0_pay3]
  simp only [blk3]

theorem mixed_eq (j : Fin 1024) : mixed m c t (ix2 a j) = (core m c).mixed (row t a) j := by
  unfold Core.mixed
  pointwise [k0_pay8]
  simp only [yp_eq, ya_eq, gp_eq, ga_eq]

theorem h1_eq (j : Fin 1024) : h1 m c t (ix2 a j) = (core m c).h1 (row t a) j := by
  unfold Core.h1
  pointwise [k0_pay9]
  simp only [mixed_eq, blk0, blk9]

theorem h1sq_eq (j : Fin 1024) : h1sq m c t (ix2 a j) = (core m c).h1 (row t a) j * (core m c).h1 (row t a) j := by
  pointwise [k0_pay10]
  simp only [h1_eq]

theorem r1_eq : r1 m c t (ix2 a 0) = rmsInv ((core m c).h1 (row t a)) := by
  pointwise [k0_pay11]
  simp only [h1sq_eq]

theorem xh1_eq (j : Fin 1024) : xh1 m c t (ix2 a j) = (core m c).h1 (row t a) j * rmsInv ((core m c).h1 (row t a)) := by
  pointwise [k0_pay12]
  simp only [h1_eq, r1_eq]

theorem u2_eq (j : Fin 1024) : u2 m c t (ix2 a j) = (core m c).u2 (row t a) j := by
  unfold Core.u2
  pointwise [k0_pay13]
  simp only [xh1_eq, blk5]

theorem pre2_eq (f : Fin 512) : pre2 m c t (ix2 a f) = (core m c).pre (row t a) ⟨1024 + f.val, by omega⟩ := by
  unfold Core.pre
  pointwise [k0_pay17]
  simp only [u2_eq, up2_eq]

theorem wide0_eq (q : Fin 1024) : k0_pay14 (h1 m c t) (iblk m c 5 t) (h1sq m c t) (up0 m c t) (up1 m c t) (ix2 a q) = (core m c).act (row t a) ⟨0 + q.val, by omega⟩ := by
  unfold Core.act
  pointwise [k0_pay14]
  simp only [u2_eq, up0_eq, up1_eq]
  unfold Core.pre
  by_cases h : q.val < 512
  · simp only [dif_pos h, Nat.zero_add]
  · have e : 512 + (q.val - 512) = 0 + q.val := by omega
    simp only [dif_neg h, e, Nat.zero_add]

theorem act0_eq (q : Fin 1024) : act0 m c t (ix2 a q) = (core m c).act (row t a) ⟨0 + q.val, by omega⟩ := by
  pointwise [k0_pay15]
  simp only [wide0_eq, Nat.zero_add]

theorem wide1_eq (q : Fin 1024) : k0_pay18 (u2 m c t) (pre2 m c t) (up3 m c t) (ix2 a q) = (core m c).act (row t a) ⟨1024 + q.val, by omega⟩ := by
  unfold Core.act
  pointwise [k0_pay18]
  simp only [u2_eq, pre2_eq, up3_eq]
  unfold Core.pre
  by_cases h : q.val < 512
  · simp only [dif_pos h, Nat.zero_add]
  · have e : 1536 + (q.val - 512) = 1024 + q.val := by omega
    simp only [dif_neg h, e, Nat.zero_add]

theorem act1_eq (q : Fin 1024) : act1 m c t (ix2 a q) = (core m c).act (row t a) ⟨1024 + q.val, by omega⟩ := by
  pointwise [k0_pay19]
  simp only [wide1_eq]

theorem wide2_eq (q : Fin 1024) : k0_pay20 (u2 m c t) (up4 m c t) (up5 m c t) (ix2 a q) = (core m c).act (row t a) ⟨2048 + q.val, by omega⟩ := by
  unfold Core.act
  pointwise [k0_pay20]
  simp only [u2_eq, up4_eq, up5_eq]
  unfold Core.pre
  by_cases h : q.val < 512
  · simp only [dif_pos h, Nat.zero_add]
  · have e : 2560 + (q.val - 512) = 2048 + q.val := by omega
    simp only [dif_neg h, e, Nat.zero_add]

theorem act2_eq (q : Fin 1024) : act2 m c t (ix2 a q) = (core m c).act (row t a) ⟨2048 + q.val, by omega⟩ := by
  pointwise [k0_pay21]
  simp only [wide2_eq]

theorem wide3_eq (q : Fin 1024) : k0_pay23 (u2 m c t) (up6 m c t) (up7 m c t) (ix2 a q) = (core m c).act (row t a) ⟨3072 + q.val, by omega⟩ := by
  unfold Core.act
  pointwise [k0_pay23]
  simp only [u2_eq, up6_eq, up7_eq]
  unfold Core.pre
  by_cases h : q.val < 512
  · simp only [dif_pos h, Nat.zero_add]
  · have e : 3584 + (q.val - 512) = 3072 + q.val := by omega
    simp only [dif_neg h, e, Nat.zero_add]

theorem act3_eq (q : Fin 1024) : act3 m c t (ix2 a q) = (core m c).act (row t a) ⟨3072 + q.val, by omega⟩ := by
  pointwise [k0_pay24]
  simp only [wide3_eq]

/-- What a chunk of the feed-forward's columns adds. -/
abbrev chunk (i : Fin 8192) (o : ℕ) (h : o + 1024 ≤ 4096) (j : Fin 1024) : EReal :=
  ∑ q : Fin 1024, (core m c).act i ⟨o + q.val, by omega⟩ * (core m c).act i ⟨o + q.val, by omega⟩ * X9 m c (ix3 0 ⟨o + q.val, by omega⟩ j)

theorem acc0_eq (j : Fin 1024) : acc0 m c t (ix2 a j) = chunk m c (row t a) 0 (by decide) j := by
  pointwise [k0_pay16]
  simp only [wide0_eq, down0_eq]

theorem acc2_eq (j : Fin 1024) : acc2 m c t (ix2 a j)
    = chunk m c (row t a) 0 (by decide) j + chunk m c (row t a) 1024 (by decide) j + chunk m c (row t a) 2048 (by decide) j := by
  pointwise [k0_pay22]
  simp only [acc0_eq, wide1_eq, down1_eq, wide2_eq, down2_eq]

theorem h2_eq (j : Fin 1024) : h2 m c t (ix2 a j) = (core m c).h2 (row t a) j := by
  unfold Core.h2
  rw [sum_ff]
  pointwise [k0_pay25]
  simp only [h1_eq, acc2_eq, wide3_eq, down3_eq, chunk, Nat.zero_add]

theorem r2_eq : r2 m c t (ix2 a 0) = rmsInv ((core m c).h2 (row t a)) := by
  pointwise [k0_pay26]
  simp only [h2_eq]

theorem xh2_eq (j : Fin 1024) : xh2 m c t (ix2 a j) = (core m c).h2 (row t a) j * rmsInv ((core m c).h2 (row t a)) := by
  pointwise [k0_pay27]
  simp only [h2_eq, r2_eq]

theorem diff_eq (j : Fin 1024) : diff m c t (ix2 a j) = (core m c).diff (row t a) j := by
  unfold Core.diff
  pointwise [k0_pay28]
  simp only [xh2_eq, blk6, blk4]

end Cert.Kernel2Ideal.Hand

end
-- ==== Proof.CoreBwd.lean ====
/- The gradients at one point of the middle call's grid. -/
module

public import proofs.«01_k».proof.Proof.CoreFwd

@[expose] public section

set_option maxRecDepth 16384

noncomputable section

open Idealize.ShloMosaic Idealize.ShloMosaic.TcCoe Idealize.SL.Sem

namespace Cert.Kernel2Ideal.Hand
open Cert.Kernel2Ideal Cert.Kernel2Ideal.Gen Cert.Math

variable (m : (ℓ : Loc nD τ sig) → Buf (Elt Ideal) ℓ) (c : Dev nD) (t : Fin cfg0.N)

abbrev dh2 : FVec Ideal S256x1024 .f32 := k0_pay33 (F := Ideal) (r2 m c t) (xh2 m c t) (diff m c t) (iblk m c 6 t)
abbrev dh2b : FVec Ideal S256x1024 .bf16 := k0_pay35 (F := Ideal) (r2 m c t) (xh2 m c t) (diff m c t) (iblk m c 6 t)
abbrev dap0 : FVec Ideal S256x1024 .bf16 := k0_pay37 (F := Ideal) (dh2b m c t) (down0 m c t) (act0 m c t)
abbrev back0 : FVec Ideal S256x1024 .f32 := k0_pay38 (F := Ideal) (dh2b m c t) k0_pay36 (down0 m c t) (act0 m c t) (up0 m c t) (up1 m c t)
abbrev dap1 : FVec Ideal S256x1024 .bf16 := k0_pay39 (F := Ideal) (dh2b m c t) (down1 m c t) (act1 m c t)
abbrev dap1h : FVec Ideal S256x512 .bf16 := k0_pay40 (F := Ideal) (dh2b m c t) (down1 m c t) (act1 m c t)
abbrev dap2 : FVec Ideal S256x1024 .bf16 := k0_pay41 (F := Ideal) (dh2b m c t) (down2 m c t) (act2 m c t)
abbrev back2 : FVec Ideal S256x1024 .f32 := k0_pay42 (F := Ideal) (dh2b m c t) (back0 m c t) (dap1 m c t) (dap1h m c t) (up2 m c t) (up3 m c t)
  (down2 m c t) (act2 m c t) (up4 m c t) (up5 m c t)
abbrev da3 : FVec Ideal S256x1024 .f32 := k0_pay43 (F := Ideal) (dh2b m c t) (down3 m c t)
abbrev dap3 : FVec Ideal S256x1024 .bf16 := k0_pay44 (F := Ideal) (da3 m c t) (act3 m c t)
abbrev du2 : FVec Ideal S256x1024 .f32 := k0_pay45 (F := Ideal) (back2 m c t) (da3 m c t) (act3 m c t) (up6 m c t) (up7 m c t)
abbrev back : FVec Ideal S256x1024 .f32 := k0_pay46 (F := Ideal) (r1 m c t) (xh1 m c t) (back2 m c t) (da3 m c t) (act3 m c t) (up6 m c t) (up7 m c t) (iblk m c 5 t)
abbrev dh1 : FVec Ideal S256x1024 .f32 := k0_pay48 (F := Ideal) (dh2 m c t) (back m c t)
abbrev dm : FVec Ideal S256x1024 .f32 := k0_pay50 (F := Ideal) (dh2 m c t) (back m c t) (iblk m c 9 t)

variable (a : Fin 256)

theorem dh2_eq (j : Fin 1024) : dh2 m c t (ix2 a j) = (core m c).dh2 (row t a) j := by
  unfold Core.dh2 normGrad Core.dy
  pointwise [k0_pay33, k0_pay32]
  simp only [diff_eq, xh2_eq, r2_eq, blk6]

theorem dh2b_eq (j : Fin 1024) : dh2b m c t (ix2 a j) = (core m c).dh2 (row t a) j := by
  pointwise [k0_pay35]
  exact dh2_eq m c t a j

theorem da3_eq (q : Fin 1024) : da3 m c t (ix2 a q) = (core m c).da (row t a) ⟨3072 + q.val, by omega⟩ := by
  unfold Core.da
  pointwise [k0_pay43]
  simp only [dh2b_eq, down3_eq]

theorem dap0_eq (q : Fin 1024) : dap0 m c t (ix2 a q) = (core m c).dap (row t a) ⟨0 + q.val, by omega⟩ := by
  unfold Core.dap Core.da
  pointwise [k0_pay37]
  simp only [dh2b_eq, down0_eq, act0_eq, Nat.zero_add]

theorem dap1_eq (q : Fin 1024) : dap1 m c t (ix2 a q) = (core m c).dap (row t a) ⟨1024 + q.val, by omega⟩ := by
  unfold Core.dap Core.da
  pointwise [k0_pay39]
  simp only [dh2b_eq, down1_eq, act1_eq, Nat.zero_add]

theorem dap1h_eq (q : Fin 512) : dap1h m c t (ix2 a q) = (core m c).dap (row t a) ⟨1024 + q.val, by omega⟩ := by
  pointwise [k0_pay40]
  exact dap1_eq m c t a ⟨q.val, by omega⟩

theorem dap2_eq (q : Fin 1024) : dap2 m c t (ix2 a q) = (core m c).dap (row t a) ⟨2048 + q.val, by omega⟩ := by
  unfold Core.dap Core.da
  pointwise [k0_pay41]
  simp only [dh2b_eq, down2_eq, act2_eq, Nat.zero_add]

theorem dap3_eq (q : Fin 1024) : dap3 m c t (ix2 a q) = (core m c).dap (row t a) ⟨3072 + q.val, by omega⟩ := by
  unfold Core.dap
  pointwise [k0_pay44]
  simp only [da3_eq, act3_eq]

/-- What a chunk of the feed-forward's columns adds to the normed row's gradient. -/
abbrev backChunk (i : Fin 8192) (o : ℕ) (h : o + 512 ≤ 4096) (k : Fin 1024) : EReal :=
  ∑ q : Fin 512, (core m c).dap i ⟨o + q.val, by omega⟩ * X8 m c (ix3 0 k ⟨o + q.val, by omega⟩)

theorem back0_eq (k : Fin 1024) : back0 m c t (ix2 a k) = backChunk m c (row t a) 0 (by decide) k + backChunk m c (row t a) 512 (by decide) k := by
  pointwise [k0_pay38, k0_pay36]
  simp only [dap0_eq, up0_eq, up1_eq, backChunk, Nat.zero_add]

theorem du2_eq (k : Fin 1024) : du2 m c t (ix2 a k) = (core m c).du2 (row t a) k := by
  unfold Core.du2
  rw [sum_ff]
  simp only [sum_half]
  pointwise [k0_pay45, k0_pay42]
  simp only [back0_eq, dap1h_eq, dap1_eq, dap2_eq, dap3_eq, up2_eq, up3_eq, up4_eq, up5_eq, up6_eq, up7_eq, backChunk, Nat.zero_add, ← add_assoc, Nat.reduceAdd]

theorem back_eq (j : Fin 1024) : back m c t (ix2 a j) = normGrad ((core m c).h1 (row t a)) (fun k => (core m c).du2 (row t a) k * (core m c).gm k) j := by
  unfold normGrad
  pointwise [k0_pay46]
  simp only [du2_eq, xh1_eq, r1_eq, blk5]

theorem dh1_eq (j : Fin 1024) : dh1 m c t (ix2 a j) = (core m c).dh1 (row t a) j := by
  unfold Core.dh1
  pointwise [k0_pay48]
  simp only [dh2_eq, back_eq]

theorem dh1b_eq (j : Fin 1024) : k0_pay49 (F := Ideal) (dh2 m c t) (back m c t) (ix2 a j) = (core m c).dh1 (row t a) j := by
  pointwise [k0_pay49]
  exact dh1_eq m c t a j

theorem dm_eq (j : Fin 1024) : dm m c t (ix2 a j) = (core m c).dm (row t a) j := by
  unfold Core.dm
  pointwise [k0_pay50]
  simp only [dh1b_eq, blk9]

theorem dyp_eq (j : Fin 1024) : k0_pay51 (F := Ideal) (gp m c t) (dh2 m c t) (back m c t) (iblk m c 9 t) (ix2 a j) = (core m c).dyp (row t a) j := by
  unfold Core.dyp
  pointwise [k0_pay51]
  simp only [dm_eq, gp_eq]

theorem dya_eq (j : Fin 1024) : k0_pay52 (F := Ideal) (ga m c t) (dh2 m c t) (back m c t) (iblk m c 9 t) (ix2 a j) = (core m c).dya (row t a) j := by
  unfold Core.dya
  pointwise [k0_pay52]
  simp only [dm_eq, ga_eq]

theorem dzp_eq (j : Fin 1024) :
    k0_pay53 (F := Ideal) (yp m c t) (gp m c t) (dh2 m c t) (back m c t) (iblk m c 9 t) (ix2 a j) = (core m c).dzp (row t a) j := by
  unfold Core.dzp
  pointwise [k0_pay53]
  simp only [dm_eq, gp_eq, yp_eq]

theorem dza_eq (j : Fin 1024) :
    k0_pay54 (F := Ideal) (ya m c t) (ga m c t) (dh2 m c t) (back m c t) (iblk m c 9 t) (ix2 a j) = (core m c).dza (row t a) j := by
  unfold Core.dza
  pointwise [k0_pay54]
  simp only [dm_eq, ga_eq, ya_eq]

theorem dpm_eq (k : Fin 512) :
    k0_pay55 (F := Ideal) (gp m c t) (dh2 m c t) (back m c t) (iblk m c 9 t) (iblk m c 7 t) (ix2 a k) = (core m c).dpm (row t a) k := by
  unfold Core.dpm
  pointwise [k0_pay55]
  simp only [dyp_eq, blk7]

theorem do_eq (k : Fin 512) :
    k0_pay1 (F := Ideal) (k0_pay52 (ga m c t) (dh2 m c t) (back m c t) (iblk m c 9 t)) (iblk m c 8 t) (ix2 a k) = (core m c).dob (row t a) k := by
  unfold Core.dob
  pointwise [k0_pay1]
  simp only [dya_eq, blk8]

/-- What a point adds to the gradient of the first norm's gains. -/
theorem dgm_eq (acc : FVec Ideal S1x1024 .f32) (j : Fin 1024) :
    k0_pay47 (F := Ideal) (xh1 m c t) (back2 m c t) (da3 m c t) (act3 m c t) (up6 m c t) (up7 m c t) acc (ix2 0 j)
      = acc (ix2 0 j) + ∑ b, (core m c).dgm (row t b) j := by
  unfold Core.dgm
  pointwise [k0_pay47]
  simp only [du2_eq, xh1_eq]

/-- What a point adds to the gradient of the last norm's gains. -/
theorem dgf_eq (acc : FVec Ideal S1x1024 .f32) (j : Fin 1024) :
    k0_pay34 (F := Ideal) (xh2 m c t) (diff m c t) acc (ix2 0 j) = acc (ix2 0 j) + ∑ b, (core m c).dgf (row t b) j := by
  unfold Core.dgf Core.dy
  pointwise [k0_pay34, k0_pay32]
  simp only [diff_eq, xh2_eq]

/-- What a point adds to the loss. -/
theorem loss_eq (acc : FVec Ideal S1x1024 .f32) (j : Fin 1024) :
    k0_pay31 (F := Ideal) (k0_pay29 acc) (k0_pay30 (h1 m c t) (u2 m c t) (acc2 m c t) (up6 m c t) (up7 m c t) (down3 m c t) (iblk m c 6 t) (iblk m c 4 t)) (ix2 0 j)
      = acc (ix2 0 j) + ∑ b, half * (core m c).msq (row t b) := by
  unfold Core.msq
  rw [← Core.half_sum]
  pointwise [k0_pay31, k0_pay30, k0_pay29]
  simp only [diff_eq, Fintype.sum_unique]

end Cert.Kernel2Ideal.Hand

end
-- ==== Proof.CoreOut.lean ====
/- What the middle call leaves in its ten result arrays. -/
module

public import proofs.«01_k».proof.Proof.CoreBwd
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Hand
open Cert.Kernel2Ideal Cert.Kernel2Ideal.Gen Cert.Math

variable (m : (ℓ : Loc nD τ sig) → Buf (Elt Ideal) ℓ) (c : Dev nD)

/-- An index of a block of 256 rows is its row and its column. -/
theorem pair_of {n : ℕ} (y : (⟨_, ![256, n]⟩ : Shape).Idx) : ∃ (a : Fin 256) (b : Fin n), y = ix2 a b :=
  ⟨y 0, y 1, by funext d; match d with | ⟨0, _⟩ => rfl | ⟨1, _⟩ => rfl⟩

/-- The four stretches of columns the positive parts are kept in. -/
abbrev st0 : Rect S256x4096 := Rect.unit ![0, 0] ![256, 1024] inb_S256x4096_S256x1024_0_0
abbrev st1 : Rect S256x4096 := Rect.unit ![0, 1024] ![256, 1024] inb_S256x4096_S256x1024_0_1024
abbrev st2 : Rect S256x4096 := Rect.unit ![0, 2048] ![256, 1024] inb_S256x4096_S256x1024_0_2048
abbrev st3 : Rect S256x4096 := Rect.unit ![0, 3072] ![256, 1024] inb_S256x4096_S256x1024_0_3072

section
variable (t : Fin cfg0.N) (w0 w1 w2 w3 : FVec Ideal S256x1024 .bf16)

/-- A positive part read back is what was written there. -/
theorem read0 : View.readCov (Val := Elt Ideal) (ms0_13 t).view [⟨st3, w3⟩, ⟨st2, w2⟩, ⟨st1, w1⟩, ⟨st0, w0⟩] st0.toLoadRect = w0 := by
  rw [View.readCov_skip _ _ _ _ _ (by decide), View.readCov_skip _ _ _ _ _ (by decide), View.readCov_skip _ _ _ _ _ (by decide),
    View.readCov_cons_toLoadRect]
theorem read1 : View.readCov (Val := Elt Ideal) (ms0_13 t).view [⟨st3, w3⟩, ⟨st2, w2⟩, ⟨st1, w1⟩, ⟨st0, w0⟩] st1.toLoadRect = w1 := by
  rw [View.readCov_skip _ _ _ _ _ (by decide), View.readCov_skip _ _ _ _ _ (by decide), View.readCov_cons_toLoadRect]
theorem read2 : View.readCov (Val := Elt Ideal) (ms0_13 t).view [⟨st3, w3⟩, ⟨st2, w2⟩, ⟨st1, w1⟩, ⟨st0, w0⟩] st2.toLoadRect = w2 := by
  rw [View.readCov_skip _ _ _ _ _ (by decide), View.readCov_cons_toLoadRect]
theorem read3 : View.readCov (Val := Elt Ideal) (ms0_13 t).view [⟨st3, w3⟩, ⟨st2, w2⟩, ⟨st1, w1⟩, ⟨st0, w0⟩] st3.toLoadRect = w3 := by
  rw [View.readCov_cons_toLoadRect]
end

/-- The same row function at the same place. -/
theorem place {n : ℕ} (f : Fin 8192 → Fin n → EReal) (t : Fin cfg0.N) {a a' : Fin 256} {b b' : Fin n} (ha : a'.val = a.val) (hb : b'.val = b.val) :
    f (row t a) b = f (row t a') b' := by
  obtain rfl := Fin.ext ha
  obtain rfl := Fin.ext hb
  rfl

/-- The results: the row functions as arrays. -/
abbrev resDh1 : FVec Ideal S8192x1024 .f32 := fun j => (core m c).dh1 (j 0) (j 1)
abbrev resAct : FVec Ideal S8192x4096 .bf16 := fun j => (core m c).act (j 0) (j 1)
abbrev resDap : FVec Ideal S8192x4096 .bf16 := fun j => (core m c).dap (j 0) (j 1)
abbrev resPacked : FVec Ideal S8192x4096 .bf16 := fun j => (core m c).packed (j 0) (j 1)
abbrev resDyp : FVec Ideal S8192x1024 .bf16 := fun j => (core m c).dyp (j 0) (j 1)
abbrev resDya : FVec Ideal S8192x1024 .bf16 := fun j => (core m c).dya (j 0) (j 1)
abbrev resDzg : FVec Ideal S8192x2048 .bf16 := fun j => (core m c).dzg (j 0) (j 1)
abbrev resDpm : FVec Ideal S8192x512 .f32 := fun j => (core m c).dpm (j 0) (j 1)
abbrev resDo : FVec Ideal S8192x512 .f32 := fun j => (core m c).dob (j 0) (j 1)

theorem final12 : (dats m 0 c).arrAt 12 cfg0.N = resDh1 m c := by
  refine (dats m 0 c).arrAt_eq_of_covers 12 _ (by decide +kernel) fun t _ y => ?_
  blk_simp
  have e : resDh1 m c (((cfg0.win 12).blk t).view.emb y) = resDh1 m c (ix2 (row t (y 0)) (y 1)) := by
    blk_ext [idx t]
  rw [after0_12, e]
  by_cases hz : t.val % 32 = 0
  all_goals
    first | rw [outsAt0_A m c t hz] | rw [outsAt0_B m c t hz]
    frame_out
    rw [read0, read1, read2, read3]
    obtain ⟨a, b, rfl⟩ := pair_of y
    exact dh1_eq m c t a b

theorem final13 : (dats m 0 c).arrAt 13 cfg0.N = resAct m c := by
  refine (dats m 0 c).arrAt_eq_of_covers 13 _ (by decide +kernel) fun t _ y => ?_
  blk_simp
  have e : resAct m c (((cfg0.win 13).blk t).view.emb y) = resAct m c (ix2 (row t (y 0)) (y 1)) := by
    blk_ext [idx t]
  rw [after0_13, e]
  by_cases hz : t.val % 32 = 0
  all_goals
    first | rw [outsAt0_A m c t hz] | rw [outsAt0_B m c t hz]
    frame_out
    canon_tiles x h
    all_goals obtain ⟨a, b, rfl⟩ := pair_of x
    case piece0 => exact (act3_eq m c t a b).trans (place (core m c).act t h0 h1)
    case piece1 => exact (act2_eq m c t a b).trans (place (core m c).act t h0 h1)
    case piece2 => exact (act1_eq m c t a b).trans (place (core m c).act t h0 h1)
    case piece3 => exact (act0_eq m c t a b).trans (place (core m c).act t h0 (h1.trans (Nat.zero_add _).symm))

theorem final14 : (dats m 0 c).arrAt 14 cfg0.N = resDap m c := by
  refine (dats m 0 c).arrAt_eq_of_covers 14 _ (by decide +kernel) fun t _ y => ?_
  blk_simp
  have e : resDap m c (((cfg0.win 14).blk t).view.emb y) = resDap m c (ix2 (row t (y 0)) (y 1)) := by
    blk_ext [idx t]
  rw [after0_14, e]
  by_cases hz : t.val % 32 = 0
  all_goals
    first | rw [outsAt0_A m c t hz] | rw [outsAt0_B m c t hz]
    frame_out
    rw [read0, read1, read2, read3]
    canon_tiles x h
    all_goals obtain ⟨a, b, rfl⟩ := pair_of x
    case piece0 => exact (dap3_eq m c t a b).trans (place (core m c).dap t h0 h1)
    case piece1 => exact (dap2_eq m c t a b).trans (place (core m c).dap t h0 h1)
    case piece2 => exact (dap1_eq m c t a b).trans (place (core m c).dap t h0 h1)
    case piece3 => exact (dap0_eq m c t a b).trans (place (core m c).dap t h0 (h1.trans (Nat.zero_add _).symm))

theorem final15 : (dats m 0 c).arrAt 15 cfg0.N = resPacked m c := by
  refine (dats m 0 c).arrAt_eq_of_covers 15 _ (by decide +kernel) fun t _ y => ?_
  blk_simp
  have e : resPacked m c (((cfg0.win 15).blk t).view.emb y) = resPacked m c (ix2 (row t (y 0)) (y 1)) := by
    blk_ext [idx t]
  rw [after0_15, e]
  by_cases hz : t.val % 32 = 0
  all_goals
    first | rw [outsAt0_A m c t hz] | rw [outsAt0_B m c t hz]
    frame_out
    try rw [read0, read1, read2, read3]
    canon_tiles x h
    all_goals obtain ⟨a, b, rfl⟩ := pair_of x
    case piece0 => exact ((dh1b_eq m c t a b).trans (Core.packed_3 _ _ b).symm).trans (place (core m c).packed t h0 h1)
    case piece1 => exact ((dh2b_eq m c t a b).trans (Core.packed_2 _ _ b).symm).trans (place (core m c).packed t h0 h1)
    case piece2 => exact ((u2_eq m c t a b).trans (Core.packed_1 _ _ b).symm).trans (place (core m c).packed t h0 h1)
    case piece3 => exact ((mixed_eq m c t a b).trans (Core.packed_0 _ _ b).symm).trans (place (core m c).packed t h0 h1)

theorem final17 : (dats m 0 c).arrAt 17 cfg0.N = resDyp m c := by
  refine (dats m 0 c).arrAt_eq_of_covers 17 _ (by decide +kernel) fun t _ y => ?_
  blk_simp
  have e : resDyp m c (((cfg0.win 17).blk t).view.emb y) = resDyp m c (ix2 (row t (y 0)) (y 1)) := by
    blk_ext [idx t]
  rw [after0_17, e]
  by_cases hz : t.val % 32 = 0
  all_goals
    first | rw [outsAt0_A m c t hz] | rw [outsAt0_B m c t hz]
    frame_out
    rw [read0, read1, read2, read3]
    obtain ⟨a, b, rfl⟩ := pair_of y
    exact dyp_eq m c t a b

theorem final18 : (dats m 0 c).arrAt 18 cfg0.N = resDya m c := by
  refine (dats m 0 c).arrAt_eq_of_covers 18 _ (by decide +kernel) fun t _ y => ?_
  blk_simp
  have e : resDya m c (((cfg0.win 18).blk t).view.emb y) = resDya m c (ix2 (row t (y 0)) (y 1)) := by
    blk_ext [idx t]
  rw [after0_18, e]
  by_cases hz : t.val % 32 = 0
  all_goals
    first | rw [outsAt0_A m c t hz] | rw [outsAt0_B m c t hz]
    frame_out
    rw [read0, read1, read2, read3]
    obtain ⟨a, b, rfl⟩ := pair_of y
    exact dya_eq m c t a b

theorem final19 : (dats m 0 c).arrAt 19 cfg0.N = resDzg m c := by
  refine (dats m 0 c).arrAt_eq_of_covers 19 _ (by decide +kernel) fun t _ y => ?_
  blk_simp
  have e : resDzg m c (((cfg0.win 19).blk t).view.emb y) = resDzg m c (ix2 (row t (y 0)) (y 1)) := by
    blk_ext [idx t]
  rw [after0_19, e]
  by_cases hz : t.val % 32 = 0
  all_goals
    first | rw [outsAt0_A m c t hz] | rw [outsAt0_B m c t hz]
    frame_out
    rw [read0, read1, read2, read3]
    canon_tiles x h
    all_goals obtain ⟨a, b, rfl⟩ := pair_of x
    case piece0 => exact ((dza_eq m c t a b).trans (Core.dzg_1 _ _ b).symm).trans (place (core m c).dzg t h0 h1)
    case piece1 => exact ((dzp_eq m c t a b).trans (Core.dzg_0 _ _ b).symm).trans (place (core m c).dzg t h0 h1)

theorem final20 : (dats m 0 c).arrAt 20 cfg0.N = resDpm m c := by
  refine (dats m 0 c).arrAt_eq_of_covers 20 _ (by decide +kernel) fun t _ y => ?_
  blk_simp
  have e : resDpm m c (((cfg0.win 20).blk t).view.emb y) = resDpm m c (ix2 (row t (y 0)) (y 1)) := by
    blk_ext [idx t]
  rw [after0_20, e]
  by_cases hz : t.val % 32 = 0
  all_goals
    first | rw [outsAt0_A m c t hz] | rw [outsAt0_B m c t hz]
    frame_out
    rw [read0, read1, read2, read3]
    obtain ⟨a, b, rfl⟩ := pair_of y
    exact dpm_eq m c t a b

theorem final21 : (dats m 0 c).arrAt 21 cfg0.N = resDo m c := by
  refine (dats m 0 c).arrAt_eq_of_covers 21 _ (by decide +kernel) fun t _ y => ?_
  blk_simp
  have e : resDo m c (((cfg0.win 21).blk t).view.emb y) = resDo m c (ix2 (row t (y 0)) (y 1)) := by
    blk_ext [idx t]
  rw [after0_21, e]
  by_cases hz : t.val % 32 = 0
  all_goals
    first | rw [outsAt0_A m c t hz] | rw [outsAt0_B m c t hz]
    frame_out
    rw [read0, read1, read2, read3]
    obtain ⟨a, b, rfl⟩ := pair_of y
    exact do_eq m c t a b

end Cert.Kernel2Ideal.Hand

end
-- ==== Proof.CoreSums.lean ====
/- The rows of sums the middle call leaves: the two gains' gradients and the loss. -/
module

public import proofs.«01_k».proof.Proof.CoreOut
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Hand
open Cert.Kernel2Ideal Cert.Kernel2Ideal.Gen Cert.Math

variable (m : (ℓ : Loc nD τ sig) → Buf (Elt Ideal) ℓ) (c : Dev nD)

/-- The eight rows of sums. -/
abbrev resSums : FVec Ideal S8x1024 .f32 := fun j => ∑ i : Fin 8192, (core m c).sums i (j 0) (j 1)

/-- What one point adds to them. -/
abbrev sumsTerm (t : Fin cfg0.N) (j : S8x1024.Idx) : EReal := ∑ a : Fin 256, (core m c).sums (row t a) (j 0) (j 1)

/-- An index of a row is its column. -/
theorem col_of (y : S1x1024.Idx) : ∃ b : Fin 1024, y = ix2 0 b :=
  ⟨y 1, by funext d; match d with | ⟨0, _⟩ => exact Subsingleton.elim (α := Fin 1) _ _ | ⟨1, _⟩ => rfl⟩

/-- Three rows written one after another: each row reads its own payload, the others what was there before. -/
theorem rows_read {κ : Kind} {sp : Space} (v : View sig κ sp S8x1024 .f32) (f : v.ty.Contents (Elt Ideal)) (w0 w1 w2 : S1x1024.Idx → EReal)
    (L : List (View.Piece (Elt Ideal) S8x1024 .f32)) (j : S8x1024.Idx) :
    v.read (Elt Ideal) (v.writes (Elt Ideal) f (⟨Rect.unit (s := S8x1024) ![0, 0] ![1, 1024] inb_S8x1024_S1x1024_0_0, w0⟩
        :: ⟨Rect.unit (s := S8x1024) ![1, 0] ![1, 1024] inb_S8x1024_S1x1024_1_0, w1⟩
        :: ⟨Rect.unit (s := S8x1024) ![2, 0] ![1, 1024] inb_S8x1024_S1x1024_2_0, w2⟩ :: L)) j
      = if (j 0).val < 1 then w0 (ix2 0 (j 1)) else if (j 0).val - 1 < 1 then w1 (ix2 0 (j 1))
        else if (j 0).val - 1 - 1 < 1 then w2 (ix2 0 (j 1)) else v.read (Elt Ideal) (v.writes (Elt Ideal) f L) j := by
  by_cases h0 : (j 0).val < 1
  · rw [if_pos h0]
    exact View.read_writes_cons_rows_of_mem v f _ _ _ _ (ix2 0 (j 1)) rfl (by simp; omega) rfl
  rw [if_neg h0, View.read_writes_cons_rows_of_not_mem (W := 1) v f _ _ _ _ rfl rfl (by omega)]
  by_cases h1 : (j 0).val - 1 < 1
  · rw [if_pos h1]
    exact View.read_writes_cons_rows_of_mem v f _ _ _ _ (ix2 0 (j 1)) rfl (by simp; omega) rfl
  rw [if_neg h1, View.read_writes_cons_rows_of_not_mem (W := 1) v f _ _ _ _ rfl rfl (by omega)]
  by_cases h2 : (j 0).val - 1 - 1 < 1
  · rw [if_pos h2]
    exact View.read_writes_cons_rows_of_mem v f _ _ _ _ (ix2 0 (j 1)) rfl (by simp; omega) rfl
  rw [if_neg h2, View.read_writes_cons_rows_of_not_mem (W := 1) v f _ _ _ _ rfl rfl (by omega)]

/-- A load of a row reads the row. -/
theorem ld_row (A : Vec Ideal S8x1024 .f32) {r : ℕ} (inb) (j : S8x1024.Idx) (h : (j 0).val = r) :
    View.ld A (Rect.unit (s := S8x1024) ![r, 0] ![1, 1024] inb) (ix2 0 (j 1)) = A j :=
  congrArg A (funext fun d => Fin.ext (by
    match d with
    | ⟨0, _⟩ => simp [Rect.unit, Rect.emb, h]
    | ⟨1, _⟩ => simp [Rect.unit, Rect.emb]))

/-- A point's three rows of terms, over whatever rows it read. -/
theorem rows_add {P0 P1 P2 : EReal} {acc : S8x1024.Idx → EReal} (t : Fin cfg0.N) (j : S8x1024.Idx)
    (h0 : (j 0).val < 1 → P0 = acc j + ∑ a, (core m c).dgm (row t a) (j 1))
    (h1 : (j 0).val - 1 < 1 → ¬(j 0).val < 1 → P1 = acc j + ∑ a, (core m c).dgf (row t a) (j 1))
    (h2 : (j 0).val - 1 - 1 < 1 → ¬(j 0).val - 1 < 1 → P2 = acc j + ∑ a, half * (core m c).msq (row t a)) :
    (if (j 0).val < 1 then P0 else if (j 0).val - 1 < 1 then P1 else if (j 0).val - 1 - 1 < 1 then P2 else acc j)
      = acc j + sumsTerm m c t j := by
  unfold sumsTerm Core.sums
  by_cases c0 : (j 0).val < 1
  · simp only [if_pos c0]; exact h0 c0
  by_cases c1 : (j 0).val - 1 < 1
  · simp only [if_neg c0, if_pos c1]; exact h1 c1 c0
  by_cases c2 : (j 0).val - 1 - 1 < 1
  · simp only [if_neg c0, if_neg c1, if_pos c2]; exact h2 c2 c1
  · simp only [if_neg c0, if_neg c1, if_neg c2, Finset.sum_const_zero, add_zero]

/-- The first point fills the rows with zeros. -/
theorem filled (j : S8x1024.Idx) :
    View.canon (Val := Elt Ideal) (s := S8x1024) (e := .f32) [⟨Rect.unit (s := S8x1024) ![0, 0] ![8, 1024] inb_S8x1024_S8x1024_0_0, k0_pay2 (F := Ideal)⟩] j
      = (0 : EReal) := by
  rw [View.canon_cons_unit_lit (S := S8x1024) _ _ _ (by decide)]
  obtain ⟨a, b, rfl⟩ : ∃ (a : Fin 8) (b : Fin 1024), j = ix2 a b := ⟨j 0, j 1, by funext d; match d with | ⟨0, _⟩ => rfl | ⟨1, _⟩ => rfl⟩
  pointwise [k0_pay2]

theorem final16 : (dats m 0 c).arrAt 16 cfg0.N = resSums m c := by
  refine (dats m 0 c).arrAt_eq_of_covers 16 _ (by decide +kernel) fun t hf y => ?_
  blk_simp
  have e : resSums m c (((cfg0.win 16).blk t).view.emb y) = resSums m c (ix2 (y 0) (y 1)) := by
    blk_ext [idx t]
  rw [after0_16, e, Pipeline.eq_sum_fin_of_reset_step_apply_of_flush (fun n h => (outsAt0 m c n h).2.2.2.2.1) 32 (fun _ => 0) (sumsTerm m c)
    (fun t h j => by
      rw [outsAt0_A m c t h]; frame_out
      rw [read0, read1, read2, read3]
      rw [← View.read_writes_junk_apply_eq_canon VO0_16, rows_read, View.read_writes_junk_apply_eq_canon]
      refine (rows_add (acc := View.canon (Val := Elt Ideal) (e := .f32) (s := S8x1024) _) m c t j (fun c0 => (dgm_eq m c t _ (j 1)).trans (congrArg (· + _) ?_))
        (fun c1 c0 => (dgf_eq m c t _ (j 1)).trans (congrArg (· + _) ?_)) (fun c2 c1 => (loss_eq m c t _ (j 1)).trans (congrArg (· + _) ?_))).trans (congrArg (· + _) ?_)
      · rw [View.readCov_skip _ _ _ _ _ (by decide), View.readCov_skip _ _ _ _ _ (by decide), View.readCov_eq_canon']
        exact (filled _).trans (filled _).symm
      · rw [View.readCov_skip _ _ _ _ _ (by decide), View.readCov_eq_canon']
        exact (filled _).trans (filled _).symm
      · rw [View.readCov_eq_canon']
        exact (filled _).trans (filled _).symm
      · exact filled j)
    (fun t h j => by
      rw [outsAt0_B m c t h]; frame_out
      rw [read0, read1, read2, read3, rows_read, View.writes_nil, Memref.IsWhole.read_unread]
      refine rows_add m c t j (fun c0 => (dgm_eq m c t _ (j 1)).trans (congrArg (· + _) ?_))
        (fun c1 c0 => (dgf_eq m c t _ (j 1)).trans (congrArg (· + _) ?_)) (fun c2 c1 => (loss_eq m c t _ (j 1)).trans (congrArg (· + _) ?_))
      all_goals exact ld_row _ _ _ (by omega)) t ((flush0_16 t).mp hf) _, zero_add]
  unfold sumsTerm resSums
  have hN : t.val < 32 := lt_of_lt_of_eq t.isLt N_0
  refine Fin.sum_mul_add_congr (S := 32) (n := 256) fun s k hl => ?_
  refine congrArg (fun i => (core m c).sums i (y 0) (y 1)) (Fin.ext ?_)
  show (32 * (t.val / 32) + s.val) * 256 + k.val = s.val * 256 + k.val
  omega

end Cert.Kernel2Ideal.Hand

end
-- ==== Proof.CoreRef.lean ====
/- The reference's stages, read at an index: each is the row function of the same name. -/
module

public import proofs.«01_k».proof.Proof.Gen.Reference2Ideal.Run
public import proofs.«01_k».proof.Proof.Gen.Reference2Ideal.Read
public import proofs.«01_k».proof.Proof.CoreSpec
public import proofs.«01_k».proof.Proof.HostSum

@[expose] public section

set_option maxRecDepth 16384

noncomputable section

open Idealize.ShloMosaic Idealize.ShloMosaic.TcCoe

namespace Cert.Reference2Ideal.Hand
open Cert.Reference2Ideal Cert.Reference2Ideal.Read Cert.Math

variable (x0 : FVec Ideal S1x8192x1024 .f32) (x1 x2 : FVec Ideal S1x8192x512 .f32) (x3 : FVec Ideal S1x8192x2048 .f32)
  (x4 x5 : FVec Ideal S1x512x1024 .f32) (x6 : FVec Ideal S1x1024x1024 .f32) (x7 : FVec Ideal S1x1024 .f32) (x8 : FVec Ideal S1x1024x4096 .f32)
  (x9 : FVec Ideal S1x4096x1024 .f32) (x10 : FVec Ideal S1024 .f32) (x11 : FVec Ideal S1x8192x1024 .f32)

/-- The reference's arrays. -/
abbrev core : Core where
  x i k := x0 (ix3 0 i k)
  pm i k := x1 (ix3 0 i k)
  o i k := x2 (ix3 0 i k)
  zg i k := x3 (ix3 0 i k)
  pp i k := x4 (ix3 0 i k)
  pa i k := x5 (ix3 0 i k)
  wo i k := x6 (ix3 0 i k)
  gm k := x7 (ix2 0 k)
  wu i k := x8 (ix3 0 i k)
  wd i k := x9 (ix3 0 i k)
  gf k := x10 (ix1 k)
  tgt i k := x11 (ix3 0 i k)

theorem v1_eq (i : Fin 8192) (j : Fin 1024) :
    val_main_v1 (F := Ideal) x1 x4 (ix3 0 i j) = (core x0 x1 x2 x3 x4 x5 x6 x7 x8 x9 x10 x11).yp i j := by
  rw [val_main_v1_apply]
  refine Finset.sum_congr rfl fun k _ => ?_
  have hl : lidx_main_v1 (ix3 0 i j) k = ix3 0 i k := by
    funext a; match a with | ⟨0, _⟩ => rfl | ⟨1, _⟩ => rfl | ⟨2, _⟩ => rfl
  have hr : ridx_main_v1 (ix3 0 i j) k = ix2 k j := by
    funext a; match a with | ⟨0, _⟩ => rfl | ⟨1, _⟩ => rfl
  rw [hl, hr]
  pointwise [val_main_v0]

theorem v3_eq (i : Fin 8192) (j : Fin 1024) :
    val_main_v3 (F := Ideal) x2 x5 (ix3 0 i j) = (core x0 x1 x2 x3 x4 x5 x6 x7 x8 x9 x10 x11).ya i j := by
  rw [val_main_v3_apply]
  refine Finset.sum_congr rfl fun k _ => ?_
  have hl : lidx_main_v3 (ix3 0 i j) k = ix3 0 i k := by
    funext a; match a with | ⟨0, _⟩ => rfl | ⟨1, _⟩ => rfl | ⟨2, _⟩ => rfl
  have hr : ridx_main_v3 (ix3 0 i j) k = ix2 k j := by
    funext a; match a with | ⟨0, _⟩ => rfl | ⟨1, _⟩ => rfl
  rw [hl, hr]
  pointwise [val_main_v2]

theorem v10_eq (i : Fin 8192) (j : Fin 1024) :
    val_main_v10 (F := Ideal) x3 (ix3 0 i j) = (core x0 x1 x2 x3 x4 x5 x6 x7 x8 x9 x10 x11).gp i j := by
  unfold Core.gp Ideal.logistic
  pointwise [val_main_v4, val_main_v5, val_main_v6, val_main_v7, val_main_cst, val_main_v8, val_main_v9, val_main_cst_0, val_main_v10]

theorem v20_eq (i : Fin 8192) (j : Fin 1024) :
    val_main_v20 (F := Ideal) x3 (ix3 0 i j) = (core x0 x1 x2 x3 x4 x5 x6 x7 x8 x9 x10 x11).ga i j := by
  unfold Core.ga Ideal.logistic
  pointwise [val_main_v14, val_main_v15, val_main_v16, val_main_v17, val_main_cst_2, val_main_v18, val_main_v19, val_main_cst_3, val_main_v20]

theorem v26_eq (i : Fin 8192) (j : Fin 1024) :
    val_main_v26 (F := Ideal) x1 x2 x3 x4 x5 (ix3 0 i j) = (core x0 x1 x2 x3 x4 x5 x6 x7 x8 x9 x10 x11).mixed i j := by
  unfold Core.mixed
  pointwise [val_main_v24, val_main_v25, val_main_v26]
  simp only [v1_eq x0 x1 x2 x3 x4 x5 x6 x7 x8 x9 x10 x11, v3_eq x0 x1 x2 x3 x4 x5 x6 x7 x8 x9 x10 x11, v10_eq x0 x1 x2 x3 x4 x5 x6 x7 x8 x9 x10 x11, v20_eq x0 x1 x2 x3 x4 x5 x6 x7 x8 x9 x10 x11]

theorem v28_eq (i : Fin 8192) (j : Fin 1024) :
    val_main_v28 (F := Ideal) x1 x2 x3 x4 x5 x6 (ix3 0 i j) = (∑ k, (core x0 x1 x2 x3 x4 x5 x6 x7 x8 x9 x10 x11).mixed i k * (core x0 x1 x2 x3 x4 x5 x6 x7 x8 x9 x10 x11).wo k j : EReal) := by
  rw [val_main_v28_apply]
  refine Finset.sum_congr rfl fun k _ => ?_
  have hl : lidx_main_v28 (ix3 0 i j) k = ix3 0 i k := by
    funext a; match a with | ⟨0, _⟩ => rfl | ⟨1, _⟩ => rfl | ⟨2, _⟩ => rfl
  have hr : ridx_main_v28 (ix3 0 i j) k = ix2 k j := by
    funext a; match a with | ⟨0, _⟩ => rfl | ⟨1, _⟩ => rfl
  rw [hl, hr]
  rw [v26_eq x0 x1 x2 x3 x4 x5 x6 x7 x8 x9 x10 x11]
  pointwise [val_main_v27]

theorem v29_eq (i : Fin 8192) (j : Fin 1024) :
    val_main_v29 (F := Ideal) x0 x1 x2 x3 x4 x5 x6 (ix3 0 i j) = (core x0 x1 x2 x3 x4 x5 x6 x7 x8 x9 x10 x11).h1 i j := by
  unfold Core.h1
  pointwise [val_main_v29]
  simp only [v28_eq x0 x1 x2 x3 x4 x5 x6 x7 x8 x9 x10 x11]

theorem v38_eq (i : Fin 8192) :
    val_main_v38 (F := Ideal) x0 x1 x2 x3 x4 x5 x6 (ix3 0 i 0) = rmsInv ((core x0 x1 x2 x3 x4 x5 x6 x7 x8 x9 x10 x11).h1 i) := by
  pointwise [val_main_v31, val_main_v32, val_main_cst_5, val_main_v33, val_main_v34, val_main_cst_6, val_main_v35, val_main_v36, val_main_cst_7, val_main_v37, val_main_v38]
  simp only [v29_eq x0 x1 x2 x3 x4 x5 x6 x7 x8 x9 x10 x11]

theorem v46_eq (i : Fin 8192) (j : Fin 1024) :
    val_main_v46 (F := Ideal) x0 x1 x2 x3 x4 x5 x6 x7 (ix3 0 i j) = (core x0 x1 x2 x3 x4 x5 x6 x7 x8 x9 x10 x11).u2 i j := by
  unfold Core.u2
  pointwise [val_main_v30, val_main_v42, val_main_v43, val_main_v44, val_main_v45, val_main_v46]
  simp only [v29_eq x0 x1 x2 x3 x4 x5 x6 x7 x8 x9 x10 x11, v38_eq x0 x1 x2 x3 x4 x5 x6 x7 x8 x9 x10 x11]

theorem v48_eq (i : Fin 8192) (j : Fin 4096) :
    val_main_v48 (F := Ideal) x0 x1 x2 x3 x4 x5 x6 x7 x8 (ix3 0 i j) = (core x0 x1 x2 x3 x4 x5 x6 x7 x8 x9 x10 x11).pre i j := by
  rw [val_main_v48_apply]
  refine Finset.sum_congr rfl fun k _ => ?_
  have hl : lidx_main_v48 (ix3 0 i j) k = ix3 0 i k := by
    funext a; match a with | ⟨0, _⟩ => rfl | ⟨1, _⟩ => rfl | ⟨2, _⟩ => rfl
  have hr : ridx_main_v48 (ix3 0 i j) k = ix2 k j := by
    funext a; match a with | ⟨0, _⟩ => rfl | ⟨1, _⟩ => rfl
  rw [hl, hr]
  rw [v46_eq x0 x1 x2 x3 x4 x5 x6 x7 x8 x9 x10 x11]
  pointwise [val_main_v47]

theorem v49_eq (i : Fin 8192) (j : Fin 4096) :
    val_main_v49 (F := Ideal) x0 x1 x2 x3 x4 x5 x6 x7 x8 (ix3 0 i j) = (core x0 x1 x2 x3 x4 x5 x6 x7 x8 x9 x10 x11).act i j := by
  unfold Core.act
  pointwise [val_main_v49, val_main_call0_v0, val_main_call0_cst]
  simp only [v48_eq x0 x1 x2 x3 x4 x5 x6 x7 x8 x9 x10 x11]

theorem v55_eq (i : Fin 8192) (j : Fin 1024) :
    val_main_v55 (F := Ideal) x0 x1 x2 x3 x4 x5 x6 x7 x8 x9 (ix3 0 i j) = (∑ f, (core x0 x1 x2 x3 x4 x5 x6 x7 x8 x9 x10 x11).act i f * (core x0 x1 x2 x3 x4 x5 x6 x7 x8 x9 x10 x11).act i f * (core x0 x1 x2 x3 x4 x5 x6 x7 x8 x9 x10 x11).wd f j : EReal) := by
  rw [val_main_v55_apply]
  refine Finset.sum_congr rfl fun k _ => ?_
  have hl : lidx_main_v55 (ix3 0 i j) k = ix3 0 i k := by
    funext a; match a with | ⟨0, _⟩ => rfl | ⟨1, _⟩ => rfl | ⟨2, _⟩ => rfl
  have hr : ridx_main_v55 (ix3 0 i j) k = ix2 k j := by
    funext a; match a with | ⟨0, _⟩ => rfl | ⟨1, _⟩ => rfl
  rw [hl, hr]
  pointwise [val_main_v53, val_main_v54]
  simp only [v49_eq x0 x1 x2 x3 x4 x5 x6 x7 x8 x9 x10 x11]

theorem v56_eq (i : Fin 8192) (j : Fin 1024) :
    val_main_v56 (F := Ideal) x0 x1 x2 x3 x4 x5 x6 x7 x8 x9 (ix3 0 i j) = (core x0 x1 x2 x3 x4 x5 x6 x7 x8 x9 x10 x11).h2 i j := by
  unfold Core.h2
  pointwise [val_main_v56]
  simp only [v29_eq x0 x1 x2 x3 x4 x5 x6 x7 x8 x9 x10 x11, v55_eq x0 x1 x2 x3 x4 x5 x6 x7 x8 x9 x10 x11]

theorem v64_eq (i : Fin 8192) :
    val_main_v64 (F := Ideal) x0 x1 x2 x3 x4 x5 x6 x7 x8 x9 (ix3 0 i 0) = rmsInv ((core x0 x1 x2 x3 x4 x5 x6 x7 x8 x9 x10 x11).h2 i) := by
  pointwise [val_main_v57, val_main_v58, val_main_cst_11, val_main_v59, val_main_v60, val_main_cst_12, val_main_v61, val_main_v62, val_main_cst_13, val_main_v63, val_main_v64]
  simp only [v56_eq x0 x1 x2 x3 x4 x5 x6 x7 x8 x9 x10 x11]

theorem v73_eq (i : Fin 8192) (j : Fin 1024) :
    val_main_v73 (F := Ideal) x0 x1 x2 x3 x4 x5 x6 x7 x8 x9 x10 x11 (ix3 0 i j) = (core x0 x1 x2 x3 x4 x5 x6 x7 x8 x9 x10 x11).diff i j := by
  unfold Core.diff
  pointwise [val_main_v68, val_main_v69, val_main_v70, val_main_v71, val_main_v72, val_main_v73]
  simp only [v56_eq x0 x1 x2 x3 x4 x5 x6 x7 x8 x9 x10 x11, v64_eq x0 x1 x2 x3 x4 x5 x6 x7 x8 x9 x10 x11]

theorem v37_eq (i : Fin 8192) :
    val_main_v37 (F := Ideal) x0 x1 x2 x3 x4 x5 x6 (ix3 0 i 0) = msEps ((core x0 x1 x2 x3 x4 x5 x6 x7 x8 x9 x10 x11).h1 i) := by
  pointwise [val_main_v31, val_main_v32, val_main_cst_5, val_main_v33, val_main_v34, val_main_cst_6, val_main_v35, val_main_v36, val_main_cst_7, val_main_v37]
  simp only [v29_eq x0 x1 x2 x3 x4 x5 x6 x7 x8 x9 x10 x11]

theorem v63_eq (i : Fin 8192) :
    val_main_v63 (F := Ideal) x0 x1 x2 x3 x4 x5 x6 x7 x8 x9 (ix3 0 i 0) = msEps ((core x0 x1 x2 x3 x4 x5 x6 x7 x8 x9 x10 x11).h2 i) := by
  pointwise [val_main_v57, val_main_v58, val_main_cst_11, val_main_v59, val_main_v60, val_main_cst_12, val_main_v61, val_main_v62, val_main_cst_13, val_main_v63]
  simp only [v56_eq x0 x1 x2 x3 x4 x5 x6 x7 x8 x9 x10 x11]

theorem v87_eq (hA : (core x0 x1 x2 x3 x4 x5 x6 x7 x8 x9 x10 x11).Finite) (i : Fin 8192) (j : Fin 1024) :
    val_main_v87 (F := Ideal) x0 x1 x2 x3 x4 x5 x6 x7 x8 x9 x10 x11 (ix3 0 i j) = (core x0 x1 x2 x3 x4 x5 x6 x7 x8 x9 x10 x11).dy i j := by
  rw [Core.dy_eq i hA]
  pointwise [val_main_v75, val_main_cst_15, val_main_v76, val_main_v82, val_main_cst_20, val_main_cst_21, val_main_v83, val_main_v84, val_main_cst_22, val_main_v85, val_main_v86, val_main_v87]
  simp only [v73_eq x0 x1 x2 x3 x4 x5 x6 x7 x8 x9 x10 x11]

theorem v108_eq (hA : (core x0 x1 x2 x3 x4 x5 x6 x7 x8 x9 x10 x11).Finite) (i : Fin 8192) (j : Fin 1024) :
    val_main_v108 (F := Ideal) x0 x1 x2 x3 x4 x5 x6 x7 x8 x9 x10 x11 (ix3 0 i j) = (core x0 x1 x2 x3 x4 x5 x6 x7 x8 x9 x10 x11).dh2 i j := by
  rw [Core.dh2_eq i hA]
  pointwise [hostReduceAdd_col, val_main_v65, val_main_v66, val_main_cst_14, val_main_v67, val_main_v70, val_main_v91, val_main_v92, val_main_v94, val_main_v95, val_main_cst_25, val_main_v96, val_main_v97, val_main_v98, val_main_v99, val_main_v100, val_main_cst_26, val_main_v101, val_main_v102, val_main_cst_27, val_main_v103, val_main_v104, val_main_v105, val_main_v106, val_main_v107, val_main_v108]
  simp only [v56_eq x0 x1 x2 x3 x4 x5 x6 x7 x8 x9 x10 x11, v64_eq x0 x1 x2 x3 x4 x5 x6 x7 x8 x9 x10 x11, v63_eq x0 x1 x2 x3 x4 x5 x6 x7 x8 x9 x10 x11, v87_eq x0 x1 x2 x3 x4 x5 x6 x7 x8 x9 x10 x11 hA]

theorem v109_eq (hA : (core x0 x1 x2 x3 x4 x5 x6 x7 x8 x9 x10 x11).Finite) (i : Fin 8192) (j : Fin 4096) :
    val_main_v109 (F := Ideal) x0 x1 x2 x3 x4 x5 x6 x7 x8 x9 x10 x11 (ix3 0 i j) = (core x0 x1 x2 x3 x4 x5 x6 x7 x8 x9 x10 x11).da i j := by
  rw [val_main_v109_apply]
  refine Finset.sum_congr rfl fun k _ => ?_
  have hl : lidx_main_v109 (ix3 0 i j) k = ix3 0 i k := by
    funext a; match a with | ⟨0, _⟩ => rfl | ⟨1, _⟩ => rfl | ⟨2, _⟩ => rfl
  have hr : ridx_main_v109 (ix3 0 i j) k = ix2 j k := by
    funext a; match a with | ⟨0, _⟩ => rfl | ⟨1, _⟩ => rfl
  rw [hl, hr]
  rw [v108_eq x0 x1 x2 x3 x4 x5 x6 x7 x8 x9 x10 x11 hA]
  pointwise [val_main_v54]

theorem v114_eq (hA : (core x0 x1 x2 x3 x4 x5 x6 x7 x8 x9 x10 x11).Finite) (i : Fin 8192) (j : Fin 4096) :
    val_main_v114 (F := Ideal) x0 x1 x2 x3 x4 x5 x6 x7 x8 x9 x10 x11 (ix3 0 i j) = (core x0 x1 x2 x3 x4 x5 x6 x7 x8 x9 x10 x11).dap i j := by
  rw [Core.dap_eq i hA]
  pointwise [val_main_v50, val_main_cst_9, val_main_v51, val_main_v110, val_main_v111, val_main_v112, val_main_v113, val_main_cst_28, val_main_v114]
  simp only [v48_eq x0 x1 x2 x3 x4 x5 x6 x7 x8 x9 x10 x11, v49_eq x0 x1 x2 x3 x4 x5 x6 x7 x8 x9 x10 x11, v109_eq x0 x1 x2 x3 x4 x5 x6 x7 x8 x9 x10 x11 hA]

theorem v115_eq (hA : (core x0 x1 x2 x3 x4 x5 x6 x7 x8 x9 x10 x11).Finite) (i : Fin 8192) (j : Fin 1024) :
    val_main_v115 (F := Ideal) x0 x1 x2 x3 x4 x5 x6 x7 x8 x9 x10 x11 (ix3 0 i j) = (core x0 x1 x2 x3 x4 x5 x6 x7 x8 x9 x10 x11).du2 i j := by
  rw [val_main_v115_apply]
  refine Finset.sum_congr rfl fun k _ => ?_
  have hl : lidx_main_v115 (ix3 0 i j) k = ix3 0 i k := by
    funext a; match a with | ⟨0, _⟩ => rfl | ⟨1, _⟩ => rfl | ⟨2, _⟩ => rfl
  have hr : ridx_main_v115 (ix3 0 i j) k = ix2 j k := by
    funext a; match a with | ⟨0, _⟩ => rfl | ⟨1, _⟩ => rfl
  rw [hl, hr]
  rw [v114_eq x0 x1 x2 x3 x4 x5 x6 x7 x8 x9 x10 x11 hA]
  pointwise [val_main_v47]

theorem v137_eq (hA : (core x0 x1 x2 x3 x4 x5 x6 x7 x8 x9 x10 x11).Finite) (i : Fin 8192) (j : Fin 1024) :
    val_main_v137 (F := Ideal) x0 x1 x2 x3 x4 x5 x6 x7 x8 x9 x10 x11 (ix3 0 i j) = (core x0 x1 x2 x3 x4 x5 x6 x7 x8 x9 x10 x11).dh1 i j := by
  rw [Core.dh1_eq i hA]
  pointwise [hostReduceAdd_col, val_main_v30, val_main_v39, val_main_v40, val_main_cst_8, val_main_v41, val_main_v44, val_main_v119, val_main_v120, val_main_v122, val_main_v123, val_main_cst_31, val_main_v124, val_main_v125, val_main_v126, val_main_v127, val_main_v128, val_main_cst_32, val_main_v129, val_main_v130, val_main_cst_33, val_main_v131, val_main_v132, val_main_v133, val_main_v134, val_main_v135, val_main_v136, val_main_v137]
  simp only [v29_eq x0 x1 x2 x3 x4 x5 x6 x7 x8 x9 x10 x11, v38_eq x0 x1 x2 x3 x4 x5 x6 x7 x8 x9 x10 x11, v37_eq x0 x1 x2 x3 x4 x5 x6 x7 x8 x9 x10 x11, v108_eq x0 x1 x2 x3 x4 x5 x6 x7 x8 x9 x10 x11 hA, v115_eq x0 x1 x2 x3 x4 x5 x6 x7 x8 x9 x10 x11 hA]

theorem v138_eq (hA : (core x0 x1 x2 x3 x4 x5 x6 x7 x8 x9 x10 x11).Finite) (i : Fin 8192) (j : Fin 1024) :
    val_main_v138 (F := Ideal) x0 x1 x2 x3 x4 x5 x6 x7 x8 x9 x10 x11 (ix3 0 i j) = (core x0 x1 x2 x3 x4 x5 x6 x7 x8 x9 x10 x11).dm i j := by
  rw [val_main_v138_apply]
  refine Finset.sum_congr rfl fun k _ => ?_
  have hl : lidx_main_v138 (ix3 0 i j) k = ix3 0 i k := by
    funext a; match a with | ⟨0, _⟩ => rfl | ⟨1, _⟩ => rfl | ⟨2, _⟩ => rfl
  have hr : ridx_main_v138 (ix3 0 i j) k = ix2 j k := by
    funext a; match a with | ⟨0, _⟩ => rfl | ⟨1, _⟩ => rfl
  rw [hl, hr]
  rw [v137_eq x0 x1 x2 x3 x4 x5 x6 x7 x8 x9 x10 x11 hA]
  pointwise [val_main_v27]

theorem v141_eq (hA : (core x0 x1 x2 x3 x4 x5 x6 x7 x8 x9 x10 x11).Finite) (i : Fin 8192) (j : Fin 1024) :
    val_main_v141 (F := Ideal) x0 x1 x2 x3 x4 x5 x6 x7 x8 x9 x10 x11 (ix3 0 i j) = (core x0 x1 x2 x3 x4 x5 x6 x7 x8 x9 x10 x11).dyp i j := by
  unfold Core.dyp
  rw [mul_comm]
  pointwise [val_main_v141]
  simp only [v10_eq x0 x1 x2 x3 x4 x5 x6 x7 x8 x9 x10 x11, v138_eq x0 x1 x2 x3 x4 x5 x6 x7 x8 x9 x10 x11 hA]

theorem v139_eq (hA : (core x0 x1 x2 x3 x4 x5 x6 x7 x8 x9 x10 x11).Finite) (i : Fin 8192) (j : Fin 1024) :
    val_main_v139 (F := Ideal) x0 x1 x2 x3 x4 x5 x6 x7 x8 x9 x10 x11 (ix3 0 i j) = (core x0 x1 x2 x3 x4 x5 x6 x7 x8 x9 x10 x11).dya i j := by
  unfold Core.dya
  rw [mul_comm]
  pointwise [val_main_v139]
  simp only [v20_eq x0 x1 x2 x3 x4 x5 x6 x7 x8 x9 x10 x11, v138_eq x0 x1 x2 x3 x4 x5 x6 x7 x8 x9 x10 x11 hA]

theorem v145_eq (hA : (core x0 x1 x2 x3 x4 x5 x6 x7 x8 x9 x10 x11).Finite) (i : Fin 8192) (j : Fin 1024) :
    val_main_v145 (F := Ideal) x0 x1 x2 x3 x4 x5 x6 x7 x8 x9 x10 x11 (ix3 0 i j) = (core x0 x1 x2 x3 x4 x5 x6 x7 x8 x9 x10 x11).dzp i j := by
  unfold Core.dzp
  pointwise [val_main_v11, val_main_cst_1, val_main_v12, val_main_v13, val_main_v142, val_main_v145]
  simp only [v10_eq x0 x1 x2 x3 x4 x5 x6 x7 x8 x9 x10 x11, v1_eq x0 x1 x2 x3 x4 x5 x6 x7 x8 x9 x10 x11, v138_eq x0 x1 x2 x3 x4 x5 x6 x7 x8 x9 x10 x11 hA]

theorem v143_eq (hA : (core x0 x1 x2 x3 x4 x5 x6 x7 x8 x9 x10 x11).Finite) (i : Fin 8192) (j : Fin 1024) :
    val_main_v143 (F := Ideal) x0 x1 x2 x3 x4 x5 x6 x7 x8 x9 x10 x11 (ix3 0 i j) = (core x0 x1 x2 x3 x4 x5 x6 x7 x8 x9 x10 x11).dza i j := by
  unfold Core.dza
  pointwise [val_main_v21, val_main_cst_4, val_main_v22, val_main_v23, val_main_v140, val_main_v143]
  simp only [v20_eq x0 x1 x2 x3 x4 x5 x6 x7 x8 x9 x10 x11, v3_eq x0 x1 x2 x3 x4 x5 x6 x7 x8 x9 x10 x11, v138_eq x0 x1 x2 x3 x4 x5 x6 x7 x8 x9 x10 x11 hA]

theorem v149_eq (hA : (core x0 x1 x2 x3 x4 x5 x6 x7 x8 x9 x10 x11).Finite) (i : Fin 8192) (j : Fin 512) :
    val_main_v149 (F := Ideal) x0 x1 x2 x3 x4 x5 x6 x7 x8 x9 x10 x11 (ix3 0 i j) = (core x0 x1 x2 x3 x4 x5 x6 x7 x8 x9 x10 x11).dpm i j := by
  rw [val_main_v149_apply]
  refine Finset.sum_congr rfl fun k _ => ?_
  have hl : lidx_main_v149 (ix3 0 i j) k = ix3 0 i k := by
    funext a; match a with | ⟨0, _⟩ => rfl | ⟨1, _⟩ => rfl | ⟨2, _⟩ => rfl
  have hr : ridx_main_v149 (ix3 0 i j) k = ix2 j k := by
    funext a; match a with | ⟨0, _⟩ => rfl | ⟨1, _⟩ => rfl
  rw [hl, hr]
  rw [v141_eq x0 x1 x2 x3 x4 x5 x6 x7 x8 x9 x10 x11 hA]
  pointwise [val_main_v0]

theorem v148_eq (hA : (core x0 x1 x2 x3 x4 x5 x6 x7 x8 x9 x10 x11).Finite) (i : Fin 8192) (j : Fin 512) :
    val_main_v148 (F := Ideal) x0 x1 x2 x3 x4 x5 x6 x7 x8 x9 x10 x11 (ix3 0 i j) = (core x0 x1 x2 x3 x4 x5 x6 x7 x8 x9 x10 x11).dob i j := by
  rw [val_main_v148_apply]
  refine Finset.sum_congr rfl fun k _ => ?_
  have hl : lidx_main_v148 (ix3 0 i j) k = ix3 0 i k := by
    funext a; match a with | ⟨0, _⟩ => rfl | ⟨1, _⟩ => rfl | ⟨2, _⟩ => rfl
  have hr : ridx_main_v148 (ix3 0 i j) k = ix2 j k := by
    funext a; match a with | ⟨0, _⟩ => rfl | ⟨1, _⟩ => rfl
  rw [hl, hr]
  rw [v139_eq x0 x1 x2 x3 x4 x5 x6 x7 x8 x9 x10 x11 hA]
  pointwise [val_main_v2]

theorem v93_eq (hA : (core x0 x1 x2 x3 x4 x5 x6 x7 x8 x9 x10 x11).Finite) (j : Fin 1024) :
    val_main_v93 (F := Ideal) x0 x1 x2 x3 x4 x5 x6 x7 x8 x9 x10 x11 (ix1 j) = (∑ i, (core x0 x1 x2 x3 x4 x5 x6 x7 x8 x9 x10 x11).dgf i j : EReal) := by
  unfold Core.dgf
  refine Eq.trans ?_ (Finset.sum_congr rfl fun i _ => mul_comm _ _)
  pointwise [hostReduceAdd_row, val_main_v69, val_main_v68, val_main_v88, val_main_v89, val_main_cst_23, val_main_v90, val_main_v93, val_main_cst_24]
  simp only [v56_eq x0 x1 x2 x3 x4 x5 x6 x7 x8 x9 x10 x11, v64_eq x0 x1 x2 x3 x4 x5 x6 x7 x8 x9 x10 x11, v87_eq x0 x1 x2 x3 x4 x5 x6 x7 x8 x9 x10 x11 hA]

theorem v121_eq (hA : (core x0 x1 x2 x3 x4 x5 x6 x7 x8 x9 x10 x11).Finite) (j : Fin 1024) :
    val_main_v121 (F := Ideal) x0 x1 x2 x3 x4 x5 x6 x7 x8 x9 x10 x11 (ix1 j) = (∑ i, (core x0 x1 x2 x3 x4 x5 x6 x7 x8 x9 x10 x11).dgm i j : EReal) := by
  unfold Core.dgm
  refine Eq.trans ?_ (Finset.sum_congr rfl fun i _ => mul_comm _ _)
  pointwise [hostReduceAdd_row, val_main_v42, val_main_v43, val_main_v116, val_main_v117, val_main_cst_29, val_main_v118, val_main_v121, val_main_cst_30]
  simp only [v29_eq x0 x1 x2 x3 x4 x5 x6 x7 x8 x9 x10 x11, v38_eq x0 x1 x2 x3 x4 x5 x6 x7 x8 x9 x10 x11, v115_eq x0 x1 x2 x3 x4 x5 x6 x7 x8 x9 x10 x11 hA]

theorem v81_eq (hA : (core x0 x1 x2 x3 x4 x5 x6 x7 x8 x9 x10 x11).Finite) :
    val_main_v81 (F := Ideal) x0 x1 x2 x3 x4 x5 x6 x7 x8 x9 x10 x11 ix0 = (∑ i, half * (core x0 x1 x2 x3 x4 x5 x6 x7 x8 x9 x10 x11).msq i : EReal) := by
  rw [← Core.half_sum]
  unfold Core.msq
  pointwise [val_main_v74, val_main_v77, val_main_cst_16, val_main_v78, val_main_cst_17, val_main_v79, val_main_v80, val_main_cst_18, val_main_v81, val_main_cst_19]
  simp only [v73_eq x0 x1 x2 x3 x4 x5 x6 x7 x8 x9 x10 x11]
  rw [Fintype.sum_unique]

theorem v158_eq (hA : (core x0 x1 x2 x3 x4 x5 x6 x7 x8 x9 x10 x11).Finite) (i : Fin 8192) (j : Fin 1024) :
    val_main_v158 (F := Ideal) x0 x1 x2 x3 x4 x5 x6 x7 x8 x9 x10 x11 (ix2 i j) = (core x0 x1 x2 x3 x4 x5 x6 x7 x8 x9 x10 x11).dh1 i j := by
  pointwise [val_main_v158]
  exact v137_eq x0 x1 x2 x3 x4 x5 x6 x7 x8 x9 x10 x11 hA i j

theorem v160_eq (i : Fin 8192) (j : Fin 4096) :
    val_main_v160 (F := Ideal) x0 x1 x2 x3 x4 x5 x6 x7 x8 (ix2 i j) = (core x0 x1 x2 x3 x4 x5 x6 x7 x8 x9 x10 x11).act i j := by
  pointwise [val_main_v159, val_main_v160]
  exact v49_eq x0 x1 x2 x3 x4 x5 x6 x7 x8 x9 x10 x11 i j

theorem v162_eq (hA : (core x0 x1 x2 x3 x4 x5 x6 x7 x8 x9 x10 x11).Finite) (i : Fin 8192) (j : Fin 4096) :
    val_main_v162 (F := Ideal) x0 x1 x2 x3 x4 x5 x6 x7 x8 x9 x10 x11 (ix2 i j) = (core x0 x1 x2 x3 x4 x5 x6 x7 x8 x9 x10 x11).dap i j := by
  pointwise [val_main_v161, val_main_v162]
  exact v114_eq x0 x1 x2 x3 x4 x5 x6 x7 x8 x9 x10 x11 hA i j

theorem v164_eq (hA : (core x0 x1 x2 x3 x4 x5 x6 x7 x8 x9 x10 x11).Finite) (i : Fin 8192) (j : Fin 1024) :
    val_main_v164 (F := Ideal) x0 x1 x2 x3 x4 x5 x6 x7 x8 x9 x10 x11 (ix2 i j) = (core x0 x1 x2 x3 x4 x5 x6 x7 x8 x9 x10 x11).dyp i j := by
  pointwise [val_main_v163, val_main_v164]
  exact v141_eq x0 x1 x2 x3 x4 x5 x6 x7 x8 x9 x10 x11 hA i j

theorem v166_eq (hA : (core x0 x1 x2 x3 x4 x5 x6 x7 x8 x9 x10 x11).Finite) (i : Fin 8192) (j : Fin 1024) :
    val_main_v166 (F := Ideal) x0 x1 x2 x3 x4 x5 x6 x7 x8 x9 x10 x11 (ix2 i j) = (core x0 x1 x2 x3 x4 x5 x6 x7 x8 x9 x10 x11).dya i j := by
  pointwise [val_main_v165, val_main_v166]
  exact v139_eq x0 x1 x2 x3 x4 x5 x6 x7 x8 x9 x10 x11 hA i j

theorem v170_eq (hA : (core x0 x1 x2 x3 x4 x5 x6 x7 x8 x9 x10 x11).Finite) (i : Fin 8192) (j : Fin 512) :
    val_main_v170 (F := Ideal) x0 x1 x2 x3 x4 x5 x6 x7 x8 x9 x10 x11 (ix2 i j) = (core x0 x1 x2 x3 x4 x5 x6 x7 x8 x9 x10 x11).dpm i j := by
  pointwise [val_main_v169, val_main_v170]
  exact v149_eq x0 x1 x2 x3 x4 x5 x6 x7 x8 x9 x10 x11 hA i j

theorem v172_eq (hA : (core x0 x1 x2 x3 x4 x5 x6 x7 x8 x9 x10 x11).Finite) (i : Fin 8192) (j : Fin 512) :
    val_main_v172 (F := Ideal) x0 x1 x2 x3 x4 x5 x6 x7 x8 x9 x10 x11 (ix2 i j) = (core x0 x1 x2 x3 x4 x5 x6 x7 x8 x9 x10 x11).dob i j := by
  pointwise [val_main_v171, val_main_v172]
  exact v148_eq x0 x1 x2 x3 x4 x5 x6 x7 x8 x9 x10 x11 hA i j

theorem v152_eq (hA : (core x0 x1 x2 x3 x4 x5 x6 x7 x8 x9 x10 x11).Finite) (i : Fin 8192) (j : Fin 4096) :
    val_main_v152 (F := Ideal) x0 x1 x2 x3 x4 x5 x6 x7 x8 x9 x10 x11 (ix2 i j) = (core x0 x1 x2 x3 x4 x5 x6 x7 x8 x9 x10 x11).packed i j := by
  unfold Core.packed
  pointwise [val_main_v150, val_main_v151, val_main_v152]
  simp only [v26_eq x0 x1 x2 x3 x4 x5 x6 x7 x8 x9 x10 x11, v46_eq x0 x1 x2 x3 x4 x5 x6 x7 x8 x9 x10 x11, v108_eq x0 x1 x2 x3 x4 x5 x6 x7 x8 x9 x10 x11 hA, v137_eq x0 x1 x2 x3 x4 x5 x6 x7 x8 x9 x10 x11 hA]

theorem v168_eq (hA : (core x0 x1 x2 x3 x4 x5 x6 x7 x8 x9 x10 x11).Finite) (i : Fin 8192) (j : Fin 2048) :
    val_main_v168 (F := Ideal) x0 x1 x2 x3 x4 x5 x6 x7 x8 x9 x10 x11 (ix2 i j) = (core x0 x1 x2 x3 x4 x5 x6 x7 x8 x9 x10 x11).dzg i j := by
  unfold Core.dzg
  pointwise [val_main_v144, val_main_cst_34, val_main_v146, val_main_cst_35, val_main_v147, val_main_v167, val_main_v168]
  simp only [v143_eq x0 x1 x2 x3 x4 x5 x6 x7 x8 x9 x10 x11 hA, v145_eq x0 x1 x2 x3 x4 x5 x6 x7 x8 x9 x10 x11 hA]
  split_ifs <;> first | omega | exact add_zero _ | exact zero_add _

theorem v157_eq (hA : (core x0 x1 x2 x3 x4 x5 x6 x7 x8 x9 x10 x11).Finite) (r : Fin 8) (j : Fin 1024) :
    val_main_v157 (F := Ideal) x0 x1 x2 x3 x4 x5 x6 x7 x8 x9 x10 x11 (ix2 r j) = (∑ i, (core x0 x1 x2 x3 x4 x5 x6 x7 x8 x9 x10 x11).sums i r j : EReal) := by
  unfold Core.sums
  pointwise [val_main_v153, val_main_v154, val_main_v155, val_main_v156, val_main_cst_36, val_main_v157]
  simp only [v121_eq x0 x1 x2 x3 x4 x5 x6 x7 x8 x9 x10 x11 hA, v93_eq x0 x1 x2 x3 x4 x5 x6 x7 x8 x9 x10 x11 hA, v81_eq x0 x1 x2 x3 x4 x5 x6 x7 x8 x9 x10 x11 hA]
  by_cases h0 : r.val < 1
  · simp only [if_pos h0, dif_pos h0]
  by_cases h1 : r.val - 1 < 1
  · simp only [if_neg h0, dif_neg h0, if_pos h1, dif_pos h1]
  by_cases h2 : r.val - 1 - 1 < 1
  · simp only [if_neg h0, dif_neg h0, if_neg h1, dif_neg h1, if_pos h2, dif_pos h2]
  · simp only [if_neg h0, dif_neg h0, if_neg h1, dif_neg h1, if_neg h2, dif_neg h2]
    exact Finset.sum_const_zero.symm

end Cert.Reference2Ideal.Hand

end
-- ==== Proof.Core.lean ====
/- The middle call: the kernel's ten results are the reference's. -/
module

public import proofs.«01_k».proof.Defs
public import proofs.«01_k».proof.Proof.Gen.Kernel2Ideal.Frame
public import proofs.«01_k».proof.Proof.CoreSums
public import proofs.«01_k».proof.Proof.CoreRef
public import Idealize.ShloMosaic.Lib.Quiescent

@[expose] public section

set_option maxRecDepth 16384

noncomputable section

open Idealize.ShloMosaic Idealize.ShloMosaic.TcCoe Idealize.SL.Sem

namespace Cert.Proof.Core
open Cert.Math Cert.Kernel2Ideal.Hand

theorem pre_facts : Cert.Pre_finite_inputs2.Facts := by
  constructor <;> decide

/-- What the precondition says of one device's arguments. -/
theorem finite (m : (ℓ : Loc Cert.Kernel2Ideal.nD Cert.Kernel2Ideal.τ Cert.Kernel2Ideal.sig) → Buf (Elt Ideal) ℓ)
    (h : Cert.Pre_Kernel2Ideal_finite_inputs2 (hPre_finite_inputs2 := pre_facts) m) (c : Dev Cert.Kernel2Ideal.nD) : (core m c).Finite := by
  obtain ⟨h0, h1, h2, h4, h5, h6, h7, h8, h9, h10, h11⟩ := h c
  exact ⟨fun i k => .of_abs_lt (congrFun h0 _), fun i k => .of_abs_lt (congrFun h1 _), fun i k => .of_abs_lt (congrFun h2 _),
    fun i k => .of_abs_lt (congrFun h4 _), fun i k => .of_abs_lt (congrFun h5 _), fun i k => .of_abs_lt (congrFun h6 _),
    fun k => .of_abs_lt (congrFun h7 _), fun i k => .of_abs_lt (congrFun h8 _), fun i k => .of_abs_lt (congrFun h9 _),
    fun k => .of_abs_lt (congrFun h10 _), fun i k => .of_abs_lt (congrFun h11 _)⟩

/-- An index of a matrix is its row and its column. -/
theorem pair {a b : ℕ} (y : (⟨_, ![a, b]⟩ : Shape).Idx) : ∃ (i : Fin a) (j : Fin b), y = ix2 i j :=
  ⟨y 0, y 1, by funext d; match d with | ⟨0, _⟩ => rfl | ⟨1, _⟩ => rfl⟩

section
variable (m : (ℓ : Loc Cert.Kernel2Ideal.nD Cert.Kernel2Ideal.τ Cert.Kernel2Ideal.sig) → Buf (Elt Ideal) ℓ) (c : Dev Cert.Kernel2Ideal.nD)
  (hA : (core m c).Finite)
include hA

theorem agree12 : Cert.Reference2Ideal.Read.val_main_v158 (F := Ideal) (X0 m c) (X1 m c) (X2 m c) (X3 m c) (X4 m c) (X5 m c) (X6 m c) (X7 m c) (X8 m c) (X9 m c) (X10 m c) (X11 m c) = resDh1 m c := by
  funext y
  obtain ⟨i, j, rfl⟩ := pair y
  exact Cert.Reference2Ideal.Hand.v158_eq (X0 m c) (X1 m c) (X2 m c) (X3 m c) (X4 m c) (X5 m c) (X6 m c) (X7 m c) (X8 m c) (X9 m c) (X10 m c) (X11 m c) hA i j

theorem agree13 : Cert.Reference2Ideal.Read.val_main_v160 (F := Ideal) (X0 m c) (X1 m c) (X2 m c) (X3 m c) (X4 m c) (X5 m c) (X6 m c) (X7 m c) (X8 m c) = resAct m c := by
  funext y
  obtain ⟨i, j, rfl⟩ := pair y
  exact Cert.Reference2Ideal.Hand.v160_eq (X0 m c) (X1 m c) (X2 m c) (X3 m c) (X4 m c) (X5 m c) (X6 m c) (X7 m c) (X8 m c) (X9 m c) (X10 m c) (X11 m c) i j

theorem agree14 : Cert.Reference2Ideal.Read.val_main_v162 (F := Ideal) (X0 m c) (X1 m c) (X2 m c) (X3 m c) (X4 m c) (X5 m c) (X6 m c) (X7 m c) (X8 m c) (X9 m c) (X10 m c) (X11 m c) = resDap m c := by
  funext y
  obtain ⟨i, j, rfl⟩ := pair y
  exact Cert.Reference2Ideal.Hand.v162_eq (X0 m c) (X1 m c) (X2 m c) (X3 m c) (X4 m c) (X5 m c) (X6 m c) (X7 m c) (X8 m c) (X9 m c) (X10 m c) (X11 m c) hA i j

theorem agree15 : Cert.Reference2Ideal.Read.val_main_v152 (F := Ideal) (X0 m c) (X1 m c) (X2 m c) (X3 m c) (X4 m c) (X5 m c) (X6 m c) (X7 m c) (X8 m c) (X9 m c) (X10 m c) (X11 m c) = resPacked m c := by
  funext y
  obtain ⟨i, j, rfl⟩ := pair y
  exact Cert.Reference2Ideal.Hand.v152_eq (X0 m c) (X1 m c) (X2 m c) (X3 m c) (X4 m c) (X5 m c) (X6 m c) (X7 m c) (X8 m c) (X9 m c) (X10 m c) (X11 m c) hA i j

theorem agree16 : Cert.Reference2Ideal.Read.val_main_v157 (F := Ideal) (X0 m c) (X1 m c) (X2 m c) (X3 m c) (X4 m c) (X5 m c) (X6 m c) (X7 m c) (X8 m c) (X9 m c) (X10 m c) (X11 m c) = resSums m c := by
  funext y
  obtain ⟨i, j, rfl⟩ := pair y
  exact Cert.Reference2Ideal.Hand.v157_eq (X0 m c) (X1 m c) (X2 m c) (X3 m c) (X4 m c) (X5 m c) (X6 m c) (X7 m c) (X8 m c) (X9 m c) (X10 m c) (X11 m c) hA i j

theorem agree17 : Cert.Reference2Ideal.Read.val_main_v164 (F := Ideal) (X0 m c) (X1 m c) (X2 m c) (X3 m c) (X4 m c) (X5 m c) (X6 m c) (X7 m c) (X8 m c) (X9 m c) (X10 m c) (X11 m c) = resDyp m c := by
  funext y
  obtain ⟨i, j, rfl⟩ := pair y
  exact Cert.Reference2Ideal.Hand.v164_eq (X0 m c) (X1 m c) (X2 m c) (X3 m c) (X4 m c) (X5 m c) (X6 m c) (X7 m c) (X8 m c) (X9 m c) (X10 m c) (X11 m c) hA i j

theorem agree18 : Cert.Reference2Ideal.Read.val_main_v166 (F := Ideal) (X0 m c) (X1 m c) (X2 m c) (X3 m c) (X4 m c) (X5 m c) (X6 m c) (X7 m c) (X8 m c) (X9 m c) (X10 m c) (X11 m c) = resDya m c := by
  funext y
  obtain ⟨i, j, rfl⟩ := pair y
  exact Cert.Reference2Ideal.Hand.v166_eq (X0 m c) (X1 m c) (X2 m c) (X3 m c) (X4 m c) (X5 m c) (X6 m c) (X7 m c) (X8 m c) (X9 m c) (X10 m c) (X11 m c) hA i j

theorem agree19 : Cert.Reference2Ideal.Read.val_main_v168 (F := Ideal) (X0 m c) (X1 m c) (X2 m c) (X3 m c) (X4 m c) (X5 m c) (X6 m c) (X7 m c) (X8 m c) (X9 m c) (X10 m c) (X11 m c) = resDzg m c := by
  funext y
  obtain ⟨i, j, rfl⟩ := pair y
  exact Cert.Reference2Ideal.Hand.v168_eq (X0 m c) (X1 m c) (X2 m c) (X3 m c) (X4 m c) (X5 m c) (X6 m c) (X7 m c) (X8 m c) (X9 m c) (X10 m c) (X11 m c) hA i j

theorem agree20 : Cert.Reference2Ideal.Read.val_main_v170 (F := Ideal) (X0 m c) (X1 m c) (X2 m c) (X3 m c) (X4 m c) (X5 m c) (X6 m c) (X7 m c) (X8 m c) (X9 m c) (X10 m c) (X11 m c) = resDpm m c := by
  funext y
  obtain ⟨i, j, rfl⟩ := pair y
  exact Cert.Reference2Ideal.Hand.v170_eq (X0 m c) (X1 m c) (X2 m c) (X3 m c) (X4 m c) (X5 m c) (X6 m c) (X7 m c) (X8 m c) (X9 m c) (X10 m c) (X11 m c) hA i j

theorem agree21 : Cert.Reference2Ideal.Read.val_main_v172 (F := Ideal) (X0 m c) (X1 m c) (X2 m c) (X3 m c) (X4 m c) (X5 m c) (X6 m c) (X7 m c) (X8 m c) (X9 m c) (X10 m c) (X11 m c) = resDo m c := by
  funext y
  obtain ⟨i, j, rfl⟩ := pair y
  exact Cert.Reference2Ideal.Hand.v172_eq (X0 m c) (X1 m c) (X2 m c) (X3 m c) (X4 m c) (X5 m c) (X6 m c) (X7 m c) (X8 m c) (X9 m c) (X10 m c) (X11 m c) hA i j

end

theorem frame_reference : Cert.quiescent_Reference2Ideal (hReference2Ideal := Cert.Reference2Ideal.Gen.facts) := by
  intro m g _
  exact (θ_run _ _ _).mono (fun r h => ⟨fun c => (h c).2.2.2.2.2.2.2.2.2.2, sem_eq_zero_of_no_sems rfl _⟩) (Cert.Reference2Ideal.Value.run m g)

theorem algebraic : Cert.algebraic_Kernel2Ideal_Reference2Ideal_pre_finite_inputs2 (hKernel2Ideal := Cert.Kernel2Ideal.Gen.facts)
    (hReference2Ideal := Cert.Reference2Ideal.Gen.facts) (hPre_finite_inputs2 := pre_facts) := by
  intro m g m' g' hpre hargs
  refine ⟨fun c => resDh1 m c, fun c => resAct m c, fun c => resDap m c, fun c => resPacked m c, fun c => resSums m c, fun c => resDyp m c, fun c => resDya m c, fun c => resDzg m c, fun c => resDpm m c, fun c => resDo m c, ?_, ?_⟩
  · refine (θ_run _ _ _).mono (fun r h c => ?_) (Cert.Kernel2Ideal.Value.run_blocks m g)
    obtain ⟨h12, h13, h14, h15, h16, h17, h18, h19, h20, h21, h⟩ := h c
    exact ⟨h12.trans (final12 m c), h13.trans (final13 m c), h14.trans (final14 m c), h15.trans (final15 m c), h16.trans (final16 m c), h17.trans (final17 m c), h18.trans (final18 m c), h19.trans (final19 m c), h20.trans (final20 m c), h21.trans (final21 m c), h⟩
  · refine (θ_run _ _ _).mono (fun r h c => ?_) (Cert.Reference2Ideal.Value.run m' g')
    obtain ⟨e0, e1, e2, e3, e4, e5, e6, e7, e8, e9, e10, e11⟩ := hargs c
    obtain ⟨h12, h13, h14, h15, h16, h17, h18, h19, h20, h21, h⟩ := h c
    have hA := finite m hpre c
    replace e0 : StableHlo.launchContents m' c (Proc.tc.devRef Cert.Reference2Ideal.main_arg0) = X0 m c := e0
    replace e1 : StableHlo.launchContents m' c (Proc.tc.devRef Cert.Reference2Ideal.main_arg1) = X1 m c := e1
    replace e2 : StableHlo.launchContents m' c (Proc.tc.devRef Cert.Reference2Ideal.main_arg2) = X2 m c := e2
    replace e3 : StableHlo.launchContents m' c (Proc.tc.devRef Cert.Reference2Ideal.main_arg3) = X3 m c := e3
    replace e4 : StableHlo.launchContents m' c (Proc.tc.devRef Cert.Reference2Ideal.main_arg4) = X4 m c := e4
    replace e5 : StableHlo.launchContents m' c (Proc.tc.devRef Cert.Reference2Ideal.main_arg5) = X5 m c := e5
    replace e6 : StableHlo.launchContents m' c (Proc.tc.devRef Cert.Reference2Ideal.main_arg6) = X6 m c := e6
    replace e7 : StableHlo.launchContents m' c (Proc.tc.devRef Cert.Reference2Ideal.main_arg7) = X7 m c := e7
    replace e8 : StableHlo.launchContents m' c (Proc.tc.devRef Cert.Reference2Ideal.main_arg8) = X8 m c := e8
    replace e9 : StableHlo.launchContents m' c (Proc.tc.devRef Cert.Reference2Ideal.main_arg9) = X9 m c := e9
    replace e10 : StableHlo.launchContents m' c (Proc.tc.devRef Cert.Reference2Ideal.main_arg10) = X10 m c := e10
    replace e11 : StableHlo.launchContents m' c (Proc.tc.devRef Cert.Reference2Ideal.main_arg11) = X11 m c := e11
    refine ⟨h12.trans ?_, h13.trans ?_, h14.trans ?_, h15.trans ?_, h16.trans ?_, h17.trans ?_, h18.trans ?_, h19.trans ?_, h20.trans ?_, h21.trans ?_, h⟩
    · rw [Cert.Reference2Ideal.Read.val_main_v158_eq, e0, e1, e2, e3, e4, e5, e6, e7, e8, e9, e10, e11]
      exact agree12 m c hA
    · rw [Cert.Reference2Ideal.Read.val_main_v160_eq, e0, e1, e2, e3, e4, e5, e6, e7, e8]
      exact agree13 m c hA
    · rw [Cert.Reference2Ideal.Read.val_main_v162_eq, e0, e1, e2, e3, e4, e5, e6, e7, e8, e9, e10, e11]
      exact agree14 m c hA
    · rw [Cert.Reference2Ideal.Read.val_main_v152_eq, e0, e1, e2, e3, e4, e5, e6, e7, e8, e9, e10, e11]
      exact agree15 m c hA
    · rw [Cert.Reference2Ideal.Read.val_main_v157_eq, e0, e1, e2, e3, e4, e5, e6, e7, e8, e9, e10, e11]
      exact agree16 m c hA
    · rw [Cert.Reference2Ideal.Read.val_main_v164_eq, e0, e1, e2, e3, e4, e5, e6, e7, e8, e9, e10, e11]
      exact agree17 m c hA
    · rw [Cert.Reference2Ideal.Read.val_main_v166_eq, e0, e1, e2, e3, e4, e5, e6, e7, e8, e9, e10, e11]
      exact agree18 m c hA
    · rw [Cert.Reference2Ideal.Read.val_main_v168_eq, e0, e1, e2, e3, e4, e5, e6, e7, e8, e9, e10, e11]
      exact agree19 m c hA
    · rw [Cert.Reference2Ideal.Read.val_main_v170_eq, e0, e1, e2, e3, e4, e5, e6, e7, e8, e9, e10, e11]
      exact agree20 m c hA
    · rw [Cert.Reference2Ideal.Read.val_main_v172_eq, e0, e1, e2, e3, e4, e5, e6, e7, e8, e9, e10, e11]
      exact agree21 m c hA

end Cert.Proof.Core

end
-- ==== Proof.MixBufs.lean ====
/- The buffers the gradient of the two mixers works on, by name, and what it is handed in them. -/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The buffers of one grid point: the thirteen blocks it reads, the five it leaves, and the four that stay in the
    core's memory between points. -/
structure Bufs where
  zp : Memref sig .tc .vmem S512x512 .bf16
  zp_whole : zp.IsWhole
  zpHalo : Memref sig .tc .vmem S16x512 .bf16
  zpHalo_whole : zpHalo.IsWhole
  q : Memref sig .tc .vmem S512x512 .bf16
  q_whole : q.IsWhole
  kv : Memref sig .tc .vmem S512x256 .bf16
  kv_whole : kv.IsWhole
  kvHalo : Memref sig .tc .vmem S128x256 .bf16
  kvHalo_whole : kvHalo.IsWhole
  dpm : Memref sig .tc .vmem S512x512 .bf16
  dpm_whole : dpm.IsWhole
  dpmHalo : Memref sig .tc .vmem S16x512 .bf16
  dpmHalo_whole : dpmHalo.IsWhole
  dout : Memref sig .tc .vmem S512x512 .bf16
  dout_whole : dout.IsWhole
  poolW : Memref sig .tc .vmem S4x128x128 .bf16
  poolW_whole : poolW.IsWhole
  poolB : Memref sig .tc .vmem S1x512 .f32
  poolB_whole : poolB.IsWhole
  poolS : Memref sig .tc .vmem S1x512 .f32
  poolS_whole : poolS.IsWhole
  bias : Memref sig .tc .vmem S2x128x512 .f32
  bias_whole : bias.IsWhole
  sink : Memref sig .tc .vmem S2x1x512 .f32
  sink_whole : sink.IsWhole
  dzp : Memref sig .tc .vmem S512x512 .bf16
  dzp_whole : dzp.IsWhole
  dq : Memref sig .tc .vmem S512x512 .bf16
  dq_whole : dq.IsWhole
  dkv : Memref sig .tc .vmem S8192x256 .bf16
  dkv_whole : dkv.IsWhole
  small : Memref sig .tc .vmem S528x128 .f32
  small_whole : small.IsWhole
  dps : Memref sig .tc .vmem S1x512 .f32
  dps_whole : dps.IsWhole
  keys : Memref sig .tc .vmem S2x640x128 .bf16
  keys_whole : keys.IsWhole
  vals : Memref sig .tc .vmem S2x640x128 .bf16
  vals_whole : vals.IsWhole
  dsink : Memref sig .tc .vmem S2x1x512 .f32
  dsink_whole : dsink.IsWhole
  dkvAcc : Memref sig .tc .vmem S8320x256 .f32
  dkvAcc_whole : dkvAcc.IsWhole

/-- What the thirteen blocks read hold. -/
structure Ins (F : FTy → Type) where
  zp : Vec F S512x512 .bf16
  zpHalo : Vec F S16x512 .bf16
  q : Vec F S512x512 .bf16
  kv : Vec F S512x256 .bf16
  kvHalo : Vec F S128x256 .bf16
  dpm : Vec F S512x512 .bf16
  dpmHalo : Vec F S16x512 .bf16
  dout : Vec F S512x512 .bf16
  poolW : Vec F S4x128x128 .bf16
  poolB : Vec F S1x512 .f32
  poolS : Vec F S1x512 .f32
  bias : Vec F S2x128x512 .f32
  sink : Vec F S2x1x512 .f32

/-- What is summed over the points: the small gradients, the pooling scale's, the sinks', and the keys' and values'. -/
structure Sums (F : FTy → Type) where
  small : Vec F S528x128 .f32
  dps : Vec F S1x512 .f32
  dsink : Vec F S2x1x512 .f32
  dkvAcc : Vec F S8320x256 .f32

/-- The thirteen blocks read, each in its buffer. -/
def Ins.held (c : Dev nD) (B : Bufs) (x : Ins F) : sProp 𝕄 :=
  iprop(owns (c : Thread nD τ) B.zp fullShare x.zp ∗ owns (c : Thread nD τ) B.zpHalo fullShare x.zpHalo
    ∗ owns (c : Thread nD τ) B.q fullShare x.q ∗ owns (c : Thread nD τ) B.kv fullShare x.kv
    ∗ owns (c : Thread nD τ) B.kvHalo fullShare x.kvHalo ∗ owns (c : Thread nD τ) B.dpm fullShare x.dpm
    ∗ owns (c : Thread nD τ) B.dpmHalo fullShare x.dpmHalo ∗ owns (c : Thread nD τ) B.dout fullShare x.dout
    ∗ owns (c : Thread nD τ) B.poolW fullShare x.poolW ∗ owns (c : Thread nD τ) B.poolB fullShare x.poolB
    ∗ owns (c : Thread nD τ) B.poolS fullShare x.poolS ∗ owns (c : Thread nD τ) B.bias fullShare x.bias
    ∗ owns (c : Thread nD τ) B.sink fullShare x.sink)

/-- The stores a point makes into each buffer it writes, the latest first. -/
structure Stores (F : FTy → Type) where
  dzp : List (View.Piece (Elt F) S512x512 .bf16)
  dq : List (View.Piece (Elt F) S512x512 .bf16)
  dkv : List (View.Piece (Elt F) S8192x256 .bf16)
  small : List (View.Piece (Elt F) S528x128 .f32)
  dps : List (View.Piece (Elt F) S1x512 .f32)
  keys : List (View.Piece (Elt F) S2x640x128 .bf16)
  vals : List (View.Piece (Elt F) S2x640x128 .bf16)
  dsink : List (View.Piece (Elt F) S2x1x512 .f32)
  dkvAcc : List (View.Piece (Elt F) S8320x256 .f32)

/-- A buffer after some stores over whatever it held. -/
def stored {S : Shape} {e : EltTy} (c : Dev nD) (r : Memref sig .tc .vmem S e) (L : List (View.Piece (Elt F) S e)) : sProp 𝕄 :=
  iprop(∃ f, r.view.loc (c : Thread nD τ) ↦[r.view.set]{fullShare} r.view.writes (Elt F) f L)

/-- A buffer after some stores over the contents `x`. -/
def storedOver {S : Shape} {e : EltTy} (c : Dev nD) (r : Memref sig .tc .vmem S e) (h : r.IsWhole) (x : Vec F S e)
    (L : List (View.Piece (Elt F) S e)) : sProp 𝕄 :=
  iprop(r.view.loc (c : Thread nD τ) ↦[r.view.set]{fullShare} r.view.writes (Elt F) (h.unread x) L)

/-- The kernel's body on the buffers `B` at the grid coordinate `i`. -/
abbrev body (i : grid0.Coords) (B : Bufs) : Prog (TpuEff nD τ sig (Elt F) Λ₀ .tc) PUnit :=
  cc0_mixers_bwd i (Memref.whole main_v37) (Memref.isWhole_whole _) B.zp B.zp_whole B.zpHalo B.zpHalo_whole B.q B.q_whole
    B.kv B.kv_whole B.kvHalo B.kvHalo_whole B.dpm B.dpm_whole B.dpmHalo B.dpmHalo_whole B.dout B.dout_whole
    B.poolW B.poolW_whole B.poolB B.poolB_whole B.poolS B.poolS_whole B.bias B.bias_whole B.sink B.sink_whole
    B.dzp B.dzp_whole B.dq B.dq_whole B.dkv B.dkv_whole B.small B.small_whole B.dps B.dps_whole
    B.keys B.keys_whole B.vals B.vals_whole B.dsink B.dsink_whole B.dkvAcc B.dkvAcc_whole

/-- The body's first branch, which clears what is summed over the points, is taken at the first point only. -/
abbrev isFirst (i : grid0.Coords) : Prop :=
  (Scalar.cmpi .ne (Scalar.extui (Scalar.cmpi .eq (BitVec.ofNat 32 (i 0).val) 0#32)) 0#32) = 1#1

theorem isFirst_iff (t : Fin cfg0.N) : isFirst (grid0.coords t) ↔ t.val = 0 := by
  have ht : t.val < 16 := Nat.lt_of_lt_of_eq t.isLt N_0
  have e0 : (grid0.coords t 0).val = t.val / 1 % 16 := Pipeline.Grid.coords_val t 0 (by decide) rfl
  have h : isFirst (grid0.coords t) ↔ t.val % 16 = 0 := by
    simp only [isFirst, e0]
    word_cmp
  rw [h]; omega

/-- The body's last branch, which writes the sums out, is taken at the last point only. -/
abbrev isLast (i : grid0.Coords) : Prop := k0_cond2 i = 1#1

theorem isLast_iff (t : Fin cfg0.N) : isLast (grid0.coords t) ↔ t.val = 15 := by
  have ht : t.val < 16 := Nat.lt_of_lt_of_eq t.isLt N_0
  have e0 : (grid0.coords t 0).val = t.val / 1 % 16 := Pipeline.Grid.coords_val t 0 (by decide) rfl
  have h : isLast (grid0.coords t) ↔ t.val % 16 = 15 := by
    simp only [isLast, k0_cond2, e0]
    word_cmp
  rw [h]; omega

end Cert.Mix

end
-- ==== Proof.MixFirst.lean ====
/- What the body of the mixers' gradient does at the first grid point. -/
module

public import proofs.«01_k».proof.Proof.MixBufs

@[expose] public section

set_option maxRecDepth 16384

noncomputable section

namespace Cert.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The first point: over any contents of the buffers it writes, the body ends with those buffers holding the stores
    found here, and every block it reads as it was. The whole result of the keys' and values' gradient is not touched. -/
def firstRun (c : Dev nD) (i : grid0.Coords) (B : Bufs) (h0 : isFirst i) (h1 : ¬isLast i) (x : Ins F) :
    { L : Stores F // ∀ (dkv : Vec F S8192x256 .bf16) (E : Set ℕ) (K : PUnit → sProp 𝕄),
      iprop(x.held c B ∗ (∃ d, owns (c : Thread nD τ) B.dzp fullShare d) ∗ (∃ d, owns (c : Thread nD τ) B.dq fullShare d)
        ∗ owns (c : Thread nD τ) B.dkv fullShare dkv ∗ (∃ d, owns (c : Thread nD τ) B.small fullShare d)
        ∗ (∃ d, owns (c : Thread nD τ) B.dps fullShare d) ∗ (∃ d, owns (c : Thread nD τ) B.keys fullShare d)
        ∗ (∃ d, owns (c : Thread nD τ) B.vals fullShare d) ∗ (∃ d, owns (c : Thread nD τ) B.dsink fullShare d)
        ∗ (∃ d, owns (c : Thread nD τ) B.dkvAcc fullShare d)
        ∗ (iprop(x.held c B ∗ stored c B.dzp L.dzp ∗ stored c B.dq L.dq ∗ owns (c : Thread nD τ) B.dkv fullShare dkv
            ∗ stored c B.small L.small ∗ stored c B.dps L.dps ∗ stored c B.keys L.keys ∗ stored c B.vals L.vals
            ∗ stored c B.dsink L.dsink ∗ stored c B.dkvAcc L.dkvAcc) -∗ K ⟨⟩))
        ⊢ wp frame (wpE (defs₀ (F := F)) Variants.none c none) E (body i B) K } := by
  refine ⟨⟨?_, ?_, [], ?_, ?_, ?_, ?_, ?_, ?_⟩, fun dkv E K => ?run⟩
  case run =>
    dsimp only [body, Ins.held, stored]
    simp only [cc0_mixers_bwd_eq_skeleton]; unfold cc0_mixers_bwd_skel
    simp only [k0_part38_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
      ⟨%f7, %e7, H7⟩, ⟨%f8, %e8, H8⟩, ⟨%f9, %e9, H9⟩, ⟨%f10, %e10, H10⟩, ⟨%f11, %e11, H11⟩, ⟨%f12, %e12, H12⟩⟩,
      ⟨%d13, %f13, -, H13⟩, ⟨%d14, %f14, -, H14⟩, ⟨%f15, %e15, H15⟩, ⟨%d16, %f16, -, H16⟩, ⟨%d17, %f17, -, H17⟩,
      ⟨%d18, %f18, -, H18⟩, ⟨%d19, %f19, -, H19⟩, ⟨%d20, %f20, -, H20⟩, ⟨%d21, %f21, -, H21⟩, Hk⟩
    obtain rfl := B.zp_whole.eq_unread e0; obtain rfl := B.zpHalo_whole.eq_unread e1; obtain rfl := B.q_whole.eq_unread e2; obtain rfl := B.kv_whole.eq_unread e3
    obtain rfl := B.kvHalo_whole.eq_unread e4; obtain rfl := B.dpm_whole.eq_unread e5; obtain rfl := B.dpmHalo_whole.eq_unread e6; obtain rfl := B.dout_whole.eq_unread e7
    obtain rfl := B.poolW_whole.eq_unread e8; obtain rfl := B.poolB_whole.eq_unread e9; obtain rfl := B.poolS_whole.eq_unread e10
    obtain rfl := B.bias_whole.eq_unread e11; obtain rfl := B.sink_whole.eq_unread e12; obtain rfl := B.dkv_whole.eq_unread e15
    sl_exec (disch := first | sl_exact h0 | sl_exact h1)
    sl_step
    iapply Hk
    isplitl [H0 H1 H2 H3 H4 H5 H6 H7 H8 H9 H10 H11 H12]
    · isplitl [H0]; · iexists _; isplitr; · ipureintro; exact B.zp_whole.read_unread _
                      iexact H0
      isplitl [H1]; · iexists _; isplitr; · ipureintro; exact B.zpHalo_whole.read_unread _
                      iexact H1
      isplitl [H2]; · iexists _; isplitr; · ipureintro; exact B.q_whole.read_unread _
                      iexact H2
      isplitl [H3]; · iexists _; isplitr; · ipureintro; exact B.kv_whole.read_unread _
                      iexact H3
      isplitl [H4]; · iexists _; isplitr; · ipureintro; exact B.kvHalo_whole.read_unread _
                      iexact H4
      isplitl [H5]; · iexists _; isplitr; · ipureintro; exact B.dpm_whole.read_unread _
                      iexact H5
      isplitl [H6]; · iexists _; isplitr; · ipureintro; exact B.dpmHalo_whole.read_unread _
                      iexact H6
      isplitl [H7]; · iexists _; isplitr; · ipureintro; exact B.dout_whole.read_unread _
                      iexact H7
      isplitl [H8]; · iexists _; isplitr; · ipureintro; exact B.poolW_whole.read_unread _
                      iexact H8
      isplitl [H9]; · iexists _; isplitr; · ipureintro; exact B.poolB_whole.read_unread _
                      iexact H9
      isplitl [H10]; · iexists _; isplitr; · ipureintro; exact B.poolS_whole.read_unread _
                       iexact H10
      isplitl [H11]; · iexists _; isplitr; · ipureintro; exact B.bias_whole.read_unread _
                       iexact H11
      iexists _; isplitr; · ipureintro; exact B.sink_whole.read_unread _
      iexact H12
    isplitl [H13]; · iexists _; iexact H13
    isplitl [H14]; · iexists _; iexact H14
    isplitl [H15]; · iexists _; isplitr; · ipureintro; exact B.dkv_whole.read_unread _
                     iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.Mix

end
-- ==== Proof.MixMiddle.lean ====
/- What the body of the mixers' gradient does at a grid point between the first and the last. -/
module

public import proofs.«01_k».proof.Proof.MixBufs

@[expose] public section

set_option maxRecDepth 16384

noncomputable section

namespace Cert.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- A point in the middle: the four sums start from what the point before left (`s`), and the body ends with every
    buffer it writes holding the stores found here. The keys' and values' whole gradient is not touched. -/
def middleRun (c : Dev nD) (i : grid0.Coords) (B : Bufs) (h0 : ¬isFirst i) (h1 : ¬isLast i) (x : Ins F) (s : Sums F) :
    { L : Stores F // ∀ (dkv : Vec F S8192x256 .bf16) (E : Set ℕ) (K : PUnit → sProp 𝕄),
      iprop(x.held c B ∗ (∃ d, owns (c : Thread nD τ) B.dzp fullShare d) ∗ (∃ d, owns (c : Thread nD τ) B.dq fullShare d)
        ∗ owns (c : Thread nD τ) B.dkv fullShare dkv ∗ owns (c : Thread nD τ) B.small fullShare s.small
        ∗ owns (c : Thread nD τ) B.dps fullShare s.dps ∗ (∃ d, owns (c : Thread nD τ) B.keys fullShare d)
        ∗ (∃ d, owns (c : Thread nD τ) B.vals fullShare d) ∗ owns (c : Thread nD τ) B.dsink fullShare s.dsink
        ∗ owns (c : Thread nD τ) B.dkvAcc fullShare s.dkvAcc
        ∗ (iprop(x.held c B ∗ stored c B.dzp L.dzp ∗ stored c B.dq L.dq ∗ owns (c : Thread nD τ) B.dkv fullShare dkv
            ∗ storedOver c B.small B.small_whole s.small L.small ∗ storedOver c B.dps B.dps_whole s.dps L.dps ∗ stored c B.keys L.keys ∗ stored c B.vals L.vals
            ∗ storedOver c B.dsink B.dsink_whole s.dsink L.dsink ∗ storedOver c B.dkvAcc B.dkvAcc_whole s.dkvAcc L.dkvAcc) -∗ K ⟨⟩))
        ⊢ wp frame (wpE (defs₀ (F := F)) Variants.none c none) E (body i B) K } := by
  refine ⟨⟨?_, ?_, [], ?_, ?_, ?_, ?_, ?_, ?_⟩, fun dkv E K => ?run⟩
  case run =>
    dsimp only [body, Ins.held, stored, storedOver]
    simp only [cc0_mixers_bwd_eq_skeleton]; unfold cc0_mixers_bwd_skel
    simp only [k0_part38_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
      ⟨%f7, %e7, H7⟩, ⟨%f8, %e8, H8⟩, ⟨%f9, %e9, H9⟩, ⟨%f10, %e10, H10⟩, ⟨%f11, %e11, H11⟩, ⟨%f12, %e12, H12⟩⟩,
      ⟨%d13, %f13, -, H13⟩, ⟨%d14, %f14, -, H14⟩, ⟨%f15, %e15, H15⟩, ⟨%f16, %e16, H16⟩, ⟨%f17, %e17, H17⟩,
      ⟨%d18, %f18, -, H18⟩, ⟨%d19, %f19, -, H19⟩, ⟨%f20, %e20, H20⟩, ⟨%f21, %e21, H21⟩, Hk⟩
    obtain rfl := B.zp_whole.eq_unread e0; obtain rfl := B.zpHalo_whole.eq_unread e1; obtain rfl := B.q_whole.eq_unread e2; obtain rfl := B.kv_whole.eq_unread e3
    obtain rfl := B.kvHalo_whole.eq_unread e4; obtain rfl := B.dpm_whole.eq_unread e5; obtain rfl := B.dpmHalo_whole.eq_unread e6; obtain rfl := B.dout_whole.eq_unread e7
    obtain rfl := B.poolW_whole.eq_unread e8; obtain rfl := B.poolB_whole.eq_unread e9; obtain rfl := B.poolS_whole.eq_unread e10
    obtain rfl := B.bias_whole.eq_unread e11; obtain rfl := B.sink_whole.eq_unread e12; obtain rfl := B.dkv_whole.eq_unread e15
    obtain rfl := B.small_whole.eq_unread e16; obtain rfl := B.dps_whole.eq_unread e17
    obtain rfl := B.dsink_whole.eq_unread e20; obtain rfl := B.dkvAcc_whole.eq_unread e21
    sl_exec (disch := first | sl_exact h0 | sl_exact h1)
    sl_step
    iapply Hk
    isplitl [H0 H1 H2 H3 H4 H5 H6 H7 H8 H9 H10 H11 H12]
    · isplitl [H0]; · iexists _; isplitr; · ipureintro; exact B.zp_whole.read_unread _
                      iexact H0
      isplitl [H1]; · iexists _; isplitr; · ipureintro; exact B.zpHalo_whole.read_unread _
                      iexact H1
      isplitl [H2]; · iexists _; isplitr; · ipureintro; exact B.q_whole.read_unread _
                      iexact H2
      isplitl [H3]; · iexists _; isplitr; · ipureintro; exact B.kv_whole.read_unread _
                      iexact H3
      isplitl [H4]; · iexists _; isplitr; · ipureintro; exact B.kvHalo_whole.read_unread _
                      iexact H4
      isplitl [H5]; · iexists _; isplitr; · ipureintro; exact B.dpm_whole.read_unread _
                      iexact H5
      isplitl [H6]; · iexists _; isplitr; · ipureintro; exact B.dpmHalo_whole.read_unread _
                      iexact H6
      isplitl [H7]; · iexists _; isplitr; · ipureintro; exact B.dout_whole.read_unread _
                      iexact H7
      isplitl [H8]; · iexists _; isplitr; · ipureintro; exact B.poolW_whole.read_unread _
                      iexact H8
      isplitl [H9]; · iexists _; isplitr; · ipureintro; exact B.poolB_whole.read_unread _
                      iexact H9
      isplitl [H10]; · iexists _; isplitr; · ipureintro; exact B.poolS_whole.read_unread _
                       iexact H10
      isplitl [H11]; · iexists _; isplitr; · ipureintro; exact B.bias_whole.read_unread _
                       iexact H11
      iexists _; isplitr; · ipureintro; exact B.sink_whole.read_unread _
      iexact H12
    isplitl [H13]; · iexists _; iexact H13
    isplitl [H14]; · iexists _; iexact H14
    isplitl [H15]; · iexists _; isplitr; · ipureintro; exact B.dkv_whole.read_unread _
                     iexact H15
    isplitl [H16]; · iexact H16
    isplitl [H17]; · iexact H17
    isplitl [H18]; · iexists _; iexact H18
    isplitl [H19]; · iexists _; iexact H19
    isplitl [H20]; · iexact H20
    iexact H21

end Cert.Mix

end
-- ==== Proof.MixLast.lean ====
/- What the body of the mixers' gradient does at the last grid point. -/
module

public import proofs.«01_k».proof.Proof.MixBufs

@[expose] public section

set_option maxRecDepth 16384

noncomputable section

namespace Cert.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- The last point: as in the middle, and the body also writes the summed gradient of the keys and values out whole. -/
def lastRun (c : Dev nD) (i : grid0.Coords) (B : Bufs) (h0 : ¬isFirst i) (h1 : isLast i) (x : Ins F) (s : Sums F) :
    { L : Stores F // ∀ (E : Set ℕ) (K : PUnit → sProp 𝕄),
      iprop(x.held c B ∗ (∃ d, owns (c : Thread nD τ) B.dzp fullShare d) ∗ (∃ d, owns (c : Thread nD τ) B.dq fullShare d)
        ∗ (∃ d, owns (c : Thread nD τ) B.dkv fullShare d) ∗ owns (c : Thread nD τ) B.small fullShare s.small
        ∗ owns (c : Thread nD τ) B.dps fullShare s.dps ∗ (∃ d, owns (c : Thread nD τ) B.keys fullShare d)
        ∗ (∃ d, owns (c : Thread nD τ) B.vals fullShare d) ∗ owns (c : Thread nD τ) B.dsink fullShare s.dsink
        ∗ owns (c : Thread nD τ) B.dkvAcc fullShare s.dkvAcc
        ∗ (iprop(x.held c B ∗ stored c B.dzp L.dzp ∗ stored c B.dq L.dq ∗ stored c B.dkv L.dkv
            ∗ storedOver c B.small B.small_whole s.small L.small ∗ storedOver c B.dps B.dps_whole s.dps L.dps ∗ stored c B.keys L.keys ∗ stored c B.vals L.vals
            ∗ storedOver c B.dsink B.dsink_whole s.dsink L.dsink ∗ storedOver c B.dkvAcc B.dkvAcc_whole s.dkvAcc L.dkvAcc) -∗ K ⟨⟩))
        ⊢ wp frame (wpE (defs₀ (F := F)) Variants.none c none) E (body i B) K } := by
  refine ⟨⟨?_, ?_, ?_, ?_, ?_, ?_, ?_, ?_, ?_⟩, fun E K => ?run⟩
  case run =>
    dsimp only [body, Ins.held, stored, storedOver]
    simp only [cc0_mixers_bwd_eq_skeleton]; unfold cc0_mixers_bwd_skel
    simp only [k0_part38_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
      ⟨%f7, %e7, H7⟩, ⟨%f8, %e8, H8⟩, ⟨%f9, %e9, H9⟩, ⟨%f10, %e10, H10⟩, ⟨%f11, %e11, H11⟩, ⟨%f12, %e12, H12⟩⟩,
      ⟨%d13, %f13, -, H13⟩, ⟨%d14, %f14, -, H14⟩, ⟨%d15, %f15, -, H15⟩, ⟨%f16, %e16, H16⟩, ⟨%f17, %e17, H17⟩,
      ⟨%d18, %f18, -, H18⟩, ⟨%d19, %f19, -, H19⟩, ⟨%f20, %e20, H20⟩, ⟨%f21, %e21, H21⟩, Hk⟩
    obtain rfl := B.zp_whole.eq_unread e0; obtain rfl := B.zpHalo_whole.eq_unread e1; obtain rfl := B.q_whole.eq_unread e2; obtain rfl := B.kv_whole.eq_unread e3
    obtain rfl := B.kvHalo_whole.eq_unread e4; obtain rfl := B.dpm_whole.eq_unread e5; obtain rfl := B.dpmHalo_whole.eq_unread e6; obtain rfl := B.dout_whole.eq_unread e7
    obtain rfl := B.poolW_whole.eq_unread e8; obtain rfl := B.poolB_whole.eq_unread e9; obtain rfl := B.poolS_whole.eq_unread e10
    obtain rfl := B.bias_whole.eq_unread e11; obtain rfl := B.sink_whole.eq_unread e12
    obtain rfl := B.small_whole.eq_unread e16; obtain rfl := B.dps_whole.eq_unread e17
    obtain rfl := B.dsink_whole.eq_unread e20; obtain rfl := B.dkvAcc_whole.eq_unread e21
    sl_exec (disch := first | sl_exact h0 | sl_exact h1)
    sl_step
    iapply Hk
    isplitl [H0 H1 H2 H3 H4 H5 H6 H7 H8 H9 H10 H11 H12]
    · isplitl [H0]; · iexists _; isplitr; · ipureintro; exact B.zp_whole.read_unread _
                      iexact H0
      isplitl [H1]; · iexists _; isplitr; · ipureintro; exact B.zpHalo_whole.read_unread _
                      iexact H1
      isplitl [H2]; · iexists _; isplitr; · ipureintro; exact B.q_whole.read_unread _
                      iexact H2
      isplitl [H3]; · iexists _; isplitr; · ipureintro; exact B.kv_whole.read_unread _
                      iexact H3
      isplitl [H4]; · iexists _; isplitr; · ipureintro; exact B.kvHalo_whole.read_unread _
                      iexact H4
      isplitl [H5]; · iexists _; isplitr; · ipureintro; exact B.dpm_whole.read_unread _
                      iexact H5
      isplitl [H6]; · iexists _; isplitr; · ipureintro; exact B.dpmHalo_whole.read_unread _
                      iexact H6
      isplitl [H7]; · iexists _; isplitr; · ipureintro; exact B.dout_whole.read_unread _
                      iexact H7
      isplitl [H8]; · iexists _; isplitr; · ipureintro; exact B.poolW_whole.read_unread _
                      iexact H8
      isplitl [H9]; · iexists _; isplitr; · ipureintro; exact B.poolB_whole.read_unread _
                      iexact H9
      isplitl [H10]; · iexists _; isplitr; · ipureintro; exact B.poolS_whole.read_unread _
                       iexact H10
      isplitl [H11]; · iexists _; isplitr; · ipureintro; exact B.bias_whole.read_unread _
                       iexact H11
      iexists _; isplitr; · ipureintro; exact B.sink_whole.read_unread _
      iexact H12
    isplitl [H13]; · iexists _; iexact H13
    isplitl [H14]; · iexists _; iexact H14
    isplitl [H15]; · iexists _; iexact H15
    isplitl [H16]; · iexact H16
    isplitl [H17]; · iexact H17
    isplitl [H18]; · iexists _; iexact H18
    isplitl [H19]; · iexists _; iexact H19
    isplitl [H20]; · iexact H20
    iexact H21

end Cert.Mix

end
-- ==== Proof.MixPoints.lean ====
/- What the mixers' gradient leaves in its buffers after each grid point. -/
module

public import proofs.«01_k».proof.Proof.MixFirst
public import proofs.«01_k».proof.Proof.MixMiddle
public import proofs.«01_k».proof.Proof.MixLast

@[expose] public section

set_option maxRecDepth 16384

noncomputable section

namespace Cert.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ)

/-- The buffers of the grid point `t`. -/
def bufs (t : Fin cfg0.N) : Bufs where
  zp := st0_0 t
  zp_whole := stage_whole0 0 (cfg0.slots t 0)
  zpHalo := st0_1 t
  zpHalo_whole := stage_whole0 1 (cfg0.slots t 1)
  q := st0_2 t
  q_whole := stage_whole0 2 (cfg0.slots t 2)
  kv := st0_3 t
  kv_whole := stage_whole0 3 (cfg0.slots t 3)
  kvHalo := st0_4 t
  kvHalo_whole := stage_whole0 4 (cfg0.slots t 4)
  dpm := st0_5 t
  dpm_whole := stage_whole0 5 (cfg0.slots t 5)
  dpmHalo := st0_6 t
  dpmHalo_whole := stage_whole0 6 (cfg0.slots t 6)
  dout := st0_7 t
  dout_whole := stage_whole0 7 (cfg0.slots t 7)
  poolW := st0_8 t
  poolW_whole := stage_whole0 8 (cfg0.slots t 8)
  poolB := st0_9 t
  poolB_whole := stage_whole0 9 (cfg0.slots t 9)
  poolS := st0_10 t
  poolS_whole := stage_whole0 10 (cfg0.slots t 10)
  bias := st0_11 t
  bias_whole := stage_whole0 11 (cfg0.slots t 11)
  sink := st0_12 t
  sink_whole := stage_whole0 12 (cfg0.slots t 12)
  dzp := st0_13 t
  dzp_whole := stage_whole0 13 (cfg0.slots t 13)
  dq := st0_14 t
  dq_whole := stage_whole0 14 (cfg0.slots t 14)
  dkv := st0_15 t
  dkv_whole := stage_whole0 15 (cfg0.slots t 15)
  small := st0_16 t
  small_whole := stage_whole0 16 (cfg0.slots t 16)
  dps := st0_17 t
  dps_whole := stage_whole0 17 (cfg0.slots t 17)
  keys := Memref.whole cc0_scratch0
  keys_whole := Memref.isWhole_whole _
  vals := Memref.whole cc0_scratch1
  vals_whole := Memref.isWhole_whole _
  dsink := Memref.whole cc0_scratch2
  dsink_whole := Memref.isWhole_whole _
  dkvAcc := Memref.whole cc0_scratch3
  dkvAcc_whole := Memref.isWhole_whole _

/-- The blocks read at the grid point `t`, as the arrays hold them. -/
def ins (c : Dev nD) (t : Fin cfg0.N) : Ins F where
  zp := iblk m c 0 t
  zpHalo := iblk m c 1 t
  q := iblk m c 2 t
  kv := iblk m c 3 t
  kvHalo := iblk m c 4 t
  dpm := iblk m c 5 t
  dpmHalo := iblk m c 6 t
  dout := iblk m c 7 t
  poolW := iblk m c 8 t
  poolB := iblk m c 9 t
  poolS := iblk m c 10 t
  bias := iblk m c 11 t
  sink := iblk m c 12 t

abbrev dzpView : View sig .tc .vmem S512x512 .bf16 := (Memref.whole cc0_stg13_0 : Memref sig .tc .vmem S512x512 .bf16).view
abbrev dqView : View sig .tc .vmem S512x512 .bf16 := (Memref.whole cc0_stg14_0 : Memref sig .tc .vmem S512x512 .bf16).view
abbrev dkvView : View sig .tc .vmem S8192x256 .bf16 := (Memref.whole cc0_stg15_0 : Memref sig .tc .vmem S8192x256 .bf16).view
abbrev smallView : View sig .tc .vmem S528x128 .f32 := (Memref.whole cc0_stg16_0 : Memref sig .tc .vmem S528x128 .f32).view
abbrev dpsView : View sig .tc .vmem S1x512 .f32 := (Memref.whole cc0_stg17_0 : Memref sig .tc .vmem S1x512 .f32).view
abbrev dsinkView : View sig .tc .vmem S2x1x512 .f32 := (Memref.whole cc0_scratch2 : Memref sig .tc .vmem S2x1x512 .f32).view
abbrev dkvAccView : View sig .tc .vmem S8320x256 .f32 := (Memref.whole cc0_scratch3 : Memref sig .tc .vmem S8320x256 .f32).view

/-- What stores that reach every place leave, read through a view `v` of the buffer's shape. -/
abbrev canon {S : Shape} {e : EltTy} (v : View sig .tc .vmem S e) (L : List (View.Piece (Elt F) S e)) : Vec F S e :=
  v.read (Elt F) (v.writes (Elt F) v.junk L)

/-- What stores over the contents `x` leave. -/
abbrev over {S : Shape} {e : EltTy} (r : Memref sig .tc .vmem S e) (h : r.IsWhole) (x : Vec F S e)
    (L : List (View.Piece (Elt F) S e)) : Vec F S e :=
  r.view.read (Elt F) (r.view.writes (Elt F) (h.unread x) L)

/-- What a point leaves: its two blocks of the result, the keys' and values' whole gradient (at the last point), and the sums. -/
structure Left (F : FTy → Type) where
  dzp : Vec F S512x512 .bf16
  dq : Vec F S512x512 .bf16
  dkv : Vec F S8192x256 .bf16
  sums : Sums F

section Cases
variable (c : Dev nD) (i : grid0.Coords) (B : Bufs)

/-- What the first point leaves. -/
def firstLeft (h0 : isFirst i) (h1 : ¬isLast i) (x : Ins F) : Left F where
  dzp := canon dzpView (firstRun c i B h0 h1 x).1.dzp
  dq := canon dqView (firstRun c i B h0 h1 x).1.dq
  dkv := canon dkvView []
  sums := {
    small := canon smallView (firstRun c i B h0 h1 x).1.small
    dps := canon dpsView (firstRun c i B h0 h1 x).1.dps
    dsink := canon dsinkView (firstRun c i B h0 h1 x).1.dsink
    dkvAcc := canon dkvAccView (firstRun c i B h0 h1 x).1.dkvAcc }

/-- What a point in the middle leaves over the sums `s`. -/
def middleLeft (h0 : ¬isFirst i) (h1 : ¬isLast i) (x : Ins F) (s : Sums F) : Left F where
  dzp := canon dzpView (middleRun c i B h0 h1 x s).1.dzp
  dq := canon dqView (middleRun c i B h0 h1 x s).1.dq
  dkv := canon dkvView []
  sums := {
    small := over B.small B.small_whole s.small (middleRun c i B h0 h1 x s).1.small
    dps := over B.dps B.dps_whole s.dps (middleRun c i B h0 h1 x s).1.dps
    dsink := over B.dsink B.dsink_whole s.dsink (middleRun c i B h0 h1 x s).1.dsink
    dkvAcc := over B.dkvAcc B.dkvAcc_whole s.dkvAcc (middleRun c i B h0 h1 x s).1.dkvAcc }

/-- What the last point leaves over the sums `s`. -/
def lastLeft (h0 : ¬isFirst i) (h1 : isLast i) (x : Ins F) (s : Sums F) : Left F where
  dzp := canon dzpView (lastRun c i B h0 h1 x s).1.dzp
  dq := canon dqView (lastRun c i B h0 h1 x s).1.dq
  dkv := canon dkvView (lastRun c i B h0 h1 x s).1.dkv
  sums := {
    small := over B.small B.small_whole s.small (lastRun c i B h0 h1 x s).1.small
    dps := over B.dps B.dps_whole s.dps (lastRun c i B h0 h1 x s).1.dps
    dsink := over B.dsink B.dsink_whole s.dsink (lastRun c i B h0 h1 x s).1.dsink
    dkvAcc := over B.dkvAcc B.dkvAcc_whole s.dkvAcc (lastRun c i B h0 h1 x s).1.dkvAcc }

/-! The stores into a buffer whose contents are not carried over reach every place of it. -/

theorem firstRun_dzp (h0 : isFirst i) (h1 : ¬isLast i) (x : Ins F) (y) : ∃ p ∈ (firstRun c i B h0 h1 x).1.dzp, y ∈ p.1.set :=
  View.cover_of_tiledL (firstRun c i B h0 h1 x).1.dzp S512x128.size (by sl_kernel_rfl) y

theorem firstRun_dq (h0 : isFirst i) (h1 : ¬isLast i) (x : Ins F) (y) : ∃ p ∈ (firstRun c i B h0 h1 x).1.dq, y ∈ p.1.set :=
  View.cover_of_tiledL (firstRun c i B h0 h1 x).1.dq S128x128.size (by sl_kernel_rfl) y

theorem firstRun_small (h0 : isFirst i) (h1 : ¬isLast i) (x : Ins F) (y) : ∃ p ∈ (firstRun c i B h0 h1 x).1.small, y ∈ p.1.set :=
  View.cover_of_tiledBy (firstRun c i B h0 h1 x).1.small ![1, 128] (by sl_kernel_rfl) y

theorem firstRun_dps (h0 : isFirst i) (h1 : ¬isLast i) (x : Ins F) (y) : ∃ p ∈ (firstRun c i B h0 h1 x).1.dps, y ∈ p.1.set :=
  View.cover_of_tiledBy (firstRun c i B h0 h1 x).1.dps ![1, 128] (by sl_kernel_rfl) y

theorem firstRun_dsink (h0 : isFirst i) (h1 : ¬isLast i) (x : Ins F) (y) : ∃ p ∈ (firstRun c i B h0 h1 x).1.dsink, y ∈ p.1.set :=
  View.cover_of_wholeMem (firstRun c i B h0 h1 x).1.dsink (by sl_whole_mem) y

theorem firstRun_dkvAcc (h0 : isFirst i) (h1 : ¬isLast i) (x : Ins F) (y) : ∃ p ∈ (firstRun c i B h0 h1 x).1.dkvAcc, y ∈ p.1.set :=
  View.cover_of_wholeMem (firstRun c i B h0 h1 x).1.dkvAcc (by sl_whole_mem) y

theorem middleRun_dzp (h0 : ¬isFirst i) (h1 : ¬isLast i) (x : Ins F) (s : Sums F) (y) :
    ∃ p ∈ (middleRun c i B h0 h1 x s).1.dzp, y ∈ p.1.set :=
  View.cover_of_tiledL (middleRun c i B h0 h1 x s).1.dzp S512x128.size (by sl_kernel_rfl) y

theorem middleRun_dq (h0 : ¬isFirst i) (h1 : ¬isLast i) (x : Ins F) (s : Sums F) (y) :
    ∃ p ∈ (middleRun c i B h0 h1 x s).1.dq, y ∈ p.1.set :=
  View.cover_of_tiledL (middleRun c i B h0 h1 x s).1.dq S128x128.size (by sl_kernel_rfl) y

theorem lastRun_dzp (h0 : ¬isFirst i) (h1 : isLast i) (x : Ins F) (s : Sums F) (y) :
    ∃ p ∈ (lastRun c i B h0 h1 x s).1.dzp, y ∈ p.1.set :=
  View.cover_of_tiledL (lastRun c i B h0 h1 x s).1.dzp S512x128.size (by sl_kernel_rfl) y

theorem lastRun_dq (h0 : ¬isFirst i) (h1 : isLast i) (x : Ins F) (s : Sums F) (y) :
    ∃ p ∈ (lastRun c i B h0 h1 x s).1.dq, y ∈ p.1.set :=
  View.cover_of_tiledL (lastRun c i B h0 h1 x s).1.dq S128x128.size (by sl_kernel_rfl) y

theorem lastRun_dkv (h0 : ¬isFirst i) (h1 : isLast i) (x : Ins F) (s : Sums F) (y) :
    ∃ p ∈ (lastRun c i B h0 h1 x s).1.dkv, y ∈ p.1.set :=
  View.cover_of_tiledL (lastRun c i B h0 h1 x s).1.dkv S8192x256.size (by sl_kernel_rfl) y

end Cases

theorem first_of_zero (t : Fin cfg0.N) (h : t.val = 0) : isFirst (grid0.coords t) := (isFirst_iff t).mpr h
theorem not_first_of_pos (t : Fin cfg0.N) (h : t.val ≠ 0) : ¬isFirst (grid0.coords t) := fun h' => h ((isFirst_iff t).mp h')
theorem not_last_of_ne (t : Fin cfg0.N) (h : t.val ≠ 15) : ¬isLast (grid0.coords t) := fun h' => h ((isLast_iff t).mp h')
theorem last_of_eq (t : Fin cfg0.N) (h : t.val = 15) : isLast (grid0.coords t) := (isLast_iff t).mpr h

/-- What the body leaves at each point, the sums carried from one to the next. -/
def left (c : Dev nD) : (n : ℕ) → n < cfg0.N → Left F
  | 0, hn => firstLeft c (grid0.coords ⟨0, hn⟩) (bufs ⟨0, hn⟩) (first_of_zero ⟨0, hn⟩ rfl)
      (not_last_of_ne ⟨0, hn⟩ (Nat.zero_ne_add_one 14)) (ins m c ⟨0, hn⟩)
  | n + 1, hn =>
    if h : n + 1 = 15 then
      lastLeft c (grid0.coords ⟨n + 1, hn⟩) (bufs ⟨n + 1, hn⟩) (not_first_of_pos ⟨n + 1, hn⟩ (Nat.succ_ne_zero n))
        (last_of_eq ⟨n + 1, hn⟩ h) (ins m c ⟨n + 1, hn⟩) (left c n (Nat.lt_of_succ_lt hn)).sums
    else
      middleLeft c (grid0.coords ⟨n + 1, hn⟩) (bufs ⟨n + 1, hn⟩) (not_first_of_pos ⟨n + 1, hn⟩ (Nat.succ_ne_zero n))
        (not_last_of_ne ⟨n + 1, hn⟩ h) (ins m c ⟨n + 1, hn⟩) (left c n (Nat.lt_of_succ_lt hn)).sums

/-- What the point before `t` left. -/
abbrev before (c : Dev nD) (t : Fin cfg0.N) : Left F := left m c (t.val - 1) (Nat.lt_of_le_of_lt (Nat.sub_le _ _) t.isLt)

theorem left_first (c : Dev nD) (t : Fin cfg0.N) (h : t.val = 0) (h1 : t.val ≠ 15) :
    left m c t.val t.isLt = firstLeft c (grid0.coords t) (bufs t) (first_of_zero t h) (not_last_of_ne t h1) (ins m c t) := by
  obtain ⟨n, hn⟩ := t
  obtain rfl : n = 0 := h
  rfl

theorem left_middle (c : Dev nD) (t : Fin cfg0.N) (h : t.val ≠ 0) (h1 : t.val ≠ 15) :
    left m c t.val t.isLt = middleLeft c (grid0.coords t) (bufs t) (not_first_of_pos t h) (not_last_of_ne t h1) (ins m c t)
      (before m c t).sums := by
  obtain ⟨n, hn⟩ := t
  cases n with
  | zero => exact absurd rfl h
  | succ n => exact dif_neg h1

theorem left_last (c : Dev nD) (t : Fin cfg0.N) (h : t.val ≠ 0) (h1 : t.val = 15) :
    left m c t.val t.isLt = lastLeft c (grid0.coords t) (bufs t) (not_first_of_pos t h) (last_of_eq t h1) (ins m c t)
      (before m c t).sums := by
  obtain ⟨n, hn⟩ := t
  cases n with
  | zero => exact absurd rfl h
  | succ n => exact dif_pos h1

end Cert.Mix

end
-- ==== Proof.MixData.lean ====
/- The contents of every buffer of the mixers' gradient at every grid point, as the pipeline is told of them. -/
module

public import proofs.«01_k».proof.Proof.MixPoints

@[expose] public section

set_option maxRecDepth 16384

noncomputable section

namespace Cert.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- A buffer whose stores reach every place of it holds what they leave. -/
theorem owns_of_stored {S : Shape} {e : EltTy} (c : Dev nD) (r : Memref sig .tc .vmem S e) (L : List (View.Piece (Elt F) S e))
    (v : View sig .tc .vmem S e) (h : ∀ y, ∃ p ∈ L, y ∈ p.1.set) :
    (stored c r L : sProp 𝕄) ⊢ owns (c : Thread nD τ) r fullShare (canon v L) := by
  unfold stored owns
  iintro ⟨%f, H⟩
  iexists _; isplitr
  swap; · iexact H
  ipureintro; exact View.read_writes_of_cover _ _ _ _ _ h

/-- A buffer after stores over known contents holds what they leave there. -/
theorem owns_of_storedOver {S : Shape} {e : EltTy} (c : Dev nD) (r : Memref sig .tc .vmem S e) (h : r.IsWhole) (x : Vec F S e)
    (L : List (View.Piece (Elt F) S e)) :
    (storedOver c r h x L : sProp 𝕄) ⊢ owns (c : Thread nD τ) r fullShare (over r h x L) := by
  unfold storedOver owns
  iintro H
  iexists _; isplitr
  swap; · iexact H
  ipureintro; rfl

/-- A buffer after stores holds something. -/
theorem some_of_stored {S : Shape} {e : EltTy} (c : Dev nD) (r : Memref sig .tc .vmem S e) (L : List (View.Piece (Elt F) S e)) :
    (stored c r L : sProp 𝕄) ⊢ iprop(∃ d, owns (c : Thread nD τ) r fullShare d) := by
  unfold stored owns
  iintro ⟨%f, H⟩
  iexists _; iexists _; isplitr
  swap; · iexact H
  ipureintro; rfl

abbrev keysBuf : Memref sig .tc .vmem S2x640x128 .bf16 := Memref.whole cc0_scratch0
abbrev valsBuf : Memref sig .tc .vmem S2x640x128 .bf16 := Memref.whole cc0_scratch1
abbrev dsinkBuf : Memref sig .tc .vmem S2x1x512 .f32 := Memref.whole cc0_scratch2
abbrev dkvAccBuf : Memref sig .tc .vmem S8320x256 .f32 := Memref.whole cc0_scratch3

theorem scratch_eq (c : Dev nD) :
    (Pipeline.ΦA spec0 c : sProp 𝕄)
      = iprop(((∃ d, owns (c : Thread nD τ) keysBuf fullShare d) ∗ (∃ d, owns (c : Thread nD τ) valsBuf fullShare d)
          ∗ (∃ d, owns (c : Thread nD τ) dsinkBuf fullShare d) ∗ (∃ d, owns (c : Thread nD τ) dkvAccBuf fullShare d))
        ∗ (∃ r, prngReg c r)) := by
  unfold Pipeline.ΦA; rw [scopedRest0_eq]; simp only [keysBuf, valsBuf, dsinkBuf, dkvAccBuf, owns_whole]; try rfl

/-- Before the first point the core's own memory holds anything; after a point, its two sums hold what that point left. -/
def carried (c : Dev nD) : (n : ℕ) → n ≤ cfg0.N → sProp 𝕄
  | 0, _ => Pipeline.ΦA spec0 c
  | n + 1, hn => iprop(((∃ d, owns (c : Thread nD τ) keysBuf fullShare d) ∗ (∃ d, owns (c : Thread nD τ) valsBuf fullShare d)
      ∗ owns (c : Thread nD τ) dsinkBuf fullShare (left m c n hn).sums.dsink
      ∗ owns (c : Thread nD τ) dkvAccBuf fullShare (left m c n hn).sums.dkvAcc) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(((∃ d, owns (c : Thread nD τ) keysBuf fullShare d) ∗ (∃ d, owns (c : Thread nD τ) valsBuf fullShare d)
      ∗ owns (c : Thread nD τ) dsinkBuf fullShare (left m c n hn).sums.dsink
      ∗ owns (c : Thread nD τ) dkvAccBuf fullShare (left m c n hn).sums.dkvAcc) ∗ (∃ r, prngReg c r)) := rfl

theorem carried_pos (c : Dev nD) (n : ℕ) (h : n ≤ cfg0.N) (hz : n ≠ 0) :
    carried m c n h = iprop(((∃ d, owns (c : Thread nD τ) keysBuf fullShare d) ∗ (∃ d, owns (c : Thread nD τ) valsBuf fullShare d)
      ∗ owns (c : Thread nD τ) dsinkBuf fullShare (left m c (n - 1) (by omega)).sums.dsink
      ∗ owns (c : Thread nD τ) dkvAccBuf fullShare (left m c (n - 1) (by omega)).sums.dkvAcc) ∗ (∃ r, prngReg c r)) := by
  cases n with
  | zero => exact absurd rfl hz
  | succ n => rfl

/-- What the arrays hold at the start, and what each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (left m c t.val t.isLt).dzp
    | ⟨14, _⟩ => (left m c t.val t.isLt).dq
    | ⟨15, _⟩ => (left m c t.val t.isLt).dkv
    | ⟨16, _⟩ => (left m c t.val t.isLt).sums.small
    | ⟨17, _⟩ => (left m c t.val t.isLt).sums.dps
    | ⟨_ + 18, h⟩ => absurd h (Nat.not_lt.2 (Nat.le_add_left _ _))
  Φ t := carried m c t.val (Nat.le_of_lt_succ t.isLt)
  q w := Pipeline.shareOf spec0 w
  owed _ := 0

theorem dats_A (c : Dev nD) (w : Fin cfg0.W) : (dats m 0 c).A w = V m c (Pipeline.arrRef spec0 w) := rfl

/-- An input's buffer holds its block after the body, and so before it. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]

theorem after_13 (c : Dev nD) (t : Fin cfg0.N) : (dats m 0 c).after 13 t = (left m c t.val t.isLt).dzp := by dsimp only [dats]
theorem after_14 (c : Dev nD) (t : Fin cfg0.N) : (dats m 0 c).after 14 t = (left m c t.val t.isLt).dq := by dsimp only [dats]
theorem after_15 (c : Dev nD) (t : Fin cfg0.N) : (dats m 0 c).after 15 t = (left m c t.val t.isLt).dkv := by dsimp only [dats]
theorem after_16 (c : Dev nD) (t : Fin cfg0.N) : (dats m 0 c).after 16 t = (left m c t.val t.isLt).sums.small := by dsimp only [dats]
theorem after_17 (c : Dev nD) (t : Fin cfg0.N) : (dats m 0 c).after 17 t = (left m c t.val t.isLt).sums.dps := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d
theorem before_7 (c : Dev nD) (t : Fin cfg0.N) (d) : (dats m 0 c).before 7 t d = iblk m c 7 t :=
  before0_7_of m (dats m 0 c) (dats_A m c 7) (after_7 m c) t d
theorem before_8 (c : Dev nD) (t : Fin cfg0.N) (d) : (dats m 0 c).before 8 t d = iblk m c 8 t :=
  before0_8_of m (dats m 0 c) (dats_A m c 8) (after_8 m c) t d
theorem before_9 (c : Dev nD) (t : Fin cfg0.N) (d) : (dats m 0 c).before 9 t d = iblk m c 9 t :=
  before0_9_of m (dats m 0 c) (dats_A m c 9) (after_9 m c) t d
theorem before_10 (c : Dev nD) (t : Fin cfg0.N) (d) : (dats m 0 c).before 10 t d = iblk m c 10 t :=
  before0_10_of m (dats m 0 c) (dats_A m c 10) (after_10 m c) t d
theorem before_11 (c : Dev nD) (t : Fin cfg0.N) (d) : (dats m 0 c).before 11 t d = iblk m c 11 t :=
  before0_11_of m (dats m 0 c) (dats_A m c 11) (after_11 m c) t d
theorem before_12 (c : Dev nD) (t : Fin cfg0.N) (d) : (dats m 0 c).before 12 t d = iblk m c 12 t :=
  before0_12_of m (dats m 0 c) (dats_A m c 12) (after_12 m c) t d

/-- A window whose block is read or written at a point holds its named contents after it. -/
theorem leaves_eq (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [show cfg0.idle w (cfg0.grid.coords t) = false from h]

/-- The whole gradient of the keys and values is left alone before the last point. -/
theorem dkv_idle : ∀ t : Fin cfg0.N, ¬isLast (grid0.coords t) → cfg0.idle 15 (grid0.coords t) = true := by decide +kernel
theorem dkv_not_idle : ∀ t : Fin cfg0.N, isLast (grid0.coords t) → cfg0.idle 15 (grid0.coords t) = false := by decide +kernel
theorem dkv_kept : ∀ t : Fin cfg0.N, ¬isLast (grid0.coords t) → (cfg0.win 15).flush t = false := by decide +kernel

/-- The sums in the two result buffers are carried from point to point. -/
theorem small_before (c : Dev nD) (t : Fin cfg0.N) (h : t.val ≠ 0) (d) : (dats m 0 c).before 16 t d = (before m c t).sums.small := by
  have hN : t.val < 16 := lt_of_lt_of_eq t.isLt (show cfg0.N = 16 from N_0)
  rw [Dat.before_out_kept _ 16 rfl t h (Bool.eq_false_iff.mpr fun h => by have := (flush0_16 _).mp h; dsimp only at this; omega)
    (fun _ => rfl) (fun _ _ => rfl)]
  dsimp only [dats]

theorem dps_before (c : Dev nD) (t : Fin cfg0.N) (h : t.val ≠ 0) (d) : (dats m 0 c).before 17 t d = (before m c t).sums.dps := by
  have hN : t.val < 16 := lt_of_lt_of_eq t.isLt (show cfg0.N = 16 from N_0)
  rw [Dat.before_out_kept _ 17 rfl t h (Bool.eq_false_iff.mpr fun h => by have := (flush0_17 _).mp h; dsimp only at this; omega)
    (fun _ => rfl) (fun _ _ => rfl)]
  dsimp only [dats]

set_option maxHeartbeats 1000000 in
/-- The blocks the pipeline brings are the arrays' blocks. -/
theorem take_ins (c : Dev nD) (t : Fin cfg0.N) (R : sProp 𝕄) :
    iprop((∃ d, owns (c : Thread nD τ) (st0_0 t) fullShare ((dats m 0 c).before 0 t d)) ∗
      (∃ d, owns (c : Thread nD τ) (st0_1 t) fullShare ((dats m 0 c).before 1 t d)) ∗
      (∃ d, owns (c : Thread nD τ) (st0_2 t) fullShare ((dats m 0 c).before 2 t d)) ∗
      (∃ d, owns (c : Thread nD τ) (st0_3 t) fullShare ((dats m 0 c).before 3 t d)) ∗
      (∃ d, owns (c : Thread nD τ) (st0_4 t) fullShare ((dats m 0 c).before 4 t d)) ∗
      (∃ d, owns (c : Thread nD τ) (st0_5 t) fullShare ((dats m 0 c).before 5 t d)) ∗
      (∃ d, owns (c : Thread nD τ) (st0_6 t) fullShare ((dats m 0 c).before 6 t d)) ∗
      (∃ d, owns (c : Thread nD τ) (st0_7 t) fullShare ((dats m 0 c).before 7 t d)) ∗
      (∃ d, owns (c : Thread nD τ) (st0_8 t) fullShare ((dats m 0 c).before 8 t d)) ∗
      (∃ d, owns (c : Thread nD τ) (st0_9 t) fullShare ((dats m 0 c).before 9 t d)) ∗
      (∃ d, owns (c : Thread nD τ) (st0_10 t) fullShare ((dats m 0 c).before 10 t d)) ∗
      (∃ d, owns (c : Thread nD τ) (st0_11 t) fullShare ((dats m 0 c).before 11 t d)) ∗
      (∃ d, owns (c : Thread nD τ) (st0_12 t) fullShare ((dats m 0 c).before 12 t d)) ∗
      R) ⊢ iprop((ins m c t).held c (bufs t) ∗ R) := by
  simp only [before_0 m c, before_1 m c, before_2 m c, before_3 m c, before_4 m c, before_5 m c, before_6 m c, before_7 m c, before_8 m c, before_9 m c, before_10 m c, before_11 m c, before_12 m c]
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, HR⟩
  isplitr [HR]
  swap; · iexact HR
  dsimp only [Ins.held, bufs, ins]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 1000000 in
/-- The body hands those blocks back as they were. -/
theorem give_ins (c : Dev nD) (t : Fin cfg0.N) (R : sProp 𝕄) :
    iprop((ins m c t).held c (bufs t) ∗ R) ⊢ iprop((dats m 0 c).leavesExact 0 t ∗
      (dats m 0 c).leavesExact 1 t ∗
      (dats m 0 c).leavesExact 2 t ∗
      (dats m 0 c).leavesExact 3 t ∗
      (dats m 0 c).leavesExact 4 t ∗
      (dats m 0 c).leavesExact 5 t ∗
      (dats m 0 c).leavesExact 6 t ∗
      (dats m 0 c).leavesExact 7 t ∗
      (dats m 0 c).leavesExact 8 t ∗
      (dats m 0 c).leavesExact 9 t ∗
      (dats m 0 c).leavesExact 10 t ∗
      (dats m 0 c).leavesExact 11 t ∗
      (dats m 0 c).leavesExact 12 t ∗
      R) := by
  simp only [leaves_eq m c 0 t rfl, after_0 m c, leaves_eq m c 1 t rfl, after_1 m c, leaves_eq m c 2 t rfl, after_2 m c, leaves_eq m c 3 t rfl, after_3 m c, leaves_eq m c 4 t rfl, after_4 m c, leaves_eq m c 5 t rfl, after_5 m c, leaves_eq m c 6 t rfl, after_6 m c, leaves_eq m c 7 t rfl, after_7 m c, leaves_eq m c 8 t rfl, after_8 m c, leaves_eq m c 9 t rfl, after_9 m c, leaves_eq m c 10 t rfl, after_10 m c, leaves_eq m c 11 t rfl, after_11 m c, leaves_eq m c 12 t rfl, after_12 m c]
  dsimp only [Ins.held, bufs, ins]
  iintro ⟨⟨H0, H1, H2, H3, H4, H5, H6, H7, H8, H9, H10, H11, H12⟩, HR⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HR

/-- What the body is handed at a point, -/
def bodyPre (c : Dev nD) (t : Fin cfg0.N) : sProp 𝕄 :=
  iprop((dats m 0 c).Φ t.castSucc ∗ (dats m 0 c).owesAt () t.castSucc ∗
      (∃ d, owns (c : Thread nD τ) (st0_0 t) fullShare ((dats m 0 c).before 0 t d)) ∗
      (∃ d, owns (c : Thread nD τ) (st0_1 t) fullShare ((dats m 0 c).before 1 t d)) ∗
      (∃ d, owns (c : Thread nD τ) (st0_2 t) fullShare ((dats m 0 c).before 2 t d)) ∗
      (∃ d, owns (c : Thread nD τ) (st0_3 t) fullShare ((dats m 0 c).before 3 t d)) ∗
      (∃ d, owns (c : Thread nD τ) (st0_4 t) fullShare ((dats m 0 c).before 4 t d)) ∗
      (∃ d, owns (c : Thread nD τ) (st0_5 t) fullShare ((dats m 0 c).before 5 t d)) ∗
      (∃ d, owns (c : Thread nD τ) (st0_6 t) fullShare ((dats m 0 c).before 6 t d)) ∗
      (∃ d, owns (c : Thread nD τ) (st0_7 t) fullShare ((dats m 0 c).before 7 t d)) ∗
      (∃ d, owns (c : Thread nD τ) (st0_8 t) fullShare ((dats m 0 c).before 8 t d)) ∗
      (∃ d, owns (c : Thread nD τ) (st0_9 t) fullShare ((dats m 0 c).before 9 t d)) ∗
      (∃ d, owns (c : Thread nD τ) (st0_10 t) fullShare ((dats m 0 c).before 10 t d)) ∗
      (∃ d, owns (c : Thread nD τ) (st0_11 t) fullShare ((dats m 0 c).before 11 t d)) ∗
      (∃ d, owns (c : Thread nD τ) (st0_12 t) fullShare ((dats m 0 c).before 12 t d)) ∗
      (∃ d, owns (c : Thread nD τ) (st0_13 t) fullShare ((dats m 0 c).before 13 t d)) ∗
      (∃ d, owns (c : Thread nD τ) (st0_14 t) fullShare ((dats m 0 c).before 14 t d)) ∗
      (∃ d, owns (c : Thread nD τ) (st0_15 t) fullShare ((dats m 0 c).before 15 t d)) ∗
      (∃ d, owns (c : Thread nD τ) (st0_16 t) fullShare ((dats m 0 c).before 16 t d)) ∗
      (∃ d, owns (c : Thread nD τ) (st0_17 t) fullShare ((dats m 0 c).before 17 t d)))

/-- and what it hands back. -/
def bodyPost (c : Dev nD) (t : Fin cfg0.N) : sProp 𝕄 :=
  iprop((dats m 0 c).Φ t.succ ∗ (dats m 0 c).owesAt () t.succ ∗
      (dats m 0 c).leavesExact 0 t ∗
      (dats m 0 c).leavesExact 1 t ∗
      (dats m 0 c).leavesExact 2 t ∗
      (dats m 0 c).leavesExact 3 t ∗
      (dats m 0 c).leavesExact 4 t ∗
      (dats m 0 c).leavesExact 5 t ∗
      (dats m 0 c).leavesExact 6 t ∗
      (dats m 0 c).leavesExact 7 t ∗
      (dats m 0 c).leavesExact 8 t ∗
      (dats m 0 c).leavesExact 9 t ∗
      (dats m 0 c).leavesExact 10 t ∗
      (dats m 0 c).leavesExact 11 t ∗
      (dats m 0 c).leavesExact 12 t ∗
      (dats m 0 c).leavesExact 13 t ∗
      (dats m 0 c).leavesExact 14 t ∗
      (dats m 0 c).leavesExact 15 t ∗
      (dats m 0 c).leavesExact 16 t ∗
      (dats m 0 c).leavesExact 17 t)

end Cert.Mix

end
-- ==== Proof.MixBody.lean ====
/- The mixers' gradient at any grid point leaves what `left` says. -/
module

public import proofs.«01_k».proof.Proof.MixData

@[expose] public section

set_option maxRecDepth 16384

noncomputable section

namespace Cert.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat Cfg Window BodyObligation cellOf)

local notation "𝕄" => MT nD τ sig Unit (Elt F) ℕ (UR sig nD τ) ℕ

attribute [local irreducible] firstRun middleRun lastRun

variable (m : (ℓ : Loc nD τ sig) → Buf (Elt F) ℓ)

/-- The body of a point is the kernel's body on the point's buffers. -/
theorem body_eq (t : Fin cfg0.N) : (bodyAt0 t : Prog (TpuEff nD τ sig (Elt F) Λ₀ .tc) PUnit) = body (grid0.coords t) (bufs t) := rfl

/-- What the body must hand back, the named contents written out. -/
theorem bodyPost_eq (c : Dev nD) (t : Fin cfg0.N) : bodyPost m c t =
    iprop((((∃ d, owns (c : Thread nD τ) keysBuf fullShare d) ∗ (∃ d, owns (c : Thread nD τ) valsBuf fullShare d)
      ∗ owns (c : Thread nD τ) dsinkBuf fullShare (left m c t.val t.isLt).sums.dsink
      ∗ owns (c : Thread nD τ) dkvAccBuf fullShare (left m c t.val t.isLt).sums.dkvAcc) ∗ (∃ r, prngReg c r))
      ∗ (dats m 0 c).owesAt () t.castSucc ∗
      (dats m 0 c).leavesExact 0 t ∗
      (dats m 0 c).leavesExact 1 t ∗
      (dats m 0 c).leavesExact 2 t ∗
      (dats m 0 c).leavesExact 3 t ∗
      (dats m 0 c).leavesExact 4 t ∗
      (dats m 0 c).leavesExact 5 t ∗
      (dats m 0 c).leavesExact 6 t ∗
      (dats m 0 c).leavesExact 7 t ∗
      (dats m 0 c).leavesExact 8 t ∗
      (dats m 0 c).leavesExact 9 t ∗
      (dats m 0 c).leavesExact 10 t ∗
      (dats m 0 c).leavesExact 11 t ∗
      (dats m 0 c).leavesExact 12 t ∗
      owns (c : Thread nD τ) (st0_13 t) fullShare (left m c t.val t.isLt).dzp ∗
      owns (c : Thread nD τ) (st0_14 t) fullShare (left m c t.val t.isLt).dq ∗
      (dats m 0 c).leavesExact 15 t ∗
      owns (c : Thread nD τ) (st0_16 t) fullShare (left m c t.val t.isLt).sums.small ∗
      owns (c : Thread nD τ) (st0_17 t) fullShare (left m c t.val t.isLt).sums.dps) := by
  unfold bodyPost
  rw [show (dats m 0 c).owesAt () t.succ = (dats m 0 c).owesAt () t.castSucc from rfl,
    show (dats m 0 c).Φ t.succ = carried m c (t.val + 1) t.isLt from rfl, carried_succ,
    leaves_eq m c 13 t rfl, leaves_eq m c 14 t rfl, leaves_eq m c 16 t rfl, leaves_eq m c 17 t rfl,
    after_13, after_14, after_16, after_17]

set_option maxHeartbeats 4000000 in
/-- The body at the first point. -/
theorem first_body (c : Dev nD) (t : Fin cfg0.N) (h0 : t.val = 0) (h1 : t.val ≠ 15) :
    bodyPre m c t ⊢ wp frame (wpE (defs₀ (F := F)) Variants.none c none) Set.univ (bodyAt0 t) (fun _ => bodyPost m c t) := by
  unfold bodyPre
  rw [body_eq, bodyPost_eq,
    show (dats m 0 c).Φ t.castSucc = carried m c t.val (Nat.le_of_lt t.isLt) from Pipeline.Dat.Φ_castSucc (carried m c) t]
  rw [carried_zero m c _ _ h0, scratch_eq, left_first m c t h0 h1,
    Dat.leavesExact_idle (dats m 0 c) 15 t (dkv_idle t (not_last_of_ne t h1)) (dkv_kept t (not_last_of_ne t h1))]
  dsimp only [firstLeft]
  iintro ⟨⟨⟨HS0, HS1, HS2, HS3⟩, Hg⟩, Ho, HI⟩
  ihave HI' := (take_ins m c t _) $$ HI
  icases HI' with ⟨HI, ⟨%d13, H13⟩, ⟨%d14, H14⟩, ⟨%d15, H15⟩, ⟨%d16, H16⟩, ⟨%d17, H17⟩⟩
  iapply (firstRun c (grid0.coords t) (bufs t) (first_of_zero t h0) (not_last_of_ne t h1) (ins m c t)).2
  isplitl [HI]; · iexact HI
  isplitl [H13]; · iexists _; iexact H13
  isplitl [H14]; · iexists _; iexact H14
  isplitl [H15]; · iexact H15
  isplitl [H16]; · iexists _; iexact H16
  isplitl [H17]; · iexists _; iexact H17
  isplitl [HS0]; · iexact HS0
  isplitl [HS1]; · iexact HS1
  isplitl [HS2]; · iexact HS2
  isplitl [HS3]; · iexact HS3
  iintro ⟨HI, H13, H14, H15, H16, H17, HS0, HS1, HS2, HS3⟩
  isplitl [HS0 HS1 HS2 HS3 Hg]
  · isplitr [Hg]
    swap; · iexact Hg
    isplitl [HS0]; · iapply (some_of_stored c _ _); iexact HS0
    isplitl [HS1]; · iapply (some_of_stored c _ _); iexact HS1
    isplitl [HS2]; · iapply (owns_of_stored c _ _ dsinkView (firstRun_dsink c _ _ _ _ _)); iexact HS2
    iapply (owns_of_stored c _ _ dkvAccView (firstRun_dkvAcc c _ _ _ _ _)); iexact HS3
  isplitl [Ho]; · iexact Ho
  iapply (give_ins m c t _)
  isplitl [HI]; · iexact HI
  isplitl [H13]; · iapply (owns_of_stored c _ _ dzpView (firstRun_dzp c _ _ _ _ _)); iexact H13
  isplitl [H14]; · iapply (owns_of_stored c _ _ dqView (firstRun_dq c _ _ _ _ _)); iexact H14
  isplitl [H15]; · iexists _; iexact H15
  isplitl [H16]; · iapply (owns_of_stored c _ _ smallView (firstRun_small c _ _ _ _ _)); iexact H16
  iapply (owns_of_stored c _ _ dpsView (firstRun_dps c _ _ _ _ _)); iexact H17

set_option maxHeartbeats 4000000 in
/-- The body at the last point. -/
theorem last_body (c : Dev nD) (t : Fin cfg0.N) (h0 : t.val ≠ 0) (h1 : t.val = 15) :
    bodyPre m c t ⊢ wp frame (wpE (defs₀ (F := F)) Variants.none c none) Set.univ (bodyAt0 t) (fun _ => bodyPost m c t) := by
  unfold bodyPre
  rw [body_eq, bodyPost_eq,
    show (dats m 0 c).Φ t.castSucc = carried m c t.val (Nat.le_of_lt t.isLt) from Pipeline.Dat.Φ_castSucc (carried m c) t]
  rw [carried_pos m c _ _ h0, left_last m c t h0 h1, leaves_eq m c 15 t (dkv_not_idle t (last_of_eq t h1)),
    after_15, left_last m c t h0 h1]
  simp only [small_before m c t h0, dps_before m c t h0]
  dsimp only [lastLeft]
  iintro ⟨⟨⟨HS0, HS1, HS2, HS3⟩, Hg⟩, Ho, HI⟩
  ihave HI' := (take_ins m c t _) $$ HI
  icases HI' with ⟨HI, ⟨%d13, H13⟩, ⟨%d14, H14⟩, ⟨%d15, H15⟩, ⟨%d16, H16⟩, ⟨%d17, H17⟩⟩
  iapply (lastRun c (grid0.coords t) (bufs t) (not_first_of_pos t h0) (last_of_eq t h1) (ins m c t) (before m c t).sums).2
  isplitl [HI]; · iexact HI
  isplitl [H13]; · iexists _; iexact H13
  isplitl [H14]; · iexists _; iexact H14
  isplitl [H15]; · iexists _; iexact H15
  isplitl [H16]; · iexact H16
  isplitl [H17]; · iexact H17
  isplitl [HS0]; · iexact HS0
  isplitl [HS1]; · iexact HS1
  isplitl [HS2]; · iexact HS2
  isplitl [HS3]; · iexact HS3
  iintro ⟨HI, H13, H14, H15, H16, H17, HS0, HS1, HS2, HS3⟩
  isplitl [HS0 HS1 HS2 HS3 Hg]
  · isplitr [Hg]
    swap; · iexact Hg
    isplitl [HS0]; · iapply (some_of_stored c _ _); iexact HS0
    isplitl [HS1]; · iapply (some_of_stored c _ _); iexact HS1
    isplitl [HS2]; · iapply (owns_of_storedOver c _ _ _ _); iexact HS2
    iapply (owns_of_storedOver c _ _ _ _); iexact HS3
  isplitl [Ho]; · iexact Ho
  iapply (give_ins m c t _)
  isplitl [HI]; · iexact HI
  isplitl [H13]; · iapply (owns_of_stored c _ _ dzpView (lastRun_dzp c _ _ _ _ _ _)); iexact H13
  isplitl [H14]; · iapply (owns_of_stored c _ _ dqView (lastRun_dq c _ _ _ _ _ _)); iexact H14
  isplitl [H15]; · iapply (owns_of_stored c _ _ dkvView (lastRun_dkv c _ _ _ _ _ _)); iexact H15
  isplitl [H16]; · iapply (owns_of_storedOver c _ _ _ _); iexact H16
  iapply (owns_of_storedOver c _ _ _ _); iexact H17

set_option maxHeartbeats 4000000 in
/-- The body at a point in the middle. -/
theorem middle_body (c : Dev nD) (t : Fin cfg0.N) (h0 : t.val ≠ 0) (h1 : t.val ≠ 15) :
    bodyPre m c t ⊢ wp frame (wpE (defs₀ (F := F)) Variants.none c none) Set.univ (bodyAt0 t) (fun _ => bodyPost m c t) := by
  unfold bodyPre
  rw [body_eq, bodyPost_eq,
    show (dats m 0 c).Φ t.castSucc = carried m c t.val (Nat.le_of_lt t.isLt) from Pipeline.Dat.Φ_castSucc (carried m c) t]
  rw [carried_pos m c _ _ h0, left_middle m c t h0 h1,
    Dat.leavesExact_idle (dats m 0 c) 15 t (dkv_idle t (not_last_of_ne t h1)) (dkv_kept t (not_last_of_ne t h1))]
  simp only [small_before m c t h0, dps_before m c t h0]
  dsimp only [middleLeft]
  iintro ⟨⟨⟨HS0, HS1, HS2, HS3⟩, Hg⟩, Ho, HI⟩
  ihave HI' := (take_ins m c t _) $$ HI
  icases HI' with ⟨HI, ⟨%d13, H13⟩, ⟨%d14, H14⟩, ⟨%d15, H15⟩, ⟨%d16, H16⟩, ⟨%d17, H17⟩⟩
  iapply (middleRun c (grid0.coords t) (bufs t) (not_first_of_pos t h0) (not_last_of_ne t h1) (ins m c t) (before m c t).sums).2
  isplitl [HI]; · iexact HI
  isplitl [H13]; · iexists _; iexact H13
  isplitl [H14]; · iexists _; iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  iintro ⟨HI, H13, H14, H15, H16, H17, HS0, HS1, HS2, HS3⟩
  isplitl [HS0 HS1 HS2 HS3 Hg]
  · isplitr [Hg]
    swap; · iexact Hg
    isplitl [HS0]; · iapply (some_of_stored c _ _); iexact HS0
    isplitl [HS1]; · iapply (some_of_stored c _ _); iexact HS1
    isplitl [HS2]; · iapply (owns_of_storedOver c _ _ _ _); iexact HS2
    iapply (owns_of_storedOver c _ _ _ _); iexact HS3
  isplitl [Ho]; · iexact Ho
  iapply (give_ins m c t _)
  isplitl [HI]; · iexact HI
  isplitl [H13]; · iapply (owns_of_stored c _ _ dzpView (middleRun_dzp c _ _ _ _ _ _)); iexact H13
  isplitl [H14]; · iapply (owns_of_stored c _ _ dqView (middleRun_dq c _ _ _ _ _ _)); iexact H14
  isplitl [H15]; · iexists _; iexact H15
  isplitl [H16]; · iapply (owns_of_storedOver c _ _ _ _); iexact H16
  iapply (owns_of_storedOver c _ _ _ _); iexact H17

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact first_body m c t h0 (by omega)
  · by_cases h1 : t.val = 15
    · exact last_body m c t h0 h1
    · exact middle_body m c t h0 h1

end Cert.Mix

end
-- ==== Proof.MixFrame.lean ====
/- The mixers' gradient runs: every grid point leaves what `left` says, no argument changes, no counter stays up. -/
module

public import proofs.«01_k».proof.Proof.MixBody
public import Idealize.ShloMosaic.Lib.Claim

@[expose] public section

set_option maxRecDepth 16384

noncomputable section

namespace Cert.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

theorem enter (c : Dev nD) : Pipeline.ΦA spec0 c ⊢ (dats m 0 c).Φ 0 := by
  rw [show (dats m 0 c).Φ 0 = carried m c 0 (Nat.zero_le _) from rfl, carried_zero m c 0 _ rfl]

theorem leave (c : Dev nD) : (dats m 0 c).Φ (Fin.last cfg0.N) ⊢ Pipeline.ΦA spec0 c := by
  rw [show (dats m 0 c).Φ (Fin.last cfg0.N) = carried m c cfg0.N le_rfl from rfl,
    carried_pos m c cfg0.N le_rfl (by rw [show cfg0.N = 16 from N_0]; decide), scratch_eq]
  iintro ⟨⟨HS0, HS1, HS2, HS3⟩, Hg⟩
  isplitr [Hg]
  swap; · iexact Hg
  isplitl [HS0]; · iexact HS0
  isplitl [HS1]; · iexact HS1
  isplitl [HS2]; · iexists _; iexact HS2
  iexists _; iexact HS3

set_option backward.isDefEq.respectTransparency.types false in
/-- The launch: every execution ends, with the result arrays holding what `left` says and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- Every execution ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (dats_A m) (run_main m ρ)) ((θ_run defs _ _).mono (fun _ h => h.2) (run_quiescent m ρ))

end Cert.Mix

end
-- ==== Proof.MixSame.lean ====
/- The printed program and the one with its mask named are one program when the name is read as its literal:
   the printed one's frame is the other's. -/
module

public import proofs.«01_k».proof.Defs
public import proofs.«01_k».proof.Proof.MixFrame
public import proofs.«01_k».proof.Proof.Gen.Kernel3

@[expose] public section

set_option maxRecDepth 16384

noncomputable section

namespace Cert.Mix
open Idealize.ShloMosaic Idealize.ShloMosaic.TcCoe Idealize.ShloMosaic.Tactic Idealize.SL.Sem

/-- A name read as its literal. -/
@[reducible] def plainNamed : Named Bits := ⟨fun _ _ {_} b => FloatOps.ofBits _ b⟩

attribute [local instance] plainNamed

section
open Cert.Kernel3

/-- Every execution of the printed program ends, the arguments as they were and every counter at zero. -/
def FramePlain : Prop := ∀ (m : (ℓ : Loc nD τ sig) → Buf (Elt Bits) ℓ) (ρ : Dev nD → PrngReg),
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

end

section
open Cert.Kernel3Ideal

/-- The same of the program with the name. -/
def FrameNamed : Prop := ∀ (m : (ℓ : Loc nD τ sig) → Buf (Elt Bits) ℓ) (ρ : Dev nD → PrngReg),
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frame_named : FrameNamed := fun m ρ => frame (F := Bits) m ρ

end

theorem same_frame : FrameNamed = FramePlain := by sl_kernel_rfl

theorem frame_plain : FramePlain := same_frame ▸ frame_named

end Cert.Mix

end
-- ==== Proof.SinkColumn.lean ====
/- One column of the attention: the scores of one query, its sink, and the gradient of its softmax. -/
module

public import proofs.«01_k».proof.Proof.Finite
public import Idealize.ShloMosaic.PureOps.Ideal

@[expose] public section

set_option maxRecDepth 16384

noncomputable section

open Idealize.ShloMosaic

namespace Cert.Math

theorem Ideal_div_zero {y : EReal} (h : y ≠ 0) : Ideal.div 0 y = 0 := by
  simp [Ideal.div, h]

/-- The softmax's gradient as differentiation writes it, with the share that would go through the subtracted maximum
    (`w`, divided among its ties), is the product of the weight with the centred cotangent. -/
theorem sink_column {ι : Type*} [Fintype ι] (e dp : ι → EReal) (E : EReal) (he : ∀ k, ∃ r : ℝ, 0 ≤ r ∧ e k = r) (hdp : ∀ k, IsReal (dp k))
    (hE : ∃ r : ℝ, 0 < r ∧ E = r) (w cnt tie : EReal) (hcnt : cnt ≠ 0) (k : ι) :
    (Ideal.div (dp k) (∑ j, e j + E) + -(∑ j, dp j * Ideal.div 1 ((∑ j, e j + E) * (∑ j, e j + E)) * e j)) * e k
      + Ideal.div ((-(-(∑ j, dp j * Ideal.div 1 ((∑ j, e j + E) * (∑ j, e j + E)) * e j) * E)
          + ∑ l, -((Ideal.div (dp l) (∑ j, e j + E) + -(∑ j, dp j * Ideal.div 1 ((∑ j, e j + E) * (∑ j, e j + E)) * e j)) * e l)) * w) cnt * tie
      = e k * Ideal.div 1 (∑ j, e j + E) * (dp k - ∑ j, e j * Ideal.div 1 (∑ j, e j + E) * dp j) := by
  choose e' he0 he' using he
  choose d' hd' using hdp
  obtain ⟨E', hE0, rfl⟩ := hE
  obtain rfl : e = fun k => (e' k : EReal) := funext he'
  obtain rfl : dp = fun k => (d' k : EReal) := funext hd'
  dsimp only
  rw [← coe_sum, ← EReal.coe_add, ← EReal.coe_mul]
  have hs : 0 ≤ ∑ j, e' j := Finset.sum_nonneg fun j _ => he0 j
  have hZ : (∑ j, e' j) + E' ≠ 0 := by linarith
  set Z := (∑ j, e' j) + E' with hZd
  have hZZ : Z * Z ≠ 0 := mul_ne_zero hZ hZ
  simp only [Ideal.div_coe hZ, Ideal.div_coe hZZ, ← EReal.coe_one, ← EReal.coe_mul, ← coe_sum, ← EReal.coe_neg, ← EReal.coe_add, ← EReal.coe_sub]
  have h0 : -(-(∑ j, d' j * (1 * (1 / (Z * Z))) * e' j) * E') + ∑ l, -((d' l * (1 / Z) + -(∑ j, d' j * (1 * (1 / (Z * Z))) * e' j)) * e' l) = 0 := by
    set D := ∑ j, d' j * (1 * (1 / (Z * Z))) * e' j with hD
    have hDZ : D * Z = ∑ l, d' l * (1 / Z) * e' l := by
      rw [hD, Finset.sum_mul]
      refine Finset.sum_congr rfl fun l _ => ?_
      field_simp
    have : ∑ l, -((d' l * (1 / Z) + -D) * e' l) = -(∑ l, d' l * (1 / Z) * e' l) + D * ∑ l, e' l := by
      clear_value D
      rw [Finset.mul_sum, ← Finset.sum_neg_distrib, ← Finset.sum_add_distrib]
      exact Finset.sum_congr rfl fun l _ => by ring
    rw [this, ← hDZ, hZd]
    ring
  rw [h0, EReal.coe_zero, zero_mul, Ideal_div_zero hcnt, zero_mul, add_zero, EReal.coe_eq_coe_iff]
  have h1 : ∑ j, e' j * (1 * (1 / Z)) * d' j = Z * ∑ j, d' j * (1 * (1 / (Z * Z))) * e' j := by
    rw [Finset.mul_sum]
    refine Finset.sum_congr rfl fun j _ => ?_
    field_simp
  rw [h1]
  field_simp
  ring

/-- The place among a block's 256 keys of the key that query `a` has in place `r` of its 128. -/
def pack (a r : Fin 128) : Fin 256 := if r.val ≤ a.val then ⟨128 + r.val, by omega⟩ else ⟨r.val, by omega⟩

/-- The keys that query `a` reads. -/
def reads (a : Fin 128) (k : Fin 256) : Prop := a.val < k.val ∧ k.val ≤ a.val + 128

instance (a : Fin 128) (k : Fin 256) : Decidable (reads a k) := inferInstanceAs (Decidable (_ ∧ _))

theorem reads_pack (a r : Fin 128) : reads a (pack a r) := by
  unfold reads pack
  split_ifs with h <;> dsimp only <;> omega

theorem exists_pack (a : Fin 128) (k : Fin 256) (h : reads a k) : ∃ r, pack a r = k := by
  obtain ⟨h1, h2⟩ := h
  by_cases hk : k.val < 128
  · exact ⟨⟨k.val, hk⟩, by unfold pack; rw [if_neg (by dsimp only; omega)]⟩
  · refine ⟨⟨k.val - 128, by omega⟩, ?_⟩
    unfold pack
    rw [if_pos (by dsimp only; omega)]
    apply Fin.ext; dsimp only; omega

/-- A sum over the 256 keys of terms that vanish off the keys read is the sum over the 128 places. -/
theorem sum_pack (a : Fin 128) (f : Fin 256 → EReal) (hf : ∀ k, ¬reads a k → f k = 0) : ∑ k, f k = ∑ r, f (pack a r) := by
  rw [show (∑ k : Fin 256, f k) = ∑ k : Fin (128 + 128), f k from rfl, Fin.sum_univ_add, ← Finset.sum_add_distrib]
  refine Finset.sum_congr rfl fun r _ => ?_
  unfold pack
  split_ifs with h
  · rw [hf _ (by unfold reads; simp only [Fin.val_castAdd]; omega), zero_add]; rfl
  · rw [hf (Fin.natAdd 128 r) (by unfold reads; simp only [Fin.val_natAdd]; omega), add_zero]; rfl

/-- The same of a maximum of terms that are the bottom off the keys read. -/
theorem max_pack (a : Fin 128) (f : Fin 256 → EReal) (hf : ∀ k, ¬reads a k → f k = ⊥) :
    Finset.univ.fold max ⊥ f = Finset.univ.fold max ⊥ fun r => f (pack a r) := by
  apply le_antisymm
  · rw [Finset.fold_max_le]
    refine ⟨bot_le, fun k _ => ?_⟩
    by_cases h : reads a k
    · obtain ⟨r, rfl⟩ := exists_pack a k h
      rw [Finset.le_fold_max]
      exact .inr ⟨r, Finset.mem_univ r, le_rfl⟩
    · rw [hf k h]; exact bot_le
  · rw [Finset.fold_max_le]
    refine ⟨bot_le, fun r _ => ?_⟩
    rw [Finset.le_fold_max]
    exact .inr ⟨_, Finset.mem_univ (pack a r), le_rfl⟩

/-- A maximum of reals and bottoms, one of them real, is real and attained. -/
theorem max_real (f : Fin 256 → EReal) (hf : ∀ k, f k = ⊥ ∨ IsReal (f k)) (h : ∃ k, IsReal (f k)) :
    IsReal (Finset.univ.fold max ⊥ f) ∧ ∃ k, f k = Finset.univ.fold max ⊥ f := by
  have hm : Finset.univ.fold max ⊥ f = Finset.univ.sup f := rfl
  rw [hm]
  obtain ⟨k, -, hk⟩ := Finset.exists_mem_eq_sup (Finset.univ : Finset (Fin 256)) ⟨0, Finset.mem_univ _⟩ f
  refine ⟨?_, k, hk.symm⟩
  rw [hk]
  rcases hf k with h' | h'
  · exfalso
    obtain ⟨j, r, hr⟩ := h
    have : f j ≤ ⊥ := by rw [← h', ← hk]; exact Finset.le_sup (Finset.mem_univ j)
    rw [hr, le_bot_iff] at this
    exact EReal.coe_ne_bot r this
  · exact h'

/-- The exponential of a score less a real: zero for a masked score. -/
theorem exp_nonneg_real (s : EReal) (hs : s = ⊥ ∨ IsReal s) (m : EReal) (hm : IsReal m) : ∃ r : ℝ, 0 ≤ r ∧ Ideal.exp (s - m) = r := by
  obtain ⟨m, rfl⟩ := hm
  rcases hs with rfl | ⟨r, rfl⟩
  · exact ⟨0, le_rfl, by simp⟩
  · exact ⟨Real.exp (r - m), (Real.exp_pos _).le, by rw [← EReal.coe_sub, Ideal.exp_coe]⟩

theorem exp_pos_real (s : EReal) (hs : IsReal s) (m : EReal) (hm : IsReal m) : ∃ r : ℝ, 0 < r ∧ Ideal.exp (s - m) = r := by
  obtain ⟨m, rfl⟩ := hm
  obtain ⟨r, rfl⟩ := hs
  exact ⟨Real.exp (r - m), Real.exp_pos _, by rw [← EReal.coe_sub, Ideal.exp_coe]⟩

theorem exp_bot_sub (m : EReal) (hm : IsReal m) : Ideal.exp (⊥ - m) = 0 := by
  obtain ⟨m, rfl⟩ := hm
  simp

end Cert.Math

end
-- ==== Proof.AttnColumn.lean ====
/- One query of the attention: its scores against the 256 keys of its block and the block before, their softmax with the
   sink, and the query's gradient. -/
module

public import proofs.«01_k».proof.Proof.SinkColumn

@[expose] public section

set_option maxRecDepth 16384

noncomputable section

open Idealize.ShloMosaic

namespace Cert.Math

/-- One query: the keys and values it may read, itself, its output's cotangent, its head's slope and sink, its place in
    its block, and whether that block is the first. -/
structure Column where
  K : Fin 256 → Fin 64 → EReal
  V : Fin 256 → Fin 64 → EReal
  q : Fin 64 → EReal
  ct : Fin 64 → EReal
  slope : EReal
  sink : EReal
  a : Fin 128
  first : Prop

namespace Column

variable (C : Column)

/-- One over the square root of the head's width. -/
def eighth : EReal := ((1 / 8 : ℝ) : EReal)

/-- How far key `k` lies behind the query. -/
def dist (k : Fin 256) : EReal := (((128 + (C.a.val : ℤ) - (k.val : ℤ) : ℤ) : ℝ) : EReal)

def valid (k : Fin 256) : Prop := reads C.a k ∧ (C.first → 128 ≤ k.val)

def score (k : Fin 256) : EReal := (∑ d, C.K k d * C.q d) * eighth - C.slope * C.dist k

open Classical in
def masked (k : Fin 256) : EReal := if C.valid k then C.score k else ⊥

def top : EReal := max (Finset.univ.fold max ⊥ C.masked) C.sink

def e (k : Fin 256) : EReal := Ideal.exp (C.masked k - C.top)

def es : EReal := Ideal.exp (C.sink - C.top)

def Z : EReal := ∑ k, C.e k + C.es

def pn (k : Fin 256) : EReal := C.e k * Ideal.div 1 C.Z

def dp (k : Fin 256) : EReal := ∑ d, C.ct d * C.V k d

def delta : EReal := ∑ k, C.pn k * C.dp k

def ds (k : Fin 256) : EReal := C.pn k * (C.dp k - C.delta)

def dq (d : Fin 64) : EReal := ∑ k, C.ds k * eighth * C.K k d

/-- Every array the query reads holds reals. -/
structure Real : Prop where
  K : ∀ k d, IsReal (C.K k d)
  V : ∀ k d, IsReal (C.V k d)
  q : ∀ d, IsReal (C.q d)
  ct : ∀ d, IsReal (C.ct d)
  slope : IsReal C.slope
  sink : IsReal C.sink

variable {C}

theorem isReal_eighth : IsReal eighth := ⟨_, rfl⟩

theorem Real.score (h : C.Real) (k : Fin 256) : IsReal (C.score k) :=
  (IsReal.mul (IsReal.sum fun d => (h.K k d).mul (h.q d)) isReal_eighth).sub (h.slope.mul ⟨_, rfl⟩)

theorem Real.dp (h : C.Real) (k : Fin 256) : IsReal (C.dp k) := IsReal.sum fun d => (h.ct d).mul (h.V k d)

theorem Real.masked (h : C.Real) (k : Fin 256) : C.masked k = ⊥ ∨ IsReal (C.masked k) := by
  unfold Column.masked
  split_ifs
  · exact .inr (h.score k)
  · exact .inl rfl

/-- The query's own place is a key it reads, in any block. -/
theorem valid_self : C.valid ⟨128 + C.a.val, by omega⟩ :=
  ⟨by unfold reads; dsimp only; omega, fun _ => by dsimp only; omega⟩

theorem Real.best (h : C.Real) : IsReal (Finset.univ.fold max ⊥ C.masked) ∧ ∃ k, C.masked k = Finset.univ.fold max ⊥ C.masked :=
  max_real _ h.masked ⟨_, by unfold Column.masked; rw [if_pos valid_self]; exact h.score _⟩

theorem Real.top (h : C.Real) : IsReal C.top := by
  unfold Column.top
  rcases max_choice (Finset.univ.fold max ⊥ C.masked) C.sink with h' | h' <;> rw [h']
  · exact h.best.1
  · exact h.sink

theorem Real.e (h : C.Real) (k : Fin 256) : ∃ r : ℝ, 0 ≤ r ∧ C.e k = r := exp_nonneg_real _ (h.masked k) _ h.top

theorem Real.es (h : C.Real) : ∃ r : ℝ, 0 < r ∧ C.es = r := exp_pos_real _ h.sink _ h.top

theorem Real.e_off (h : C.Real) (k : Fin 256) (hk : ¬C.valid k) : C.e k = 0 := by
  unfold Column.e Column.masked
  rw [if_neg hk]
  exact exp_bot_sub _ h.top

theorem Real.pn_off (h : C.Real) (k : Fin 256) (hk : ¬C.valid k) : C.pn k = 0 := by
  unfold Column.pn
  rw [h.e_off k hk, zero_mul]

theorem Real.ds_off (h : C.Real) (k : Fin 256) (hk : ¬C.valid k) : C.ds k = 0 := by
  unfold Column.ds
  rw [h.pn_off k hk, zero_mul]

theorem not_valid_of_not_reads (k : Fin 256) (hk : ¬reads C.a k) : ¬C.valid k := fun h => hk h.1

/-- The key in place `r` of the query's 128 may be read unless it lies before the first block. -/
theorem valid_pack (r : Fin 128) : C.valid (pack C.a r) ↔ (C.first → r.val ≤ C.a.val) := by
  unfold valid
  constructor
  · rintro ⟨-, h⟩ hf
    have := h hf
    unfold pack at this
    split_ifs at this with hr
    · exact hr
    · dsimp only at this; omega
  · intro h
    refine ⟨reads_pack _ _, fun hf => ?_⟩
    unfold pack
    rw [if_pos (h hf)]
    dsimp only; omega

/-! The same, over the 128 places of the keys the query reads. -/

theorem top_pack : C.top = max (Finset.univ.fold max ⊥ fun r => C.masked (pack C.a r)) C.sink := by
  unfold Column.top
  rw [max_pack C.a C.masked fun k hk => if_neg (not_valid_of_not_reads k hk)]

theorem Real.Z_pack (h : C.Real) : C.Z = ∑ r, C.e (pack C.a r) + C.es := by
  unfold Column.Z
  rw [sum_pack C.a C.e fun k hk => h.e_off k (not_valid_of_not_reads k hk)]

theorem Real.delta_pack (h : C.Real) : C.delta = ∑ r, C.pn (pack C.a r) * C.dp (pack C.a r) := by
  unfold Column.delta
  rw [sum_pack C.a (fun k => C.pn k * C.dp k) fun k hk => by rw [h.pn_off k (not_valid_of_not_reads k hk), zero_mul]]

theorem Real.dq_pack (h : C.Real) (d : Fin 64) : C.dq d = ∑ r, C.ds (pack C.a r) * eighth * C.K (pack C.a r) d := by
  unfold Column.dq
  rw [sum_pack C.a (fun k => C.ds k * eighth * C.K k d)
    fun k hk => by rw [h.ds_off k (not_valid_of_not_reads k hk), zero_mul, zero_mul]]

/-- Two columns that differ only in the keys and values not read have one gradient. -/
theorem dq_congr {C' : Column} (h : C.Real) (h' : C'.Real) (hq : C.q = C'.q) (hct : C.ct = C'.ct) (hslope : C.slope = C'.slope)
    (hsink : C.sink = C'.sink) (ha : C.a = C'.a) (hfirst : C.first ↔ C'.first) (hK : ∀ k, C.valid k → C.K k = C'.K k)
    (hV : ∀ k, C.valid k → C.V k = C'.V k) (d : Fin 64) : C.dq d = C'.dq d := by
  have hv : ∀ k, C.valid k ↔ C'.valid k := fun k => by unfold valid; rw [ha, hfirst]
  have hm : C.masked = C'.masked := funext fun k => by
    unfold Column.masked
    by_cases hk : C.valid k
    · rw [if_pos hk, if_pos ((hv k).1 hk)]
      unfold Column.score Column.dist
      rw [hK k hk, hq, hslope, ha]
    · rw [if_neg hk, if_neg (mt (hv k).2 hk)]
  have ht : C.top = C'.top := by unfold Column.top; rw [hm, hsink]
  have he : C.e = C'.e := funext fun k => by unfold Column.e; rw [hm, ht]
  have hZ : C.Z = C'.Z := by unfold Column.Z Column.es; rw [he, hsink, ht]
  have hp : C.pn = C'.pn := funext fun k => by unfold Column.pn; rw [he, hZ]
  have hdp : ∀ k, C.valid k → C.dp k = C'.dp k := fun k hk => by unfold Column.dp; rw [hV k hk, hct]
  have hd : C.delta = C'.delta := by
    unfold Column.delta
    refine Finset.sum_congr rfl fun k _ => ?_
    by_cases hk : C.valid k
    · rw [hp, hdp k hk]
    · rw [h.pn_off k hk, h'.pn_off k (mt (hv k).2 hk), zero_mul, zero_mul]
  unfold Column.dq
  refine Finset.sum_congr rfl fun k _ => ?_
  by_cases hk : C.valid k
  · unfold Column.ds
    rw [hp, hdp k hk, hd, hK k hk]
  · rw [h.ds_off k hk, h'.ds_off k (mt (hv k).2 hk), zero_mul, zero_mul, zero_mul]

end Column

end Cert.Math

end
-- ==== Proof.AttnTile.lean ====
/- One block of 128 queries of one key head, as the kernel works on it: four query heads side by side, the keys each
   query reads packed into 128 rows. -/
module

public import proofs.«01_k».proof.Proof.MixBufs
public import proofs.«01_k».proof.Proof.AttnColumn
public import Idealize.ShloMosaic.Lib.Pipeline.ValueKit

@[expose] public section

set_option maxRecDepth 16384

noncomputable section

namespace Cert.Mix

open Cert.Kernel3Ideal Cert.Kernel3Ideal.Gen
open Idealize.ShloMosaic Idealize.ShloMosaic.TcCoe

section
variable {F : FTy → Type} [FloatOps F] [Named F]

/-- Row `r` of column `c` holds a key of the query's own block rather than of the block before. -/
def own : IVec S128x512 1 :=
  cmpi .sle (iota .tc S128x512 32 [0] iota_S128x512_d0_w32)
    (andi (iota .tc S128x512 32 [1] iota_S128x512_d1_w32) (broadcast S128x512 127#32))

/-- The left half of the lanes. -/
def leftLanes : IVec S128x128 1 := cmpi .slt (iota .tc S128x128 32 [1] iota_S128x128_d1_w32) (broadcast S128x128 64#32)

/-- Two pairs of heads, each head alone in its half of the lanes, one under the other. -/
def stack (p0 p1 : FVec F S128x128 .bf16) : FVec F S512x128 .bf16 :=
  concatenate S512x128 0 [⟨S128x128, select leftLanes p0 (broadcast S128x128 (Scalar.ofBits .bf16 0x0000#16))⟩,
    ⟨S128x128, select leftLanes (broadcast S128x128 (Scalar.ofBits .bf16 0x0000#16)) p0⟩,
    ⟨S128x128, select leftLanes p1 (broadcast S128x128 (Scalar.ofBits .bf16 0x0000#16))⟩,
    ⟨S128x128, select leftLanes (broadcast S128x128 (Scalar.ofBits .bf16 0x0000#16)) p1⟩]
    concatenates_S128x128_S128x128_S128x128_S128x128_S512x128_d0

/-- Of 256 keys against 512 queries, the 128 that each query reads. -/
def packed (x : FVec F S256x128 .bf16) (y : FVec F S512x128 .bf16) : FVec F S128x512 .f32 :=
  select own
    (extractStridedSlice S128x512 ![128, 0] (matmul dot_S256x128_S512x128_S256x512_1_1_0_0_n_n none x y (constant S256x512 .f32 0x00000000#32))
      slices_S256x512_o128_0_S128x512)
    (extractStridedSlice S128x512 ![0, 0] (matmul dot_S256x128_S512x128_S256x512_1_1_0_0_n_n none x y (constant S256x512 .f32 0x00000000#32))
      slices_S256x512_o0_0_S128x512)

/-- The scores of a block that is not the first. -/
def scores (k : FVec F S256x128 .bf16) (q : FVec F S512x128 .bf16) (bias : FVec F S128x512 .f32) : FVec F S128x512 .f32 :=
  addf (mulf (packed k q) (broadcast S128x512 (Scalar.ofBits .f32 0x3E000000#32))) bias

/-- The scores of a block that is the first of its array when the grid point is. -/
def scoresFirst (i : BitVec 32) (s : FVec F S128x512 .f32) : FVec F S128x512 .f32 :=
  select (andi (broadcast S128x512 (Scalar.cmpi .eq i 0#32)) (xori own (constantI S128x512 1 1#1)))
    (broadcast S128x512 (Named.named κ "mask" 0xF149F2CA#32)) s

variable (s : FVec F S128x512 .f32) (sink : FVec F S1x512 .f32)

/-- Each query's greatest score, its sink among them. -/
def best : FVec F S1x512 .f32 :=
  maximumf (shapeCast S1x512 (multiReduction .maximumf [0] S512 s 0xFF800000#32 reduces_S128x512_S512 (.inl rfl) rfl) shapeCasts_S512_S1x512) sink

def weights : FVec F S128x512 .f32 := exp (subf s (broadcastTo S128x512 (best s sink) broadcasts_S1x512_S128x512))

def inv : FVec F S1x512 .f32 :=
  divf (broadcast S1x512 (Scalar.ofBits .f32 0x3F800000#32))
    (addf (shapeCast S1x512 (multiReduction .add [0] S512 (weights s sink) 0x00000000#32 reduces_S128x512_S512 (.inl rfl) rfl) shapeCasts_S512_S1x512)
      (exp (subf sink (best s sink))))

def probs : FVec F S128x512 .f32 := mulf (weights s sink) (broadcastTo S128x512 (inv s sink) broadcasts_S1x512_S128x512)

variable (dp : FVec F S128x512 .f32)

def deltas : FVec F S1x512 .f32 :=
  shapeCast S1x512 (multiReduction .add [0] S512 (mulf (probs s sink) dp) 0x00000000#32 reduces_S128x512_S512 (.inl rfl) rfl) shapeCasts_S512_S1x512

/-- The scores' gradient, over the packed keys. -/
def dscores : FVec F S128x512 .f32 :=
  mulf (mulf (probs s sink) (subf dp (broadcastTo S128x512 (deltas s sink dp) broadcasts_S1x512_S128x512)))
    (broadcast S128x512 (Scalar.ofBits .f32 0x3E000000#32))

/-- Packed keys in their places among the 256, the others zero. -/
def unpacked (x : FVec F S128x512 .f32) : FVec F S256x512 .f32 :=
  concatenate S256x512 0 [⟨S128x512, select own (broadcast S128x512 (Scalar.ofBits .f32 0x00000000#32)) x⟩,
    ⟨S128x512, select own x (broadcast S128x512 (Scalar.ofBits .f32 0x00000000#32))⟩] concatenates_S128x512_S128x512_S256x512_d0

/-- The queries' gradient, its lanes twice over. -/
def dqs (k : FVec F S256x128 .bf16) : FVec F S512x128 .f32 :=
  matmul dot_S256x512_S256x128_S512x128_0_0_1_1_n_n none (truncf .bf16 (unpacked (dscores s sink dp)) bitsLt_bf16_f32) k
    (constant S512x128 .f32 0x00000000#32)

/-- The first pair of heads, of the stacked four. -/
def pair0 (x : FVec F S512x128 .f32) : FVec F S128x128 .bf16 :=
  truncf .bf16 (select leftLanes (extractStridedSlice S128x128 ![0, 0] x slices_S512x128_o0_0_S128x128)
    (extractStridedSlice S128x128 ![128, 0] x slices_S512x128_o128_0_S128x128)) bitsLt_bf16_f32

/-- The second pair. -/
def pair1 (x : FVec F S512x128 .f32) : FVec F S128x128 .bf16 :=
  truncf .bf16 (select leftLanes (extractStridedSlice S128x128 ![256, 0] x slices_S512x128_o256_0_S128x128)
    (extractStridedSlice S128x128 ![384, 0] x slices_S512x128_o384_0_S128x128)) bitsLt_bf16_f32

end

/-! Read at an index. -/

open Cert.Math

/-- Head `g`'s query `a` among the 512 columns. -/
def col (g : Fin 4) (a : Fin 128) : Fin 512 := ⟨128 * g.val + a.val, by omega⟩

theorem and_127 (n : ℕ) (hn : n < 512) : BitVec.ofNat 32 n &&& 127#32 = BitVec.ofNat 32 (n % 128) := by
  apply BitVec.eq_of_toNat_eq
  simp only [BitVec.toNat_and, BitVec.toNat_ofNat]
  rw [Nat.mod_eq_of_lt (show n < 2 ^ 32 by omega), Nat.mod_eq_of_lt (show n % 128 < 2 ^ 32 by omega)]
  exact Nat.and_two_pow_sub_one_eq_mod n 7

theorem own_apply (r : Fin 128) (g : Fin 4) (a : Fin 128) : own (ix2 r (col g a)) = 1#1 ↔ r.val ≤ a.val := by
  pointwise [own, col]
  have h : IntOp.andi (BitVec.ofNat 32 (128 * g.val + a.val)) 127#32 = BitVec.ofNat 32 a.val := by
    have := and_127 (128 * g.val + a.val) (by omega)
    rw [show (128 * g.val + a.val) % 128 = a.val by omega] at this
    exact this
  rw [h]
  word_cmp

theorem leftLanes_apply (a l : Fin 128) : leftLanes (ix2 a l) = 1#1 ↔ l.val < 64 := by
  pointwise [leftLanes]
  word_cmp

/-- A lane of the left half, and the same one of the right. -/
def lo (d : Fin 64) : Fin 128 := ⟨d.val, by omega⟩
def hi (d : Fin 64) : Fin 128 := ⟨64 + d.val, by omega⟩

theorem left_lo (a : Fin 128) (d : Fin 64) : leftLanes (ix2 a (lo d)) = 1#1 := (leftLanes_apply a (lo d)).2 d.isLt
theorem left_hi (a : Fin 128) (d : Fin 64) : leftLanes (ix2 a (hi d)) = 0#1 := by
  have h := mt (leftLanes_apply a (hi d)).1 (by show ¬(64 + d.val < 64); omega)
  revert h
  generalize leftLanes (ix2 a (hi d)) = b
  revert b
  decide

theorem sum_halves (f : Fin 128 → EReal) : ∑ l, f l = ∑ d, (f (lo d) + f (hi d)) := by
  rw [show (∑ l : Fin 128, f l) = ∑ l : Fin (64 + 64), f l from rfl, Fin.sum_univ_add, ← Finset.sum_add_distrib]
  rfl

variable (p0 p1 : FVec Ideal S128x128 .bf16)

theorem select_one {α : Type} {b : BitVec 1} (h : b = 1#1) (x y : α) : Scalar.select b x y = x := by subst h; rfl
theorem select_zero {α : Type} {b : BitVec 1} (h : b = 0#1) (x y : α) : Scalar.select b x y = y := by subst h; rfl

theorem own_zero {r : Fin 128} {g : Fin 4} {a : Fin 128} (h : ¬r.val ≤ a.val) : own (ix2 r (col g a)) = 0#1 := by
  have h := mt (own_apply r g a).1 h
  revert h
  generalize own (ix2 r (col g a)) = b
  revert b
  decide

theorem eighth_literal : Ideal.ofBits .f32 1040187392#32 = Column.eighth := by
  unfold Column.eighth
  simp [Ideal.ofBits, Ideal.ieee]
  rw [← EReal.coe_mul]
  norm_num

/-- The mask's name reads as the bottom. -/
theorem mask_bottom : Named.named (F := Ideal) (φ := .f32) κ "mask" 0xF149F2CA#32 = (⊥ : EReal) :=
  IdealRules.named_const.ideal_named_scalar (φ := .f32) κ "mask" 0xF149F2CA#32 ⊥ rfl

theorem bottom_literal : Ideal.ofBits .f32 4286578688#32 = ⊥ := by simp [Ideal.ofBits, Ideal.ieee]

theorem at_row {α : Type} (x : S128x128.Idx → α) {i j : Fin 128} (h : i.val = j.val) (l : Fin 128) : x (ix2 i l) = x (ix2 j l) := by
  rw [Fin.ext h]

theorem head_cases (g : Fin 4) : g = 0 ∨ g = 1 ∨ g = 2 ∨ g = 3 := by
  revert g
  decide

theorem stack_lo (g : Fin 4) (a : Fin 128) (d : Fin 64) :
    stack p0 p1 (ix2 (col g a) (lo d)) = if g = 0 then p0 (ix2 a (lo d)) else if g = 2 then p1 (ix2 a (lo d)) else 0 := by
  have ha := a.isLt
  have hc : (col g a).val = 128 * g.val + a.val := rfl
  pointwise [stack]
  simp only [select_one (left_lo _ _)]
  rcases head_cases g with rfl | rfl | rfl | rfl
  · have hc : (col 0 a).val = a.val := hc.trans (Nat.zero_add _)
    rw [dif_pos (by omega)]
    exact at_row p0 hc _
  · have hc : (col 1 a).val = 128 + a.val := hc
    rw [dif_neg (by omega), dif_pos (by omega)]
    rfl
  · have hc : (col 2 a).val = 256 + a.val := hc
    rw [dif_neg (by omega), dif_neg (by omega), dif_pos (by omega)]
    exact at_row p1 (by show (col 2 a).val - 128 - 128 = a.val; omega) _
  · have hc : (col 3 a).val = 384 + a.val := hc
    rw [dif_neg (by omega), dif_neg (by omega), dif_neg (by omega)]
    rfl

theorem stack_hi (g : Fin 4) (a : Fin 128) (d : Fin 64) :
    stack p0 p1 (ix2 (col g a) (hi d)) = if g = 1 then p0 (ix2 a (hi d)) else if g = 3 then p1 (ix2 a (hi d)) else 0 := by
  have ha := a.isLt
  have hc : (col g a).val = 128 * g.val + a.val := rfl
  pointwise [stack]
  simp only [select_zero (left_hi _ _)]
  rcases head_cases g with rfl | rfl | rfl | rfl
  · have hc : (col 0 a).val = a.val := hc.trans (Nat.zero_add _)
    rw [dif_pos (by omega)]
    rfl
  · have hc : (col 1 a).val = 128 + a.val := hc
    rw [dif_neg (by omega), dif_pos (by omega)]
    exact at_row p0 (by show (col 1 a).val - 128 = a.val; omega) _
  · have hc : (col 2 a).val = 256 + a.val := hc
    rw [dif_neg (by omega), dif_neg (by omega), dif_pos (by omega)]
    rfl
  · have hc : (col 3 a).val = 384 + a.val := hc
    rw [dif_neg (by omega), dif_neg (by omega), dif_neg (by omega)]
    exact at_row p1 (by show (col 3 a).val - 128 - 128 - 128 = a.val; omega) _

theorem packed_apply (x : FVec Ideal S256x128 .bf16) (y : FVec Ideal S512x128 .bf16) (r : Fin 128) (g : Fin 4) (a : Fin 128) :
    packed x y (ix2 r (col g a)) = ∑ l, x (ix2 (pack a r) l) * y (ix2 (col g a) l) := by
  pointwise [packed]
  unfold pack
  by_cases h : r.val ≤ a.val
  · rw [select_one ((own_apply r g a).2 h), if_pos h]
  · rw [select_zero (own_zero h), if_neg h]

theorem unpacked_apply (x : FVec Ideal S128x512 .f32) (k : Fin 256) (g : Fin 4) (a : Fin 128) (hk : ¬reads a k) :
    unpacked x (ix2 k (col g a)) = 0 := by
  pointwise [unpacked]
  unfold reads at hk
  by_cases h : k.val < 128
  · rw [dif_pos h, select_one ((own_apply _ g a).2 (by dsimp only; omega))]
  · rw [dif_neg h, select_zero (own_zero (by dsimp only; omega))]

theorem unpacked_pack (x : FVec Ideal S128x512 .f32) (r : Fin 128) (g : Fin 4) (a : Fin 128) :
    unpacked x (ix2 (pack a r) (col g a)) = x (ix2 r (col g a)) := by
  pointwise [unpacked]
  by_cases h : r.val ≤ a.val
  · have e : (pack a r).val = 128 + r.val := by unfold pack; rw [if_pos h]
    have e' : (⟨(pack a r).val - 128, by omega⟩ : Fin 128) = r := Fin.ext (by dsimp only; omega)
    rw [dif_neg (by omega), e', select_one ((own_apply r g a).2 h)]
  · have e : (pack a r).val = r.val := by unfold pack; rw [if_neg h]
    have e' : (⟨(pack a r).val, by omega⟩ : Fin 128) = r := Fin.ext (by dsimp only; omega)
    rw [dif_pos (by omega), e', select_zero (own_zero h)]

/-- The 128 queries of one block, for the four query heads of one key head. -/
structure Tile where
  K : Fin 256 → Fin 64 → EReal
  V : Fin 256 → Fin 64 → EReal
  Q : Fin 4 → Fin 128 → Fin 64 → EReal
  D : Fin 4 → Fin 128 → Fin 64 → EReal
  slope : Fin 4 → EReal
  sink : Fin 4 → EReal
  first : Prop

/-- Head `g`'s query `a`. -/
abbrev Tile.column (T : Tile) (g : Fin 4) (a : Fin 128) : Column := ⟨T.K, T.V, T.Q g a, T.D g a, T.slope g, T.sink g, a, T.first⟩

/-- Two pairs of lanes hold four heads' rows. -/
structure Pairs (p0 p1 : FVec Ideal S128x128 .bf16) (Q : Fin 4 → Fin 128 → Fin 64 → EReal) : Prop where
  q0 : ∀ a d, p0 (ix2 a (lo d)) = Q 0 a d
  q1 : ∀ a d, p0 (ix2 a (hi d)) = Q 1 a d
  q2 : ∀ a d, p1 (ix2 a (lo d)) = Q 2 a d
  q3 : ∀ a d, p1 (ix2 a (hi d)) = Q 3 a d

/-- Both halves of the lanes hold one head's keys. -/
structure Twice (x : FVec Ideal S256x128 .bf16) (K : Fin 256 → Fin 64 → EReal) : Prop where
  left : ∀ k d, x (ix2 k (lo d)) = K k d
  right : ∀ k d, x (ix2 k (hi d)) = K k d

variable {p0 p1}

theorem packed_stack {x : FVec Ideal S256x128 .bf16} {K : Fin 256 → Fin 64 → EReal} {Q : Fin 4 → Fin 128 → Fin 64 → EReal}
    (hx : Twice x K) (hp : Pairs p0 p1 Q) (r : Fin 128) (g : Fin 4) (a : Fin 128) :
    packed x (stack p0 p1) (ix2 r (col g a)) = ∑ d, K (pack a r) d * Q g a d := by
  rw [packed_apply, sum_halves]
  refine Finset.sum_congr rfl fun d _ => ?_
  rw [stack_lo, stack_hi, hx.left, hx.right]
  fin_cases g
  · simp [hp.q0]
  · simp [hp.q1]
  · simp [hp.q2]
  · simp [hp.q3]

section
variable (T : Tile) {k v : FVec Ideal S256x128 .bf16} {q0 q1 d0 d1 : FVec Ideal S128x128 .bf16} {bias : FVec Ideal S128x512 .f32}

theorem scores_apply (hk : Twice k T.K) (hq : Pairs q0 q1 T.Q)
    (hb : ∀ r g a, bias (ix2 r (col g a)) = -(T.slope g * (T.column g a).dist (pack a r))) (r : Fin 128) (g : Fin 4) (a : Fin 128) :
    scores k (stack q0 q1) bias (ix2 r (col g a)) = (T.column g a).score (pack a r) := by
  pointwise [scores]
  rw [packed_stack hk hq, hb, eighth_literal, ← sub_eq_add_neg]
  rfl

/-- The scores as the softmax reads them. -/
def Masked (s : FVec Ideal S128x512 .f32) : Prop :=
  ∀ r g a, s (ix2 r (col g a)) = (T.column g a).masked (pack a r)

theorem masked_scores (hk : Twice k T.K) (hq : Pairs q0 q1 T.Q)
    (hb : ∀ r g a, bias (ix2 r (col g a)) = -(T.slope g * (T.column g a).dist (pack a r))) (hf : ¬T.first) :
    Masked T (scores k (stack q0 q1) bias) := fun r g a => by
  rw [scores_apply T hk hq hb]
  unfold Column.masked
  rw [if_pos ((Column.valid_pack _).2 fun h => absurd h hf)]

theorem masked_scoresFirst (hk : Twice k T.K) (hq : Pairs q0 q1 T.Q)
    (hb : ∀ r g a, bias (ix2 r (col g a)) = -(T.slope g * (T.column g a).dist (pack a r))) (n : ℕ) (hn : n < 16) (hf : T.first ↔ n = 0) :
    Masked T (scoresFirst (BitVec.ofNat 32 n) (scores k (stack q0 q1) bias)) := fun r g a => by
  pointwise [scoresFirst]
  rw [scores_apply T hk hq hb, mask_bottom]
  have h0 : Scalar.cmpi .eq (BitVec.ofNat 32 n) 0#32 = if n = 0 then 1#1 else 0#1 := by
    split_ifs with h
    · subst h; rfl
    · word_cmp
  unfold Column.masked
  rw [h0]
  by_cases h : r.val ≤ a.val
  · rw [if_pos ((Column.valid_pack _).2 fun _ => h), (own_apply r g a).2 h]
    split_ifs <;> rfl
  · rw [own_zero h]
    split_ifs with h1 h2 h2
    · exact absurd ((Column.valid_pack _).1 h2 (hf.2 h1)) h
    · rfl
    · rfl
    · exact absurd ((Column.valid_pack _).2 fun h3 => absurd (hf.1 h3) h1) h2

variable {s : FVec Ideal S128x512 .f32} {sink : FVec Ideal S1x512 .f32} (hs : Masked T s) (hsink : ∀ g a, sink (ix2 0 (col g a)) = T.sink g)
  (hr : ∀ g a, (T.column g a).Real)
include hs hsink

theorem best_apply (g : Fin 4) (a : Fin 128) : best s sink (ix2 0 (col g a)) = (T.column g a).top := by
  pointwise [best]
  rw [bottom_literal, hsink, Column.top_pack]
  simp only [hs _ g a]

theorem weights_apply (r : Fin 128) (g : Fin 4) (a : Fin 128) : weights s sink (ix2 r (col g a)) = (T.column g a).e (pack a r) := by
  pointwise [weights]
  rw [hs, best_apply T hs hsink]
  rfl

include hr

theorem inv_apply (g : Fin 4) (a : Fin 128) : inv s sink (ix2 0 (col g a)) = Ideal.div 1 (T.column g a).Z := by
  pointwise [inv]
  rw [best_apply T hs hsink, hsink, (hr g a).Z_pack]
  simp only [weights_apply T hs hsink]
  rfl

theorem probs_apply (r : Fin 128) (g : Fin 4) (a : Fin 128) : probs s sink (ix2 r (col g a)) = (T.column g a).pn (pack a r) := by
  pointwise [probs]
  rw [weights_apply T hs hsink, inv_apply T hs hsink hr]
  rfl

variable {dp : FVec Ideal S128x512 .f32} (hdp : ∀ r g a, dp (ix2 r (col g a)) = (T.column g a).dp (pack a r))
include hdp

theorem deltas_apply (g : Fin 4) (a : Fin 128) : deltas s sink dp (ix2 0 (col g a)) = (T.column g a).delta := by
  pointwise [deltas]
  rw [(hr g a).delta_pack]
  simp only [probs_apply T hs hsink hr, hdp]

theorem dscores_apply (r : Fin 128) (g : Fin 4) (a : Fin 128) :
    dscores s sink dp (ix2 r (col g a)) = (T.column g a).ds (pack a r) * Column.eighth := by
  pointwise [dscores]
  rw [probs_apply T hs hsink hr, hdp, deltas_apply T hs hsink hr hdp, eighth_literal]
  rfl

theorem dqs_apply (g : Fin 4) (a : Fin 128) (l : Fin 128) :
    dqs s sink dp k (ix2 (col g a) l) = ∑ r, (T.column g a).ds (pack a r) * Column.eighth * k (ix2 (pack a r) l) := by
  pointwise [dqs]
  rw [sum_pack a (fun j => unpacked (dscores s sink dp) (ix2 j (col g a)) * k (ix2 j l))
    fun j hj => by rw [unpacked_apply _ j g a hj, zero_mul]]
  simp only [unpacked_pack, dscores_apply T hs hsink hr hdp]

/-- The tile's two pairs of heads hold the four heads' gradients. -/
theorem pairs_dqs (hk : Twice k T.K) :
    Pairs (pair0 (dqs s sink dp k)) (pair1 (dqs s sink dp k)) fun g a d => (T.column g a).dq d := by
  have hlo : ∀ g a d, dqs s sink dp k (ix2 (col g a) (lo d)) = (T.column g a).dq d := fun g a d => by
    rw [dqs_apply T hs hsink hr hdp, (hr g a).dq_pack]
    simp only [hk.left]
  have hhi : ∀ g a d, dqs s sink dp k (ix2 (col g a) (hi d)) = (T.column g a).dq d := fun g a d => by
    rw [dqs_apply T hs hsink hr hdp, (hr g a).dq_pack]
    simp only [hk.right]
  refine ⟨fun a d => ?_, fun a d => ?_, fun a d => ?_, fun a d => ?_⟩
  · pointwise [pair0]
    rw [select_one (left_lo _ _), ← hlo]
    exact congrArg _ (congrArg (ix2 · _) (Fin.ext (by simp [col])))
  · pointwise [pair0]
    rw [select_zero (left_hi _ _), ← hhi]
    exact congrArg _ (congrArg (ix2 · _) (Fin.ext (by simp [col])))
  · pointwise [pair1]
    rw [select_one (left_lo _ _), ← hlo]
    exact congrArg _ (congrArg (ix2 · _) (Fin.ext (by simp [col])))
  · pointwise [pair1]
    rw [select_zero (left_hi _ _), ← hhi]
    exact congrArg _ (congrArg (ix2 · _) (Fin.ext (by simp [col])))

end

end Cert.Mix

end
-- ==== Proof.AttnStores.lean ====
/- What a grid point stores into the queries' gradient: four blocks of 128 queries, each with two key heads of four query
   heads, and every one of them the same functions of what the point reads. -/
module

public import proofs.«01_k».proof.Proof.AttnTile
public import proofs.«01_k».proof.Proof.MixData

@[expose] public section

set_option maxRecDepth 16384

noncomputable section

namespace Cert.Mix

open Cert.Kernel3Ideal Cert.Kernel3Ideal.Gen
open Idealize.ShloMosaic Idealize.ShloMosaic.TcCoe

variable {F : FTy → Type} [FloatOps F] [Named F]

/-- One head's 64 lanes twice over, of the 128 rows before the point's. -/
def twiceBefore (h : Fin 2) (x : FVec F S128x128 .f32) : FVec F S1x128x128 .bf16 :=
  shapeCast S1x128x128 (truncf .bf16
    (if h.val = 0 then select leftLanes x (dynamicRotate 1 64#32 none x rotates_S128x128_d1)
      else select leftLanes (dynamicRotate 1 64#32 none x rotates_S128x128_d1) x) bitsLt_bf16_f32) shapeCasts_S128x128_S1x128x128

/-- The left half of the lanes of 512 rows. -/
def leftLanes512 : IVec S512x128 1 := cmpi .slt (iota .tc S512x128 32 [1] iota_S512x128_d1_w32) (broadcast S512x128 64#32)

/-- One head's 64 lanes twice over, of the point's own 512 rows. -/
def twiceOwn (h : Fin 2) (x : FVec F S512x128 .f32) : FVec F S1x512x128 .bf16 :=
  shapeCast S1x512x128 (truncf .bf16
    (if h.val = 0 then select leftLanes512 x (dynamicRotate 1 64#32 none x rotates_S512x128_d1)
      else select leftLanes512 (dynamicRotate 1 64#32 none x rotates_S512x128_d1) x) bitsLt_bf16_f32) shapeCasts_S512x128_S1x512x128

/-- The two heads' rows, the 128 before the point's and its own 512, as they are stored. -/
def rows (before : FVec F S128x128 .f32) (own : FVec F S512x128 .f32) : List (View.Piece (Elt F) S2x640x128 .bf16) :=
  [⟨Rect.unit ![1, 128, 0] S1x512x128.size inb_S2x640x128_S1x512x128_1_128_0, twiceOwn 1 own⟩,
   ⟨Rect.unit ![0, 128, 0] S1x512x128.size inb_S2x640x128_S1x512x128_0_128_0, twiceOwn 0 own⟩,
   ⟨Rect.unit ![1, 0, 0] S1x128x128.size inb_S2x640x128_S1x128x128_1_0_0, twiceBefore 1 before⟩,
   ⟨Rect.unit ![0, 0, 0] S1x128x128.size inb_S2x640x128_S1x128x128_0_0_0, twiceBefore 0 before⟩]

variable (i : grid0.Coords) (B : Bufs) (x : Ins F)

/-- The keys and values before the point's rows, and at them. -/
def kvBefore : FVec F S128x256 .f32 :=
  extf .f32 (shapeCast S128x256 (View.readAt (Elt F) B.kvHalo.view (Rect.unit ![0, 0] S128x256.size inb_S128x256_S128x256_0_0).toLoadRect
    (B.kvHalo_whole.unread x.kvHalo)) shapeCasts_S128x256_S128x256) bitsLt_bf16_f32

def kvOwn : FVec F S512x256 .f32 :=
  extf .f32 (shapeCast S512x256 (View.readAt (Elt F) B.kv.view (Rect.unit ![0, 0] S512x256.size inb_S512x256_S512x256_0_0).toLoadRect
    (B.kv_whole.unread x.kv)) shapeCasts_S512x256_S512x256) bitsLt_bf16_f32

def keyRows : List (View.Piece (Elt F) S2x640x128 .bf16) :=
  rows (extractStridedSlice S128x128 ![0, 0] (kvBefore B x) slices_S128x256_o0_0_S128x128)
    (extractStridedSlice S512x128 ![0, 0] (kvOwn B x) slices_S512x256_o0_0_S512x128)

def valRows : List (View.Piece (Elt F) S2x640x128 .bf16) :=
  rows (extractStridedSlice S128x128 ![0, 128] (kvBefore B x) slices_S128x256_o0_128_S128x128)
    (extractStridedSlice S512x128 ![0, 128] (kvOwn B x) slices_S512x256_o0_128_S512x128)

variable (b : Fin 4) (h : Fin 2)

theorem inb_rows : ∀ a, (![h.val, 128 * b.val, 0] : Fin 3 → Nat) a + S1x256x128.size a ≤ S2x640x128.size a := by
  revert b h; decide

theorem inb_queries : ∀ a, (![128 * b.val, 0] : Fin 2 → Nat) a + S128x512.size a ≤ S512x512.size a := by
  revert b; decide

theorem inb_head : ∀ a, (![h.val, 0, 0] : Fin 3 → Nat) a + S1x128x512.size a ≤ S2x128x512.size a := by
  revert h; decide

theorem inb_head1 : ∀ a, (![h.val, 0, 0] : Fin 3 → Nat) a + S1x1x512.size a ≤ S2x1x512.size a := by
  revert h; decide

theorem inb_pair (j : Fin 4) : ∀ a, (![128 * b.val, 128 * j.val] : Fin 2 → Nat) a + S128x128.size a ≤ S512x512.size a := by
  revert b j; decide

theorem slices_pair (j : Fin 4) : S128x512.Slices ![0, 128 * j.val] S128x128 := by
  revert j; decide

/-- The 256 keys, or values, that a block of queries may read. -/
def window (r : Memref sig .tc .vmem S2x640x128 .bf16) (L : List (View.Piece (Elt F) S2x640x128 .bf16)) : FVec F S256x128 .bf16 :=
  shapeCast S256x128 (r.view.readCov L (Rect.unit (s := S2x640x128) ![h.val, 128 * b.val, 0] S1x256x128.size (inb_rows b h)).toLoadRect)
    shapeCasts_S1x256x128_S256x128

/-- A block of 128 rows of the queries, or of their results' cotangent. -/
def block (r : Memref sig .tc .vmem S512x512 .bf16) (w : r.IsWhole) (y : Vec F S512x512 .bf16) : FVec F S128x512 .bf16 :=
  shapeCast S128x512 (View.readAt (Elt F) r.view (Rect.unit (s := S512x512) ![128 * b.val, 0] S128x512.size (inb_queries b)).toLoadRect (w.unread y))
    shapeCasts_S128x512_S128x512

def pair (y : FVec F S128x512 .bf16) (j : Fin 4) : FVec F S128x128 .bf16 := extractStridedSlice S128x128 ![0, 128 * j.val] y (slices_pair j)

/-- The four heads that read key head `h`. -/
def heads (y : FVec F S128x512 .bf16) : FVec F S512x128 .bf16 := stack (pair y ⟨2 * h.val, by omega⟩) (pair y ⟨2 * h.val + 1, by omega⟩)

def biasOf : FVec F S128x512 .f32 :=
  shapeCast S128x512 (View.readAt (Elt F) B.bias.view (Rect.unit (s := S2x128x512) ![h.val, 0, 0] S1x128x512.size (inb_head h)).toLoadRect (B.bias_whole.unread x.bias))
    shapeCasts_S1x128x512_S128x512

def sinkOf : FVec F S1x512 .f32 :=
  shapeCast S1x512 (View.readAt (Elt F) B.sink.view (Rect.unit (s := S2x1x512) ![h.val, 0, 0] S1x1x512.size (inb_head1 h)).toLoadRect (B.sink_whole.unread x.sink))
    shapeCasts_S1x1x512_S1x512

def scoresOf : FVec F S128x512 .f32 :=
  if b.val = 0 then scoresFirst (BitVec.ofNat 32 (i 0)) (scores (window b h B.keys (keyRows B x)) (heads h (block b B.q B.q_whole x.q)) (biasOf B x h))
  else scores (window b h B.keys (keyRows B x)) (heads h (block b B.q B.q_whole x.q)) (biasOf B x h)

def dpOf : FVec F S128x512 .f32 := packed (window b h B.vals (valRows B x)) (heads h (block b B.dout B.dout_whole x.dout))

def dqOf : FVec F S512x128 .f32 := dqs (scoresOf i B x b h) (sinkOf B x h) (dpOf B x b h) (window b h B.keys (keyRows B x))

/-- The two stores of a block of queries and a key head. -/
def store0 : View.Piece (Elt F) S512x512 .bf16 :=
  ⟨Rect.unit ![128 * b.val, 128 * (2 * h.val)] S128x128.size (inb_pair b ⟨2 * h.val, by omega⟩), pair0 (dqOf i B x b h)⟩

def store1 : View.Piece (Elt F) S512x512 .bf16 :=
  ⟨Rect.unit ![128 * b.val, 128 * (2 * h.val + 1)] S128x128.size (inb_pair b ⟨2 * h.val + 1, by omega⟩), pair1 (dqOf i B x b h)⟩

/-- All stores of a point into the queries' gradient. -/
def dqStores : List (View.Piece (Elt F) S512x512 .bf16) :=
  [store1 i B x 3 1, store0 i B x 3 1, store1 i B x 3 0, store0 i B x 3 0, store1 i B x 2 1, store0 i B x 2 1, store1 i B x 2 0, store0 i B x 2 0,
   store1 i B x 1 1, store0 i B x 1 1, store1 i B x 1 0, store0 i B x 1 0, store1 i B x 0 1, store0 i B x 0 1, store1 i B x 0 0, store0 i B x 0 0]

theorem firstRun_dqStores (c : Dev nD) (h0 : isFirst i) (h1 : ¬isLast i) : (firstRun c i B h0 h1 x).1.dq = dqStores i B x := by
  sl_kernel_rfl

theorem middleRun_dqStores (c : Dev nD) (h0 : ¬isFirst i) (h1 : ¬isLast i) (s : Sums F) : (middleRun c i B h0 h1 x s).1.dq = dqStores i B x := by
  sl_kernel_rfl

theorem lastRun_dqStores (c : Dev nD) (h0 : ¬isFirst i) (h1 : isLast i) (s : Sums F) : (lastRun c i B h0 h1 x s).1.dq = dqStores i B x := by
  sl_kernel_rfl

end Cert.Mix
-- ==== Proof.AttnReads.lean ====
/- What a block's queries, keys, values, biases and sinks are, among the arrays' blocks a grid point reads. -/
module

public import proofs.«01_k».proof.Proof.AttnStores
public import Idealize.ShloMosaic.Lib.WholeRead

@[expose] public section

set_option maxRecDepth 16384

noncomputable section

namespace Cert.Mix

open Cert.Kernel3Ideal Cert.Kernel3Ideal.Gen
open Idealize.ShloMosaic Idealize.ShloMosaic.TcCoe

/-- Lane `l` of a head's 64 lanes twice over. -/
def lane (h : Fin 2) (l : Fin 128) : Fin 128 := ⟨64 * h.val + l.val % 64, by omega⟩

theorem leftLanes_right (a l : Fin 128) (h : ¬l.val < 64) : leftLanes (ix2 a l) = 0#1 := by
  have h := mt (leftLanes_apply a l).1 h
  revert h
  generalize leftLanes (ix2 a l) = b
  revert b
  decide

theorem leftLanes512_apply (a : Fin 512) (l : Fin 128) : leftLanes512 (ix2 a l) = 1#1 ↔ l.val < 64 := by
  pointwise [leftLanes512]
  word_cmp

theorem leftLanes512_right (a : Fin 512) (l : Fin 128) (h : ¬l.val < 64) : leftLanes512 (ix2 a l) = 0#1 := by
  have h := mt (leftLanes512_apply a l).1 h
  revert h
  generalize leftLanes512 (ix2 a l) = b
  revert b
  decide

theorem twiceBefore_apply (h : Fin 2) (x : FVec Ideal S128x128 .f32) (r l : Fin 128) :
    twiceBefore h x (ix3 0 r l) = x (ix2 r (lane h l)) := by
  by_cases hl : l.val < 64
  · have e := (leftLanes_apply r l).2 hl
    fin_cases h <;> pointwise [twiceBefore, lane] <;> rw [e] <;> pointwise [] <;> congr 2 <;> ext <;> simp <;> omega
  · have e := leftLanes_right r l hl
    fin_cases h <;> pointwise [twiceBefore, lane] <;> rw [e] <;> pointwise [] <;> congr 2 <;> ext <;> simp <;> omega

theorem twiceOwn_apply (h : Fin 2) (x : FVec Ideal S512x128 .f32) (r : Fin 512) (l : Fin 128) :
    twiceOwn h x (ix3 0 r l) = x (ix2 r (lane h l)) := by
  by_cases hl : l.val < 64
  · have e := (leftLanes512_apply r l).2 hl
    fin_cases h <;> pointwise [twiceOwn, lane] <;> rw [e] <;> pointwise [] <;> congr 2 <;> ext <;> simp <;> omega
  · have e := leftLanes512_right r l hl
    fin_cases h <;> pointwise [twiceOwn, lane] <;> rw [e] <;> pointwise [] <;> congr 2 <;> ext <;> simp <;> omega

/-- Row `r` of the 128 rows before the point's and its own. -/
def rowAt {n : ℕ} (before : FVec Ideal ⟨2, ![128, n]⟩ .f32) (own : FVec Ideal ⟨2, ![512, n]⟩ .f32) (r : Fin 640) (l : Fin n) : EReal :=
  if hr : r.val < 128 then before (ix2 ⟨r.val, hr⟩ l) else own (ix2 ⟨r.val - 128, by omega⟩ l)

theorem own_piece (before : FVec Ideal S128x128 .f32) (own : FVec Ideal S512x128 .f32) (h : Fin 2) (x : S1x512x128.Idx) (y : S2x640x128.Idx)
    (h0 : (y 0).val = h.val + (x 0).val) (h1 : (y 1).val = 128 + (x 1).val) (h2 : (y 2).val = (x 2).val) :
    twiceOwn h own x = rowAt before own (y 1) (lane (y 0) (y 2)) := by
  have e : x = ix3 0 (x 1) (x 2) := by
    funext a
    match a with
    | ⟨0, _⟩ => exact Fin.ext (by have := (x 0).isLt; change (x 0).val < 1 at this; show (x 0).val = 0; omega)
    | ⟨1, _⟩ => rfl
    | ⟨2, _⟩ => rfl
  have hz : (x 0).val = 0 := by have := (x 0).isLt; change (x 0).val < 1 at this; omega
  have e0 : y 0 = h := Fin.ext (by rw [h0, hz]; rfl)
  have e2 : y 2 = x 2 := Fin.ext h2
  refine (congrArg (twiceOwn h own) e).trans ((twiceOwn_apply h own (x 1) (x 2)).trans ?_)
  unfold rowAt
  rw [dif_neg (by omega), e0, e2]
  congr 2
  exact Fin.ext (by show (x 1).val = (y 1).val - 128; omega)

theorem before_piece (before : FVec Ideal S128x128 .f32) (own : FVec Ideal S512x128 .f32) (h : Fin 2) (x : S1x128x128.Idx) (y : S2x640x128.Idx)
    (h0 : (y 0).val = h.val + (x 0).val) (h1 : (y 1).val = (x 1).val) (h2 : (y 2).val = (x 2).val) :
    twiceBefore h before x = rowAt before own (y 1) (lane (y 0) (y 2)) := by
  have e : x = ix3 0 (x 1) (x 2) := by
    funext a
    match a with
    | ⟨0, _⟩ => exact Fin.ext (by have := (x 0).isLt; change (x 0).val < 1 at this; show (x 0).val = 0; omega)
    | ⟨1, _⟩ => rfl
    | ⟨2, _⟩ => rfl
  have hz : (x 0).val = 0 := by have := (x 0).isLt; change (x 0).val < 1 at this; omega
  have e0 : y 0 = h := Fin.ext (by rw [h0, hz]; rfl)
  have e2 : y 2 = x 2 := Fin.ext h2
  refine (congrArg (twiceBefore h before) e).trans ((twiceBefore_apply h before (x 1) (x 2)).trans ?_)
  have hx : (x 1).val < 128 := (x 1).isLt
  unfold rowAt
  rw [dif_pos (by omega), e0, e2]
  congr 2
  exact Fin.ext h1.symm

theorem canon_rows (before : FVec Ideal S128x128 .f32) (own : FVec Ideal S512x128 .f32) (y : S2x640x128.Idx) :
    View.canon (Val := Elt Ideal) (rows before own) y = rowAt before own (y 1) (lane (y 0) (y 2)) := by
  have hcover := View.cover_of_tiledBy (rows before own) S1x128x128.size (by sl_kernel_rfl) y
  unfold rows at hcover ⊢
  canon_tiles x h using hcover
  case piece0 => exact own_piece before own 1 x y (by simpa using h0) (by simpa using h1) (by simpa using h2)
  case piece1 => exact own_piece before own 0 x y (by simpa using h0) (by simpa using h1) (by simpa using h2)
  case piece2 => exact before_piece before own 1 x y (by simpa using h0) (by simpa using h1) (by simpa using h2)
  case piece3 => exact before_piece before own 0 x y (by simpa using h0) (by simpa using h1) (by simpa using h2)

variable (i : grid0.Coords) (B : Bufs) (x : Ins Ideal) (b : Fin 4) (h : Fin 2)

/-- Key `k` of block `b`'s 256, lane `d` of head `h`; `o` is 0 for the keys, 128 for the values. -/
def kvAt (o : Fin 2) (k : Fin 256) (d : Fin 64) : EReal :=
  rowAt (n := 256) x.kvHalo x.kv ⟨128 * b.val + k.val, by omega⟩ ⟨128 * o.val + 64 * h.val + d.val, by omega⟩

theorem one_256 (y : FVec Ideal S1x256x128 .bf16) (k : Fin 256) (l : Fin 128) :
    shapeCast S256x128 y shapeCasts_S1x256x128_S256x128 (ix2 k l) = y (ix3 0 k l) := by
  pointwise []

theorem one_128 (y : FVec Ideal S1x128x512 .f32) (k : Fin 128) (l : Fin 512) :
    shapeCast S128x512 y shapeCasts_S1x128x512_S128x512 (ix2 k l) = y (ix3 0 k l) := by
  pointwise []

theorem window_apply (r : Memref sig .tc .vmem S2x640x128 .bf16) (before : FVec Ideal S128x128 .f32) (own : FVec Ideal S512x128 .f32)
    (k : Fin 256) (l : Fin 128) :
    window b h r (rows before own) (ix2 k l) = rowAt before own ⟨128 * b.val + k.val, by omega⟩ (lane h l) := by
  unfold window
  rw [one_256, View.readCov_eq_canon']
  refine (canon_rows before own _).trans ?_
  congr 1
  · exact Fin.ext (by simp)
  · congr 1
    exact Fin.ext (by simp)

theorem kvBefore_apply (r : Fin 128) (l : Fin 256) : kvBefore B x (ix2 r l) = x.kvHalo (ix2 r l) := by
  pointwise [kvBefore]
  rw [Memref.IsWhole.readAt_unread]
  congr 1
  funext a
  match a with
  | ⟨0, _⟩ => exact Fin.ext (by simp)
  | ⟨1, _⟩ => exact Fin.ext (by simp)

theorem kvOwn_apply (r : Fin 512) (l : Fin 256) : kvOwn B x (ix2 r l) = x.kv (ix2 r l) := by
  pointwise [kvOwn]
  rw [Memref.IsWhole.readAt_unread]
  congr 1
  funext a
  match a with
  | ⟨0, _⟩ => exact Fin.ext (by simp)
  | ⟨1, _⟩ => exact Fin.ext (by simp)

theorem block_apply (r : Memref sig .tc .vmem S512x512 .bf16) (w : r.IsWhole) (y : Vec Ideal S512x512 .bf16) (a : Fin 128) (l : Fin 512) :
    block b r w y (ix2 a l) = y (ix2 ⟨128 * b.val + a.val, by omega⟩ l) := by
  pointwise [block]
  rw [Memref.IsWhole.readAt_unread]
  congr 1
  funext a
  match a with
  | ⟨0, _⟩ => exact Fin.ext (by simp)
  | ⟨1, _⟩ => exact Fin.ext (by simp)

theorem biasOf_apply (r : Fin 128) (l : Fin 512) : biasOf B x h (ix2 r l) = x.bias (ix3 h r l) := by
  unfold biasOf
  rw [one_128, Memref.IsWhole.readAt_unread]
  congr 1
  funext a
  match a with
  | ⟨0, _⟩ => exact Fin.ext (by simp)
  | ⟨1, _⟩ => exact Fin.ext (by simp)
  | ⟨2, _⟩ => exact Fin.ext (by simp)

theorem sinkOf_apply (l : Fin 512) : sinkOf B x h (ix2 0 l) = x.sink (ix3 h 0 l) := by
  pointwise [sinkOf]
  rw [Memref.IsWhole.readAt_unread]
  congr 1
  funext a
  match a with
  | ⟨0, _⟩ => exact Fin.ext (by simp)
  | ⟨1, _⟩ => exact Fin.ext (by simp)
  | ⟨2, _⟩ => exact Fin.ext (by simp)

theorem lane_lo (d : Fin 64) : (lane h (lo d)).val = 64 * h.val + d.val := by
  show 64 * h.val + d.val % 64 = _
  rw [Nat.mod_eq_of_lt d.isLt]

theorem lane_hi (d : Fin 64) : (lane h (hi d)).val = 64 * h.val + d.val := by
  show 64 * h.val + (64 + d.val) % 64 = _
  omega

/-- A row of the keys' or the values' lanes is one of the array's. -/
theorem rowAt_kv (o : Fin 2) (before : FVec Ideal S128x128 .f32) (own : FVec Ideal S512x128 .f32)
    (hb : ∀ r l, before (ix2 r l) = x.kvHalo (ix2 r ⟨128 * o.val + l.val, by omega⟩))
    (ho : ∀ r l, own (ix2 r l) = x.kv (ix2 r ⟨128 * o.val + l.val, by omega⟩)) (r : Fin 640) (l : Fin 128) :
    rowAt before own r l = rowAt (n := 256) x.kvHalo x.kv r ⟨128 * o.val + l.val, by omega⟩ := by
  unfold rowAt
  split_ifs
  · exact hb _ _
  · exact ho _ _

theorem window_twice (o : Fin 2) (r : Memref sig .tc .vmem S2x640x128 .bf16) (before : FVec Ideal S128x128 .f32) (own : FVec Ideal S512x128 .f32)
    (hb : ∀ r l, before (ix2 r l) = x.kvHalo (ix2 r ⟨128 * o.val + l.val, by omega⟩))
    (ho : ∀ r l, own (ix2 r l) = x.kv (ix2 r ⟨128 * o.val + l.val, by omega⟩)) :
    Twice (window b h r (rows before own)) (kvAt x b h o) where
  left k d := by
    rw [window_apply, rowAt_kv x o before own hb ho]
    unfold kvAt
    congr 1
    exact Fin.ext (by show 128 * o.val + (lane h (lo d)).val = 128 * o.val + 64 * h.val + d.val; rw [lane_lo]; omega)
  right k d := by
    rw [window_apply, rowAt_kv x o before own hb ho]
    unfold kvAt
    congr 1
    exact Fin.ext (by show 128 * o.val + (lane h (hi d)).val = 128 * o.val + 64 * h.val + d.val; rw [lane_hi]; omega)

theorem keys_twice (r : Memref sig .tc .vmem S2x640x128 .bf16) : Twice (window b h r (keyRows B x)) (kvAt x b h 0) :=
  window_twice x b h 0 r _ _
    (fun r l => by pointwise []; rw [kvBefore_apply])
    (fun r l => by pointwise []; rw [kvOwn_apply])

theorem vals_twice (r : Memref sig .tc .vmem S2x640x128 .bf16) : Twice (window b h r (valRows B x)) (kvAt x b h 1) :=
  window_twice x b h 1 r _ _
    (fun r l => by pointwise []; rw [kvBefore_apply])
    (fun r l => by pointwise []; rw [kvOwn_apply])

/-- Head `g` of the four that read key head `h`, query `a` of block `b`, lane `d`. -/
def qAt (y : Vec Ideal S512x512 .bf16) (g : Fin 4) (a : Fin 128) (d : Fin 64) : EReal :=
  y (ix2 ⟨128 * b.val + a.val, by omega⟩ ⟨256 * h.val + 64 * g.val + d.val, by omega⟩)

theorem pair_block (r : Memref sig .tc .vmem S512x512 .bf16) (w : r.IsWhole) (y : Vec Ideal S512x512 .bf16) (j : Fin 4) (a l : Fin 128) :
    pair (block b r w y) j (ix2 a l) = y (ix2 ⟨128 * b.val + a.val, by omega⟩ ⟨128 * j.val + l.val, by omega⟩) := by
  pointwise [pair]
  rw [block_apply]

theorem heads_pairs (r : Memref sig .tc .vmem S512x512 .bf16) (w : r.IsWhole) (y : Vec Ideal S512x512 .bf16) :
    Pairs (pair (block b r w y) ⟨2 * h.val, by omega⟩) (pair (block b r w y) ⟨2 * h.val + 1, by omega⟩) (qAt b h y) where
  q0 a d := by rw [pair_block]; unfold qAt; congr 2; exact Fin.ext (by show 128 * (2 * h.val) + d.val = 256 * h.val + 64 * 0 + d.val; omega)
  q1 a d := by rw [pair_block]; unfold qAt; congr 2; exact Fin.ext (by show 128 * (2 * h.val) + (64 + d.val) = 256 * h.val + 64 * 1 + d.val; omega)
  q2 a d := by rw [pair_block]; unfold qAt; congr 2; exact Fin.ext (by show 128 * (2 * h.val + 1) + d.val = 256 * h.val + 64 * 2 + d.val; omega)
  q3 a d := by rw [pair_block]; unfold qAt; congr 2; exact Fin.ext (by show 128 * (2 * h.val + 1) + (64 + d.val) = 256 * h.val + 64 * 3 + d.val; omega)

open Cert.Math

/-- A block of queries and its key head, as the point reads them. -/
def tile (slope : Fin 4 → EReal) : Tile where
  K := kvAt x b h 0
  V := kvAt x b h 1
  Q := qAt b h x.q
  D := qAt b h x.dout
  slope := slope
  sink g := x.sink (ix3 h 0 (col g 0))
  first := (i 0).val = 0 ∧ b.val = 0

theorem dqOf_pairs (slope : Fin 4 → EReal)
    (hb : ∀ r g a, x.bias (ix3 h r (col g a)) = -(slope g * ((tile i x b h slope).column g a).dist (pack a r)))
    (hs : ∀ g a, x.sink (ix3 h 0 (col g a)) = x.sink (ix3 h 0 (col g 0)))
    (hr : ∀ g a, ((tile i x b h slope).column g a).Real) :
    Pairs (pair0 (dqOf i B x b h)) (pair1 (dqOf i B x b h)) fun g a d => ((tile i x b h slope).column g a).dq d := by
  have hi : (i 0).val < 16 := (i 0).isLt
  refine pairs_dqs (tile i x b h slope) ?_ (fun g a => ?_) hr (fun r g a => ?_) (keys_twice B x b h B.keys)
  · unfold scoresOf
    have hk := keys_twice B x b h B.keys
    have hq := heads_pairs b h B.q B.q_whole x.q
    have hbias : ∀ r g a, biasOf B x h (ix2 r (col g a)) = -(slope g * ((tile i x b h slope).column g a).dist (pack a r)) := fun r g a => by
      rw [biasOf_apply, hb]
    split_ifs with h0
    · exact masked_scoresFirst (tile i x b h slope) hk hq hbias (i 0).val hi ⟨fun f => f.1, fun f => ⟨f, h0⟩⟩
    · exact masked_scores (tile i x b h slope) hk hq hbias fun f => h0 f.2
  · rw [sinkOf_apply, hs]; rfl
  · unfold dpOf heads
    rw [packed_stack (vals_twice B x b h B.vals) (heads_pairs b h B.dout B.dout_whole x.dout)]
    exact Finset.sum_congr rfl fun d _ => mul_comm _ _

end Cert.Mix
-- ==== Proof.MixBlocks.lean ====
/- The blocks of a grid point of the mixers' gradient, read in the argument arrays. -/
module

public import proofs.«01_k».proof.Proof.AttnReads

@[expose] public section

set_option maxRecDepth 16384

noncomputable section

open Idealize.ShloMosaic Idealize.ShloMosaic.TcCoe Idealize.SL.Sem
open Idealize.ShloMosaic.Pipeline (Dat)

namespace Cert.Mix
open Cert.Kernel3Ideal Cert.Kernel3Ideal.Gen Cert.Math

variable (m : (ℓ : Loc nD τ sig) → Buf (Elt Ideal) ℓ) (c : Dev nD)

/-- The block inputs, the sinks and the attention result's cotangent, as the call takes them. -/
abbrev argZ : FVec Ideal S1x8192x1280 .f32 := m ((c : Thread nD τ).loc main_arg0)
abbrev argSink : FVec Ideal S1x8 .f32 := m ((c : Thread nD τ).loc main_arg4)
abbrev argDo : FVec Ideal S1x8192x512 .f32 := m ((c : Thread nD τ).loc main_arg6)

/-- Where the blocks of the grid's points lie. -/
theorem idx : ∀ t : Fin cfg0.N, win0_2.index t = ![t.val, 0] ∧ win0_3.index t = ![t.val, 0] ∧ win0_4.index t = ![4 * t.val - 1, 0]
    ∧ win0_7.index t = ![t.val, 0] ∧ win0_11.index t = ![0, 0, 0] ∧ win0_12.index t = ![0, 0, 0] ∧ win0_14.index t = ![t.val, 0] :=
  (by decide +kernel : ∀ t : Fin grid0.N, _)

variable (t : Fin cfg0.N)

theorem t_lt : t.val < 16 := lt_of_lt_of_eq t.isLt N_0

set_option maxHeartbeats 2000000 in
theorem entry_q : V m c main_v39 = extractStridedSlice S8192x512 ![0, 512]
    (truncf (F := Ideal) .bf16 (shapeCast S8192x1280 (argZ m c) shapeCasts_S1x8192x1280_S8192x1280) bitsLt_bf16_f32) slices_S8192x1280_S8192x512_0_512 := by
  simp only [V, hostOps0, hostOps0_1, hostOps0_2, List.flatten_cons, List.flatten_nil, List.append_nil, List.cons_append, List.nil_append]
  entry_read
  rfl

set_option maxHeartbeats 2000000 in
theorem entry_kv : V m c main_v40 = extractStridedSlice S8192x256 ![0, 1024]
    (truncf (F := Ideal) .bf16 (shapeCast S8192x1280 (argZ m c) shapeCasts_S1x8192x1280_S8192x1280) bitsLt_bf16_f32) slices_S8192x1280_S8192x256_0_1024 := by
  simp only [V, hostOps0, hostOps0_1, hostOps0_2, List.flatten_cons, List.flatten_nil, List.append_nil, List.cons_append, List.nil_append]
  entry_read
  rfl

set_option maxHeartbeats 2000000 in
theorem entry_do : V m c main_v44
    = truncf (F := Ideal) .bf16 (shapeCast S8192x512 (argDo m c) shapeCasts_S1x8192x512_S8192x512) bitsLt_bf16_f32 := by
  simp only [V, hostOps0, hostOps0_1, hostOps0_2, List.flatten_cons, List.flatten_nil, List.append_nil, List.cons_append, List.nil_append]
  entry_read
  rfl

set_option maxHeartbeats 2000000 in
theorem entry_sink : V m c main_v34 = broadcastInDim S2x1x512 ![0, 2] bcast_S2x512_S2x1x512_0_2 (shapeCast S2x512
    (broadcastInDim S2x4x128 ![0, 1] bcast_S2x4_S2x4x128_0_1 (shapeCast S2x4 (shapeCast S8 (argSink m c) shapeCasts_S1x8_S8) shapeCasts_S8_S2x4))
    shapeCasts_S2x4x128_S2x512) := by
  simp only [V, hostOps0, hostOps0_1, hostOps0_2, List.flatten_cons, List.flatten_nil, List.append_nil, List.cons_append, List.nil_append]
  entry_read
  rfl

theorem blk_q (a : Fin 512) (k : Fin 512) :
    iblk m c 2 t (ix2 a k) = argZ m c (ix3 0 ⟨t.val * 512 + a.val, by have := t_lt t; omega⟩ ⟨512 + k.val, by omega⟩) := by
  refine (congrFun (entry_q m c) _).trans ?_
  pointwise []
  blk_ext [idx t]

theorem blk_kv (a : Fin 512) (k : Fin 256) :
    iblk m c 3 t (ix2 a k) = argZ m c (ix3 0 ⟨t.val * 512 + a.val, by have := t_lt t; omega⟩ ⟨1024 + k.val, by omega⟩) := by
  refine (congrFun (entry_kv m c) _).trans ?_
  pointwise []
  blk_ext [idx t]

theorem blk_kvHalo (a : Fin 128) (k : Fin 256) :
    iblk m c 4 t (ix2 a k) = argZ m c (ix3 0 ⟨(4 * t.val - 1) * 128 + a.val, by have := t_lt t; omega⟩ ⟨1024 + k.val, by omega⟩) := by
  refine (congrFun (entry_kv m c) _).trans ?_
  pointwise []
  blk_ext [idx t]

theorem blk_do (a : Fin 512) (k : Fin 512) :
    iblk m c 7 t (ix2 a k) = argDo m c (ix3 0 ⟨t.val * 512 + a.val, by have := t_lt t; omega⟩ k) := by
  refine (congrFun (entry_do m c) _).trans ?_
  pointwise []
  blk_ext [idx t]

theorem blk_sink (h : Fin 2) (g : Fin 4) (a : Fin 128) :
    iblk m c 12 t (ix3 h 0 (col g a)) = argSink m c (ix2 0 ⟨4 * h.val + g.val, by omega⟩) := by
  refine (congrFun (entry_sink m c) _).trans ?_
  have e : ((cfg0.win 12).blk t).view.emb (ix3 h 0 (col g a)) = ix3 h 0 (col g a) := by blk_ext [idx t]
  rw [e]
  pointwise []
  blk_ext [idx t, col]

end Cert.Mix
end
-- ==== Proof.MixBias.lean ====
/- The biases of a grid point of the mixers' gradient: each head's slope times how far a key lies behind its query. -/
module

public import proofs.«01_k».proof.Proof.MixBlocks

@[expose] public section

set_option maxRecDepth 16384

noncomputable section

open Idealize.ShloMosaic Idealize.ShloMosaic.TcCoe Idealize.SL.Sem
open Idealize.ShloMosaic.Pipeline (Dat)

namespace Cert.Mix
open Cert.Kernel3Ideal Cert.Kernel3Ideal.Gen Cert.Math

variable (m : (ℓ : Loc nD τ sig) → Buf (Elt Ideal) ℓ) (c : Dev nD)

variable (t : Fin cfg0.N)

/-- How far a packed key lies behind its query, as the host line counts it. -/
def distWord : IVec S128x128 32 :=
  select
    (cmpi .sle (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))
    (subi (broadcastInDim S128x128 ![0, 1] bcast_S1x128_S128x128_0_1 (broadcastInDim S1x128 ![1] bcast_S128_S1x128_1 (iotaInDim S128 32 0)))
      (broadcastInDim S128x128 ![0, 1] bcast_S128x1_S128x128_0_1 (broadcastInDim S128x1 ![0] bcast_S128_S128x1_0 (iotaInDim S128 32 0))))
    (subi
      (broadcastInDim S128x128 ![0, 1] bcast_S1x128_S128x128_0_1
        (addi (broadcastInDim S1x128 ![] bcast_S_S1x128 (constantI S_ 32 128#32)) (broadcastInDim S1x128 ![1] bcast_S128_S1x128_1 (iotaInDim S128 32 0))))
      (broadcastInDim S128x128 ![0, 1] bcast_S128x1_S128x128_0_1 (broadcastInDim S128x1 ![0] bcast_S128_S128x1_0 (iotaInDim S128 32 0))))

/-- Each head's slope times the distance, less than zero. -/
def biasWord : FVec Ideal S8x128x128 .f32 :=
  mulf (broadcastInDim S8x128x128 ![0, 1, 2] bcast_S8x1x1_S8x128x128_0_1_2
      (Host.negf (broadcastInDim S8x1x1 ![0] bcast_S8_S8x1x1_0 fun i => FloatOps.ofBits (F := Ideal) FTy.f32 (lit0 (S8.rowMajor i)))))
    (broadcastInDim S8x128x128 ![0, 1, 2] bcast_S1x128x128_S8x128x128_0_1_2 (broadcastInDim S1x128x128 ![1, 2] bcast_S128x128_S1x128x128_1_2
      (sitofp (F := Ideal) .f32 distWord)))

set_option maxHeartbeats 2000000 in
theorem entry_bias : V m c main_v30 = shapeCast S2x128x512
    (transpose S2x128x4x128 [0, 2, 1, 3] (shapeCast S2x4x128x128 biasWord shapeCasts_S8x128x128_S2x4x128x128) transposes_S2x4x128x128_S2x128x4x128_0_2_1_3)
    shapeCasts_S2x128x4x128_S2x128x512 := by
  simp only [V, hostOps0, hostOps0_1, hostOps0_2, List.flatten_cons, List.flatten_nil, List.append_nil, List.cons_append, List.nil_append]
  entry_read
  rfl

theorem word_sub (x y : ℕ) (hx : x < 512) (hy : y < 512) (h : y ≤ x) : (BitVec.ofNat 32 x - BitVec.ofNat 32 y).toInt = (x : ℤ) - y := by
  have e : BitVec.ofNat 32 x - BitVec.ofNat 32 y = BitVec.ofNat 32 (x - y) := by
    apply BitVec.eq_of_toNat_eq
    simp only [BitVec.toNat_sub, BitVec.toNat_ofNat]
    omega
  rw [e, BitVec.toInt_eq_toNat_of_lt (by simp only [BitVec.toNat_ofNat]; omega), BitVec.toNat_ofNat, Nat.mod_eq_of_lt (by omega)]
  omega

theorem distWord_toInt (r a : Fin 128) : (distWord (ix2 r a)).toInt = 128 + (a.val : ℤ) - ((pack a r).val : ℤ) := by
  pointwise [distWord]
  have hc : IntOp.cmpi .sle (BitVec.ofNat 32 r.val) (BitVec.ofNat 32 a.val) = if r.val ≤ a.val then 1#1 else 0#1 := by
    split_ifs with h
    · word_cmp
    · have h' : ¬IntOp.cmpi .sle (BitVec.ofNat 32 r.val) (BitVec.ofNat 32 a.val) = 1#1 := by word_cmp
      revert h'
      generalize IntOp.cmpi .sle (BitVec.ofNat 32 r.val) (BitVec.ofNat 32 a.val) = b
      revert b
      decide
  have h128 : IntOp.addi 128#32 (BitVec.ofNat 32 a.val) = BitVec.ofNat 32 (128 + a.val) := (BitVec.ofNat_add 128 a.val).symm
  rw [hc, h128]
  unfold pack
  split_ifs with h
  · refine (word_sub a.val r.val (by omega) (by omega) h).trans ?_
    push_cast
    omega
  · refine (word_sub (128 + a.val) r.val (by omega) (by omega) (by omega)).trans ?_
    push_cast
    omega

def slopes (h : Fin 2) (g : Fin 4) : EReal := (((1 / 2 : ℝ) ^ (4 * h.val + g.val + 1) : ℝ) : EReal)

theorem blk_bias_word (h : Fin 2) (g : Fin 4) (r a : Fin 128) :
    iblk m c 11 t (ix3 h r (col g a)) = biasWord (ix3 ⟨4 * h.val + g.val, by omega⟩ r a) := by
  refine (congrFun (entry_bias m c) _).trans ?_
  have e : ((cfg0.win 11).blk t).view.emb (ix3 h r (col g a)) = ix3 h r (col g a) := by blk_ext [idx t]
  rw [e]
  pointwise []
  blk_ext [idx t, col]

theorem lit_slope (k : Fin 8) : Ideal.ofBits .f32 (lit0 k) = (((1 / 2 : ℝ) ^ (k.val + 1) : ℝ) : EReal) := by
  fin_cases k <;> simp [lit0, Ideal.ofBits, Ideal.ieee] <;> rw [← EReal.coe_mul] <;> norm_num

theorem biasWord_apply (k : Fin 8) (r a : Fin 128) :
    biasWord (ix3 k r a) = -((((1 / 2 : ℝ) ^ (k.val + 1) : ℝ) : EReal) * (((128 + (a.val : ℤ) - ((pack a r).val : ℤ) : ℤ) : ℝ) : EReal)) := by
  rw [← distWord_toInt]
  pointwise [biasWord]
  have e : S8.rowMajor (ix1 k) = k := by fin_cases k <;> rfl
  rw [e, lit_slope, EReal.neg_mul]
  rfl

theorem blk_bias (h : Fin 2) (g : Fin 4) (r a : Fin 128) :
    iblk m c 11 t (ix3 h r (col g a)) = -(slopes h g * (((128 + (a.val : ℤ) - ((pack a r).val : ℤ) : ℤ) : ℝ) : EReal)) := by
  rw [blk_bias_word, biasWord_apply]
  rfl

end Cert.Mix
end
-- ==== Proof.AttnSpec.lean ====
/- The attention's query gradient as a function of the call's arrays, a column for every query of every head. -/
module

public import proofs.«01_k».proof.Proof.AttnColumn

@[expose] public section

noncomputable section

open Idealize.ShloMosaic

namespace Cert.Math

/-- The block inputs (queries from column 512, keys from 1024, values from 1152), the sinks, and the cotangent of the
    attention's result. -/
structure Attn where
  z : Fin 8192 → Fin 1280 → EReal
  sink : Fin 8 → EReal
  ct : Fin 8192 → Fin 512 → EReal

namespace Attn

variable (A : Attn)

/-- Query head `4h + g`'s slope. -/
def slope (h : Fin 2) (g : Fin 4) : EReal := (((1 / 2 : ℝ) ^ (4 * h.val + g.val + 1) : ℝ) : EReal)

/-- Row `k` of the 256 that block `n` may read, the first block's rows before the array being zero. -/
def kv (n : Fin 64) (k : Fin 256) (j : Fin 256) : EReal :=
  if hk : 128 ≤ 128 * n.val + k.val then A.z ⟨128 * n.val + k.val - 128, by omega⟩ ⟨1024 + j.val, by omega⟩ else 0

def column (n : Fin 64) (h : Fin 2) (g : Fin 4) (a : Fin 128) : Column where
  K k d := A.kv n k ⟨64 * h.val + d.val, by omega⟩
  V k d := A.kv n k ⟨128 + 64 * h.val + d.val, by omega⟩
  q d := A.z ⟨128 * n.val + a.val, by omega⟩ ⟨512 + 256 * h.val + 64 * g.val + d.val, by omega⟩
  ct d := A.ct ⟨128 * n.val + a.val, by omega⟩ ⟨256 * h.val + 64 * g.val + d.val, by omega⟩
  slope := slope h g
  sink := A.sink ⟨4 * h.val + g.val, by omega⟩
  a := a
  first := n.val = 0

/-- The gradient of query `i`, lane `j` of the eight heads'. -/
def dq (i : Fin 8192) (j : Fin 512) : EReal :=
  (A.column ⟨i.val / 128, by omega⟩ ⟨j.val / 256, by omega⟩ ⟨j.val % 256 / 64, by omega⟩ ⟨i.val % 128, by omega⟩).dq ⟨j.val % 64, by omega⟩

theorem dq_at (n : Fin 64) (h : Fin 2) (g : Fin 4) (a : Fin 128) (d : Fin 64) (i : Fin 8192) (j : Fin 512)
    (hi : i.val = 128 * n.val + a.val) (hj : j.val = 256 * h.val + 64 * g.val + d.val) : A.dq i j = (A.column n h g a).dq d := by
  unfold dq
  have e1 : (⟨i.val / 128, by omega⟩ : Fin 64) = n := Fin.ext (by show i.val / 128 = n.val; omega)
  have e2 : (⟨j.val / 256, by omega⟩ : Fin 2) = h := Fin.ext (by show j.val / 256 = h.val; omega)
  have e3 : (⟨j.val % 256 / 64, by omega⟩ : Fin 4) = g := Fin.ext (by show j.val % 256 / 64 = g.val; omega)
  have e4 : (⟨i.val % 128, by omega⟩ : Fin 128) = a := Fin.ext (by show i.val % 128 = a.val; omega)
  have e5 : (⟨j.val % 64, by omega⟩ : Fin 64) = d := Fin.ext (by show j.val % 64 = d.val; omega)
  rw [e1, e2, e3, e4, e5]

/-- Every entry is a number. -/
structure Finite : Prop where
  z : ∀ i j, IsReal (A.z i j)
  sink : ∀ k, IsReal (A.sink k)
  ct : ∀ i j, IsReal (A.ct i j)

variable {A}

theorem Finite.kv (hA : A.Finite) (n : Fin 64) (k j : Fin 256) : IsReal (A.kv n k j) := by
  unfold Attn.kv
  split_ifs
  · exact hA.z _ _
  · exact ⟨0, rfl⟩

theorem Finite.column (hA : A.Finite) (n : Fin 64) (h : Fin 2) (g : Fin 4) (a : Fin 128) : (A.column n h g a).Real where
  K k d := hA.kv _ _ _
  V k d := hA.kv _ _ _
  q d := hA.z _ _
  ct d := hA.ct _ _
  slope := ⟨_, rfl⟩
  sink := hA.sink _

end Attn

end Cert.Math

end
-- ==== Proof.MixQueries.lean ====
/- What the mixers' gradient leaves in the queries' gradient. -/
module

public import proofs.«01_k».proof.Proof.MixBias
public import proofs.«01_k».proof.Proof.AttnSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Mix
open Cert.Kernel3Ideal Cert.Kernel3Ideal.Gen Cert.Math

variable (m : (ℓ : Loc nD τ sig) → Buf (Elt Ideal) ℓ) (c : Dev nD)

/-- The kernel's arrays. -/
abbrev attn : Attn where
  z i k := argZ m c (ix3 0 i k)
  sink k := argSink m c (ix2 0 k)
  ct i k := argDo m c (ix3 0 i k)

/-- The queries' gradient, as an array. -/
abbrev resDq : FVec Ideal S8192x512 .bf16 := fun j => (attn m c).dq (j 0) (j 1)

theorem coord : ∀ t : Fin grid0.N, (grid0.coords t 0).val = t.val := by decide +kernel

theorem left_dq (t : Fin cfg0.N) : (left m c t.val t.isLt).dq = View.canon (dqStores (grid0.coords t) (bufs t) (ins m c t)) := by
  by_cases h0 : t.val = 0
  · rw [left_first m c t h0 (by omega)]
    refine (View.read_writes_junk_eq_canon (Val := Elt Ideal) dqView _).trans ?_
    rw [firstRun_dqStores]
  · by_cases h1 : t.val = 15
    · rw [left_last m c t h0 h1]
      refine (View.read_writes_junk_eq_canon (Val := Elt Ideal) dqView _).trans ?_
      rw [lastRun_dqStores]
    · rw [left_middle m c t h0 h1]
      refine (View.read_writes_junk_eq_canon (Val := Elt Ideal) dqView _).trans ?_
      rw [middleRun_dqStores]

variable (t : Fin cfg0.N) (b : Fin 4) (h : Fin 2)

/-- The tile's columns. -/
abbrev tileAt : Tile := tile (grid0.coords t) (ins m c t) b h (slopes h)

/-- The block of 128 queries among the whole array's. -/
abbrev blockAt : Fin 64 := ⟨4 * t.val + b.val, by have := t_lt t; omega⟩

theorem kv_eq (o : Fin 2) (k : Fin 256) (d : Fin 64) (hv : (blockAt t b).val = 0 → 128 ≤ k.val) :
    kvAt (ins m c t) b h o k d = (attn m c).kv (blockAt t b) k ⟨128 * o.val + 64 * h.val + d.val, by omega⟩ := by
  have ht := t_lt t
  have hv' : 4 * t.val + b.val = 0 → 128 ≤ k.val := hv
  unfold kvAt rowAt Attn.kv
  rw [dif_pos (show 128 ≤ 128 * (4 * t.val + b.val) + k.val by omega)]
  split_ifs with hr
  · refine (blk_kvHalo m c t _ _).trans ?_
    refine congrArg (argZ m c) (congrArg₂ (ix3 0) (Fin.ext ?_) rfl)
    show (4 * t.val - 1) * 128 + (128 * b.val + k.val) = 128 * (4 * t.val + b.val) + k.val - 128
    have hr' : 128 * b.val + k.val < 128 := hr
    omega
  · refine (blk_kv m c t _ _).trans ?_
    refine congrArg (argZ m c) (congrArg₂ (ix3 0) (Fin.ext ?_) rfl)
    show t.val * 512 + (128 * b.val + k.val - 128) = 128 * (4 * t.val + b.val) + k.val - 128
    have hr' : ¬128 * b.val + k.val < 128 := hr
    omega

theorem kv_real (hA : (attn m c).Finite) (o : Fin 2) (k : Fin 256) (d : Fin 64) : IsReal (kvAt (ins m c t) b h o k d) := by
  unfold kvAt rowAt
  split_ifs
  · obtain ⟨r, hr⟩ := hA.z _ _
    exact ⟨r, (blk_kvHalo m c t _ _).trans hr⟩
  · obtain ⟨r, hr⟩ := hA.z _ _
    exact ⟨r, (blk_kv m c t _ _).trans hr⟩

theorem q_eq (g : Fin 4) (a : Fin 128) (d : Fin 64) : qAt b h (ins m c t).q g a d = ((attn m c).column (blockAt t b) h g a).q d := by
  unfold qAt
  refine (blk_q m c t _ _).trans (congrArg (argZ m c) (congrArg₂ (ix3 0) (Fin.ext ?_) (Fin.ext ?_)))
  · show t.val * 512 + (128 * b.val + a.val) = 128 * (4 * t.val + b.val) + a.val
    omega
  · show 512 + (256 * h.val + 64 * g.val + d.val) = 512 + 256 * h.val + 64 * g.val + d.val
    omega

theorem ct_eq (g : Fin 4) (a : Fin 128) (d : Fin 64) : qAt b h (ins m c t).dout g a d = ((attn m c).column (blockAt t b) h g a).ct d := by
  unfold qAt
  refine (blk_do m c t _ _).trans (congrArg (argDo m c) (congrArg₂ (ix3 0) (Fin.ext ?_) rfl))
  show t.val * 512 + (128 * b.val + a.val) = 128 * (4 * t.val + b.val) + a.val
  omega

theorem sink_eq (g : Fin 4) (a : Fin 128) : (ins m c t).sink (ix3 h 0 (col g a)) = (attn m c).sink ⟨4 * h.val + g.val, by omega⟩ :=
  blk_sink m c t h g a

theorem tile_real (hA : (attn m c).Finite) (g : Fin 4) (a : Fin 128) : ((tileAt m c t b h).column g a).Real where
  K k d := kv_real m c t b h hA 0 k d
  V k d := kv_real m c t b h hA 1 k d
  q d := by
    obtain ⟨r, hr⟩ := hA.z ⟨128 * (blockAt t b).val + a.val, by omega⟩ ⟨512 + 256 * h.val + 64 * g.val + d.val, by omega⟩
    exact ⟨r, (q_eq m c t b h g a d).trans hr⟩
  ct d := by
    obtain ⟨r, hr⟩ := hA.ct ⟨128 * (blockAt t b).val + a.val, by omega⟩ ⟨256 * h.val + 64 * g.val + d.val, by omega⟩
    exact ⟨r, (ct_eq m c t b h g a d).trans hr⟩
  slope := ⟨_, rfl⟩
  sink := by
    obtain ⟨r, hr⟩ := hA.sink ⟨4 * h.val + g.val, by omega⟩
    exact ⟨r, (sink_eq m c t h g 0).trans hr⟩

theorem tile_dq (hA : (attn m c).Finite) (g : Fin 4) (a : Fin 128) (d : Fin 64) :
    ((tileAt m c t b h).column g a).dq d = ((attn m c).column (blockAt t b) h g a).dq d := by
  have hfirst : ((tileAt m c t b h).column g a).first ↔ ((attn m c).column (blockAt t b) h g a).first := by
    show (grid0.coords t 0).val = 0 ∧ b.val = 0 ↔ 4 * t.val + b.val = 0
    rw [coord]
    omega
  refine Column.dq_congr (tile_real m c t b h hA g a) (hA.column _ _ _ _) (funext fun d => q_eq m c t b h g a d) (funext fun d => ct_eq m c t b h g a d)
    rfl (sink_eq m c t h g 0) rfl hfirst (fun k hk => funext fun d => ?_) (fun k hk => funext fun d => ?_) d
  · refine (kv_eq m c t b h 0 k d fun hz => hk.2 (hfirst.2 hz)).trans (congrArg ((attn m c).kv _ _) (Fin.ext ?_))
    show 128 * 0 + 64 * h.val + d.val = 64 * h.val + d.val
    omega
  · exact kv_eq m c t b h 1 k d fun hz => hk.2 (hfirst.2 hz)

/-- The two stores of a block and a key head. -/
theorem stores_eq (hA : (attn m c).Finite) :
    Pairs (pair0 (dqOf (grid0.coords t) (bufs t) (ins m c t) b h)) (pair1 (dqOf (grid0.coords t) (bufs t) (ins m c t) b h))
      fun g a d => ((attn m c).column (blockAt t b) h g a).dq d := by
  have P := dqOf_pairs (grid0.coords t) (bufs t) (ins m c t) b h (slopes h) (fun r g a => blk_bias m c t h g r a)
    (fun g a => (sink_eq m c t h g a).trans (sink_eq m c t h g 0).symm) (tile_real m c t b h hA)
  exact ⟨fun a d => (P.q0 a d).trans (tile_dq m c t b h hA 0 a d), fun a d => (P.q1 a d).trans (tile_dq m c t b h hA 1 a d),
    fun a d => (P.q2 a d).trans (tile_dq m c t b h hA 2 a d), fun a d => (P.q3 a d).trans (tile_dq m c t b h hA 3 a d)⟩

/-- A lane is one of the left half or of the right. -/
theorem lo_or_hi (l : Fin 128) : (∃ d, l = lo d) ∨ ∃ d, l = hi d := by
  by_cases hl : l.val < 64
  · exact .inl ⟨⟨l.val, hl⟩, rfl⟩
  · exact .inr ⟨⟨l.val - 64, by omega⟩, Fin.ext (by show l.val = 64 + (l.val - 64); omega)⟩

/-- The row of the whole array that row `r` of the point's block is. -/
abbrev gridRow (r : Fin 512) : Fin 8192 := ⟨t.val * 512 + r.val, by have := t_lt t; omega⟩

theorem piece0_at (hA : (attn m c).Finite) (a l : Fin 128) (i : Fin 512) (j : Fin 512) (h0 : i.val = 128 * b.val + a.val)
    (h1 : j.val = 128 * (2 * h.val) + l.val) :
    pair0 (dqOf (grid0.coords t) (bufs t) (ins m c t) b h) (ix2 a l) = (attn m c).dq (gridRow t i) j := by
  have hr : (gridRow t i).val = 128 * (blockAt t b).val + a.val := by
    show t.val * 512 + i.val = 128 * (4 * t.val + b.val) + a.val
    omega
  rcases lo_or_hi l with ⟨d, rfl⟩ | ⟨d, rfl⟩
  · rw [(stores_eq m c t b h hA).q0]
    have h1' : j.val = 128 * (2 * h.val) + d.val := h1
    refine ((attn m c).dq_at _ h 0 a d _ _ hr ?_).symm
    show j.val = 256 * h.val + 64 * 0 + d.val
    omega
  · rw [(stores_eq m c t b h hA).q1]
    have h1' : j.val = 128 * (2 * h.val) + (64 + d.val) := h1
    refine ((attn m c).dq_at _ h 1 a d _ _ hr ?_).symm
    show j.val = 256 * h.val + 64 * 1 + d.val
    omega

theorem piece0_eq (hA : (attn m c).Finite) (x : S128x128.Idx) (y : S512x512.Idx) (h0 : (y 0).val = 128 * b.val + (x 0).val)
    (h1 : (y 1).val = 128 * (2 * h.val) + (x 1).val) :
    pair0 (dqOf (grid0.coords t) (bufs t) (ins m c t) b h) x = (attn m c).dq (gridRow t (y 0)) (y 1) := by
  have e : x = ix2 (x 0) (x 1) := by funext d; match d with | ⟨0, _⟩ => rfl | ⟨1, _⟩ => rfl
  exact (congrArg _ e).trans (piece0_at m c t b h hA (x 0) (x 1) (y 0) (y 1) h0 h1)

theorem piece1_at (hA : (attn m c).Finite) (a l : Fin 128) (i : Fin 512) (j : Fin 512) (h0 : i.val = 128 * b.val + a.val)
    (h1 : j.val = 128 * (2 * h.val + 1) + l.val) :
    pair1 (dqOf (grid0.coords t) (bufs t) (ins m c t) b h) (ix2 a l) = (attn m c).dq (gridRow t i) j := by
  have hr : (gridRow t i).val = 128 * (blockAt t b).val + a.val := by
    show t.val * 512 + i.val = 128 * (4 * t.val + b.val) + a.val
    omega
  rcases lo_or_hi l with ⟨d, rfl⟩ | ⟨d, rfl⟩
  · rw [(stores_eq m c t b h hA).q2]
    have h1' : j.val = 128 * (2 * h.val + 1) + d.val := h1
    refine ((attn m c).dq_at _ h 2 a d _ _ hr ?_).symm
    show j.val = 256 * h.val + 64 * 2 + d.val
    omega
  · rw [(stores_eq m c t b h hA).q3]
    have h1' : j.val = 128 * (2 * h.val + 1) + (64 + d.val) := h1
    refine ((attn m c).dq_at _ h 3 a d _ _ hr ?_).symm
    show j.val = 256 * h.val + 64 * 3 + d.val
    omega

theorem piece1_eq (hA : (attn m c).Finite) (x : S128x128.Idx) (y : S512x512.Idx) (h0 : (y 0).val = 128 * b.val + (x 0).val)
    (h1 : (y 1).val = 128 * (2 * h.val + 1) + (x 1).val) :
    pair1 (dqOf (grid0.coords t) (bufs t) (ins m c t) b h) x = (attn m c).dq (gridRow t (y 0)) (y 1) := by
  have e : x = ix2 (x 0) (x 1) := by funext d; match d with | ⟨0, _⟩ => rfl | ⟨1, _⟩ => rfl
  exact (congrArg _ e).trans (piece1_at m c t b h hA (x 0) (x 1) (y 0) (y 1) h0 h1)

theorem dqStores_cover (y : S512x512.Idx) : ∃ p ∈ dqStores (grid0.coords t) (bufs t) (ins m c t), y ∈ p.1.set :=
  View.cover_of_tiledL (dqStores (grid0.coords t) (bufs t) (ins m c t)) S128x128.size (by sl_kernel_rfl) y

/-- A store's payload is the gradient at its place. -/
abbrev Fits (p : View.Piece (Elt Ideal) S512x512 .bf16) : Prop :=
  ∀ x : p.1.shape.Idx, p.2 x = (attn m c).dq (gridRow t (p.1.emb x 0)) (p.1.emb x 1)

theorem store0_fits (hA : (attn m c).Finite) : Fits m c t (store0 (grid0.coords t) (bufs t) (ins m c t) b h) := fun x =>
  piece0_eq m c t b h hA x _ (by show _ + 1 * _ = _; rw [one_mul]; rfl) (by show _ + 1 * _ = _; rw [one_mul]; rfl)

theorem store1_fits (hA : (attn m c).Finite) : Fits m c t (store1 (grid0.coords t) (bufs t) (ins m c t) b h) := fun x =>
  piece1_eq m c t b h hA x _ (by show _ + 1 * _ = _; rw [one_mul]; rfl) (by show _ + 1 * _ = _; rw [one_mul]; rfl)

theorem dqStores_fit (hA : (attn m c).Finite) : ∀ p ∈ dqStores (grid0.coords t) (bufs t) (ins m c t), Fits m c t p := by
  have e0 := fun b h => store0_fits m c t b h hA
  have e1 := fun b h => store1_fits m c t b h hA
  unfold dqStores
  refine List.forall_mem_cons.2 ⟨e1 3 1, List.forall_mem_cons.2 ⟨e0 3 1, ?_⟩⟩
  refine List.forall_mem_cons.2 ⟨e1 3 0, List.forall_mem_cons.2 ⟨e0 3 0, ?_⟩⟩
  refine List.forall_mem_cons.2 ⟨e1 2 1, List.forall_mem_cons.2 ⟨e0 2 1, ?_⟩⟩
  refine List.forall_mem_cons.2 ⟨e1 2 0, List.forall_mem_cons.2 ⟨e0 2 0, ?_⟩⟩
  refine List.forall_mem_cons.2 ⟨e1 1 1, List.forall_mem_cons.2 ⟨e0 1 1, ?_⟩⟩
  refine List.forall_mem_cons.2 ⟨e1 1 0, List.forall_mem_cons.2 ⟨e0 1 0, ?_⟩⟩
  refine List.forall_mem_cons.2 ⟨e1 0 1, List.forall_mem_cons.2 ⟨e0 0 1, ?_⟩⟩
  refine List.forall_mem_cons.2 ⟨e1 0 0, List.forall_mem_cons.2 ⟨e0 0 0, ?_⟩⟩
  exact fun p hp => absurd hp List.not_mem_nil

theorem canon_dq (hA : (attn m c).Finite) (y : S512x512.Idx) :
    View.canon (Val := Elt Ideal) (dqStores (grid0.coords t) (bufs t) (ins m c t)) y = (attn m c).dq (gridRow t (y 0)) (y 1) :=
  View.canon_apply_of_pieces (fun y : S512x512.Idx => (attn m c).dq (gridRow t (y 0)) (y 1)) _ (dqStores_fit m c t hA) y (dqStores_cover m c t y)

theorem final14 (hA : (attn m c).Finite) : (dats m 0 c).arrAt 14 cfg0.N = resDq m c := by
  refine (dats m 0 c).arrAt_eq_of_covers 14 _ (by decide +kernel) fun t _ y => ?_
  blk_simp
  have e : resDq m c (((cfg0.win 14).blk t).view.emb y) = resDq m c (ix2 (gridRow t (y 0)) (y 1)) := by
    blk_ext [idx t]
  rw [after_14, e, left_dq]
  exact canon_dq m c t hA y

end Cert.Mix
end
-- ==== Proof.AttnMask.lean ====
/- The attention's reference: its keys and values, its mask and its slopes. -/
module

public import proofs.«01_k».proof.Proof.AttnSpec
public import proofs.«01_k».proof.Proof.HostSum
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem

namespace Cert.AttnRef
open Cert.Reference3Ideal Cert.Reference3Ideal.Value Cert.Math

variable (V : Valuation τ sig (Elt Ideal))

def refZ : FVec Ideal S1x8192x1280 .f32 := V (Proc.devRef .tc main_arg0)
def refSink : FVec Ideal S1x8 .f32 := V (Proc.devRef .tc main_arg4)
def refDo : FVec Ideal S1x8192x512 .f32 := V (Proc.devRef .tc main_arg6)

/-- The reference's arrays. -/
abbrev attn : Attn where
  z i k := refZ V (ix3 0 i k)
  sink k := refSink V (ix2 0 k)
  ct i k := refDo V (ix3 0 i k)

variable (n : Fin 64) (h : Fin 2) (g : Fin 4) (a : Fin 128) (k : Fin 256)

/-- The column of query `a` of block `n`, query head `4h + g`. -/
abbrev C : Column := (attn V).column n h g a

theorem k_apply (b : Fin 128) (d : Fin 64) :
    (res_main_v5 V : FVec Ideal S1x64x128x2x64 .f32) (ix5 0 n b h d) = refZ V (ix3 0 ⟨128 * n.val + b.val, by omega⟩ ⟨1024 + (64 * h.val + d.val), by omega⟩) := by
  pointwise [res_main_v5]
  refine congrArg (refZ V) (congrArg₂ (ix3 0) (Fin.ext ?_) (Fin.ext ?_))
  · show n.val * 128 + b.val = 128 * n.val + b.val
    omega
  · show 1024 + (h.val * 64 + d.val) = 1024 + (64 * h.val + d.val)
    omega

theorem v_apply (b : Fin 128) (d : Fin 64) :
    (res_main_v6 V : FVec Ideal S1x64x128x2x64 .f32) (ix5 0 n b h d) = refZ V (ix3 0 ⟨128 * n.val + b.val, by omega⟩ ⟨1024 + (128 + 64 * h.val + d.val), by omega⟩) := by
  pointwise [res_main_v6]
  refine congrArg (refZ V) (congrArg₂ (ix3 0) (Fin.ext ?_) (Fin.ext ?_))
  · show n.val * 128 + b.val = 128 * n.val + b.val
    omega
  · show 1152 + (h.val * 64 + d.val) = 1024 + (128 + 64 * h.val + d.val)
    omega

theorem zero_word : (FloatOps.sitofp FTy.f32 (0#32 : BitVec 32) : Ideal .f32) = (0 : EReal) := by
  show ((((0#32 : BitVec 32).toInt : ℤ) : ℝ) : EReal) = 0
  norm_num

/-- The block before block `n`, zero for the first, then block `n`. -/
theorem keys_apply (d : Fin 64) : (res_main_v9 V : FVec Ideal S1x64x256x2x64 .f32) (ix5 0 n k h d) = (C V n h g a).K k d := by
  pointwise [res_main_v9]
  show _ = (attn V).kv n k _
  unfold Attn.kv
  split_ifs with h1 h2 h3 h3 h3
  · refine (k_apply V _ h _ d).trans (congrArg (refZ V) (congrArg₂ (ix3 0) (Fin.ext ?_) rfl))
    have := (h2 ⟨1, by decide⟩).1
    have h2' : 1 ≤ n.val := this
    show 128 * (n.val - 1) + k.val = 128 * n.val + k.val - 128
    omega
  · exfalso
    have := (h2 ⟨1, by decide⟩).1
    have h2' : 1 ≤ n.val := this
    omega
  · exfalso
    refine h2 fun b => ?_
    have hn : 1 ≤ n.val := by omega
    match b with
    | ⟨0, _⟩ => exact ⟨Nat.zero_le _, Nat.mod_one _, by show (0 - 0) / (0 + 1) < 1; omega⟩
    | ⟨1, _⟩ => exact ⟨hn, Nat.mod_one _, by show (n.val - 1) / (0 + 1) < 64; omega⟩
    | ⟨2, _⟩ => exact ⟨Nat.zero_le _, Nat.mod_one _, by show (k.val - 0) / (0 + 1) < 128; omega⟩
    | ⟨3, _⟩ => exact ⟨Nat.zero_le _, Nat.mod_one _, by show (h.val - 0) / (0 + 1) < 2; omega⟩
    | ⟨4, _⟩ => exact ⟨Nat.zero_le _, Nat.mod_one _, by show (d.val - 0) / (0 + 1) < 64; omega⟩
  · exact zero_word
  · rw [dif_pos (show 128 ≤ 128 * n.val + k.val by omega)]
    refine (k_apply V _ h _ d).trans (congrArg (refZ V) (congrArg₂ (ix3 0) (Fin.ext ?_) rfl))
    show 128 * n.val + (k.val - 128) = 128 * n.val + k.val - 128
    omega
  · exact absurd rfl h3

theorem vals_apply (d : Fin 64) : (res_main_v12 V : FVec Ideal S1x64x256x2x64 .f32) (ix5 0 n k h d) = (C V n h g a).V k d := by
  pointwise [res_main_v12]
  show _ = (attn V).kv n k _
  unfold Attn.kv
  split_ifs with h1 h2 h3 h3 h3
  · refine (v_apply V _ h _ d).trans (congrArg (refZ V) (congrArg₂ (ix3 0) (Fin.ext ?_) rfl))
    have := (h2 ⟨1, by decide⟩).1
    have h2' : 1 ≤ n.val := this
    show 128 * (n.val - 1) + k.val = 128 * n.val + k.val - 128
    omega
  · exfalso
    have := (h2 ⟨1, by decide⟩).1
    have h2' : 1 ≤ n.val := this
    omega
  · exfalso
    refine h2 fun b => ?_
    have hn : 1 ≤ n.val := by omega
    match b with
    | ⟨0, _⟩ => exact ⟨Nat.zero_le _, Nat.mod_one _, by show (0 - 0) / (0 + 1) < 1; omega⟩
    | ⟨1, _⟩ => exact ⟨hn, Nat.mod_one _, by show (n.val - 1) / (0 + 1) < 64; omega⟩
    | ⟨2, _⟩ => exact ⟨Nat.zero_le _, Nat.mod_one _, by show (k.val - 0) / (0 + 1) < 128; omega⟩
    | ⟨3, _⟩ => exact ⟨Nat.zero_le _, Nat.mod_one _, by show (h.val - 0) / (0 + 1) < 2; omega⟩
    | ⟨4, _⟩ => exact ⟨Nat.zero_le _, Nat.mod_one _, by show (d.val - 0) / (0 + 1) < 64; omega⟩
  · exact zero_word
  · rw [dif_pos (show 128 ≤ 128 * n.val + k.val by omega)]
    refine (v_apply V _ h _ d).trans (congrArg (refZ V) (congrArg₂ (ix3 0) (Fin.ext ?_) rfl))
    show 128 * n.val + (k.val - 128) = 128 * n.val + k.val - 128
    omega
  · exact absurd rfl h3

theorem word_toInt (x : ℕ) (hx : x < 2 ^ 31) : (BitVec.ofNat 32 x).toInt = x := by
  rw [BitVec.toInt_eq_toNat_of_lt (by simp only [BitVec.toNat_ofNat]; omega), BitVec.toNat_ofNat, Nat.mod_eq_of_lt (by omega)]

/-- How far key `k` lies behind query `a`. -/
theorem dist_apply : ((res_main_v25 V (ix2 a k) : BitVec 32)).toInt = 128 + (a.val : ℤ) - (k.val : ℤ) := by
  pointwise [res_main_v25, res_main_v20]
  show ((128#32 + BitVec.ofNat 32 a.val) - BitVec.ofNat 32 k.val).toInt = _
  have e1 : 128#32 + BitVec.ofNat 32 a.val = BitVec.ofNat 32 (128 + a.val) := (BitVec.ofNat_add 128 a.val).symm
  rw [BitVec.toInt_sub, e1, word_toInt _ (by omega), word_toInt _ (by omega), Int.bmod_def]
  push_cast
  split_ifs <;> omega

theorem cmp_sge (x : BitVec 32) : IntOp.cmpi .sge x 0#32 = 1#1 ↔ 0 ≤ x.toInt := by
  show BitVec.ofBool (BitVec.sle 0#32 x) = 1#1 ↔ _
  rw [BitVec.sle]
  by_cases hx : 0 ≤ x.toInt <;> simp [hx]

theorem cmp_slt (x : BitVec 32) : IntOp.cmpi .slt x 128#32 = 1#1 ↔ x.toInt < 128 := by
  show BitVec.ofBool (BitVec.slt x 128#32) = 1#1 ↔ _
  rw [BitVec.slt]
  by_cases hx : x.toInt < 128 <;> simp [hx]

theorem and_one (x y : BitVec 1) : IntOp.andi x y = 1#1 ↔ x = 1#1 ∧ y = 1#1 := by
  revert x y
  decide

theorem place_toInt : (IntOp.addi (IntOp.subi (IntOp.muli (BitVec.ofNat 32 n.val) 128#32) 128#32) (BitVec.ofNat 32 k.val)).toInt
    = 128 * (n.val : ℤ) + k.val - 128 := by
  show ((BitVec.ofNat 32 n.val * 128#32 - 128#32) + BitVec.ofNat 32 k.val).toInt = _
  have e1 : BitVec.ofNat 32 n.val * 128#32 = BitVec.ofNat 32 (n.val * 128) := (BitVec.ofNat_mul n.val 128).symm
  have e2 : (128#32).toInt = 128 := rfl
  rw [BitVec.toInt_add, BitVec.toInt_sub, e1, e2, word_toInt _ (by omega), word_toInt _ (by omega), Int.bmod_def, Int.bmod_def]
  push_cast
  split_ifs <;> omega

theorem mask_apply : (res_main_v63_1 V (ix6 0 n h g a k) : BitVec 1) = 1#1 ↔ (C V n h g a).valid k := by
  pointwise [res_main_v63_1, res_main_v20]
  rw [and_one, and_one, cmp_sge, cmp_slt, cmp_sge, place_toInt, dist_apply]
  show _ ↔ (a.val < k.val ∧ k.val ≤ a.val + 128) ∧ (n.val = 0 → 128 ≤ k.val)
  omega

theorem slope_apply : Ideal.div 1 (FloatOps.sitofp FTy.f32 (IntOp.shli ArithUnit.host (2#32) (BitVec.ofNat 32 (h.val * 4 + g.val))) : Ideal .f32) = Attn.slope h g := by
  have e : (IntOp.shli ArithUnit.host (2#32) (BitVec.ofNat 32 (h.val * 4 + g.val))).toInt = 2 ^ (4 * h.val + g.val + 1) := by
    revert h g
    decide
  show Ideal.div 1 ((((IntOp.shli ArithUnit.host (2#32) (BitVec.ofNat 32 (h.val * 4 + g.val))).toInt : ℤ) : ℝ) : EReal) = _
  have e2 : (((2 ^ (4 * h.val + g.val + 1) : ℤ)) : ℝ) = (2 : ℝ) ^ (4 * h.val + g.val + 1) := by push_cast; rfl
  rw [e, e2]
  unfold Attn.slope
  rw [Ideal.div_coe (pow_ne_zero _ two_ne_zero), one_div, one_div, inv_pow, one_mul]

theorem lit_eighth : Ideal.ofBits FTy.f32 1040187392#32 = Column.eighth := by
  unfold Column.eighth
  simp [Ideal.ofBits, Ideal.ieee]
  rw [← EReal.coe_mul]
  norm_num

theorem lit_bot : Ideal.ofBits FTy.f32 4286578688#32 = ⊥ := by
  simp [Ideal.ofBits, Ideal.ieee]

end Cert.AttnRef
end
-- ==== Proof.AttnRef.lean ====
/- What the attention's reference computes, stage by stage. -/
module

public import proofs.«01_k».proof.Proof.AttnMask

@[expose] public section

set_option maxRecDepth 16384

noncomputable section

open Idealize.ShloMosaic Idealize.ShloMosaic.TcCoe Idealize.SL.Sem

namespace Cert.AttnRef
open Cert.Reference3Ideal Cert.Reference3Ideal.Value Cert.Math

variable (V : Valuation τ sig (Elt Ideal))
variable (n : Fin 64) (h : Fin 2) (g : Fin 4) (a : Fin 128) (k : Fin 256)

theorem masked_apply : (res_main_v63_0 V (ix6 0 n h g a k) : EReal) = (C V n h g a).masked k := by
  pointwise [res_main_v63_0]
  show @Eq EReal _ _
  unfold Column.masked
  by_cases hv : (C V n h g a).valid k
  · rw [if_pos hv]
    refine (if_pos ((mask_apply V n h g a k).2 hv)).trans ?_
    refine congrArg₂ (fun p q : EReal => p - q) (congrArg₂ (fun p q : EReal => p * q) (Finset.sum_congr rfl fun d _ => congrArg₂ (fun p q : EReal => p * q) (keys_apply V n h g a k d) ?_) lit_eighth) (congrArg₂ (fun p q : EReal => p * q) (slope_apply h g) ?_)
    · refine congrArg (refZ V) (congrArg₂ (ix3 0) (Fin.ext ?_) (Fin.ext ?_))
      · show n.val * 128 + a.val = 128 * n.val + a.val
        omega
      · show 512 + (h.val * 256 + g.val * 64 + d.val) = 512 + 256 * h.val + 64 * g.val + d.val
        omega
    · exact congrArg (fun z : ℤ => ((z : ℝ) : EReal)) (dist_apply V a k)
  · rw [if_neg hv]
    exact (if_neg (mt (mask_apply V n h g a k).1 hv)).trans lit_bot

theorem reduces5 : S1x64x2x4x128x256.Reduces [5] S1x64x2x4x128 := by decide

theorem lift5 : (reduces5.lift (ix5 0 n h g a) k : S1x64x2x4x128x256.Idx) = ix6 0 n h g a k := by
  funext b
  match b with
  | ⟨0, _⟩ => rfl
  | ⟨1, _⟩ => rfl
  | ⟨2, _⟩ => rfl
  | ⟨3, _⟩ => rfl
  | ⟨4, _⟩ => rfl
  | ⟨5, _⟩ => rfl

theorem sum_keys (x : S1x64x2x4x128x256.Idx → EReal) (init : EReal) :
    Ideal.hostReduceAdd Gen.reducesTo_S1x64x2x4x128x256_S1x64x2x4x128_d5 x init (ix5 0 n h g a) = init + ∑ k : Fin 256, x (ix6 0 n h g a k) :=
  (Ideal.hostReduceAdd_single _ reduces5 x init _).trans (congrArg (init + ·) (Finset.sum_congr rfl fun k _ => congrArg x (lift5 n h g a k)))

theorem best_apply : (res_main_v66 V (ix5 0 n h g a) : EReal) = Finset.univ.fold max ⊥ (C V n h g a).masked := by
  pointwise [res_main_v66]
  show @Eq EReal _ _
  rw [lit_bot, Shape.ReducesTo.drop_eq_drop Gen.reducesTo_S1x64x2x4x128x256_S1x64x2x4x128_d5 reduces5]
  refine (reduces5.fold_filter_drop_single (max : EReal → EReal → EReal) (⊥ : EReal) _ _).trans ?_
  congr 1
  funext k
  exact (congrArg (res_main_v63_0 V) (lift5 n h g a k)).trans (masked_apply V n h g a k)

theorem sink_apply : (res_main_v65 V (ix6 0 0 h g 0 0) : EReal) = (C V n h g a).sink := by
  pointwise [res_main_v65]
  refine congrArg (refSink V) (congrArg (ix2 0) (Fin.ext ?_))
  show h.val * 4 + g.val = 4 * h.val + g.val
  omega

theorem best_again : (res_main_v72 V (ix6 0 n h g a 0) : EReal) = Finset.univ.fold max ⊥ (C V n h g a).masked := by
  pointwise [res_main_v72]
  exact best_apply V n h g a

theorem max_apply (x : FVec Ideal S1x64x2x4x128x1 .f32) (y : FVec Ideal S1x1x2x4x1x1 .f32) :
    (maximumf x (broadcastInDim S1x64x2x4x128x1 ![0, 1, 2, 3, 4, 5] Gen.bcast_S1x1x2x4x1x1_S1x64x2x4x128x1_0_1_2_3_4_5 y) (ix6 0 n h g a 0) : EReal)
      = max (x (ix6 0 n h g a 0)) (y (ix6 0 0 h g 0 0)) := by
  pointwise []

theorem top_apply : (res_main_v74 V (ix6 0 n h g a 0) : EReal) = (C V n h g a).top := by
  unfold res_main_v74
  refine (max_apply n h g a (res_main_v72 V) (res_main_v65 V)).trans ?_
  rw [best_again, sink_apply V n h g a]
  rfl

theorem e_apply : (res_main_v86 V (ix6 0 n h g a k) : EReal) = (C V n h g a).e k := by
  pointwise [res_main_v86]
  exact congrArg Ideal.exp (congrArg₂ (fun p q : EReal => p - q) (masked_apply V n h g a k) (top_apply V n h g a))

theorem es_apply : (res_main_v91 V (ix6 0 n h g a 0) : EReal) = (C V n h g a).es := by
  pointwise [res_main_v91]
  exact congrArg Ideal.exp (congrArg₂ (fun p q : EReal => p - q) (sink_apply V n h g a) (top_apply V n h g a))

theorem Z_apply : (res_main_v92 V (ix6 0 n h g a 0) : EReal) = (C V n h g a).Z := by
  pointwise [res_main_v92]
  show @Eq EReal _ _
  refine congrArg₂ (fun p q : EReal => p + q) ((sum_keys n h g a _ 0).trans ((zero_add _).trans (Finset.sum_congr rfl fun k _ => e_apply V n h g a k))) (es_apply V n h g a)

theorem dp_apply : (res_main_v103 V (ix6 0 n h g a k) : EReal) = (C V n h g a).dp k := by
  pointwise [res_main_v103]
  show @Eq EReal _ _
  refine Finset.sum_congr rfl fun d _ => congrArg₂ (fun p q : EReal => p * q) ?_ (vals_apply V n h g a k d)
  refine congrArg (refDo V) (congrArg₂ (ix3 0) (Fin.ext ?_) (Fin.ext ?_))
  · show n.val * 128 + a.val = 128 * n.val + a.val
    omega
  · show h.val * 256 + g.val * 64 + d.val = 256 * h.val + 64 * g.val + d.val
    omega

/-- What the softmax's sum passes back: minus the weighted cotangents over the sum's square. -/
def back : EReal := ∑ j, (C V n h g a).dp j * Ideal.div 1 ((C V n h g a).Z * (C V n h g a).Z) * (C V n h g a).e j

theorem back_apply : (res_main_v109 V (ix6 0 n h g a 0) : EReal) = -back V n h g a := by
  pointwise [res_main_v109]
  show @Eq EReal _ _
  refine congrArg (fun p : EReal => -p) ((sum_keys n h g a _ 0).trans ((zero_add _).trans (Finset.sum_congr rfl fun k _ => ?_)))
  pointwise []
  exact congrArg₂ (fun p q : EReal => p * q) (congrArg₂ (fun p q : EReal => p * q) (dp_apply V n h g a k) (congrArg (fun p : EReal => Ideal.div 1 (p * p)) (Z_apply V n h g a))) (e_apply V n h g a k)

theorem sum_unit (x : S1x64x2x4x128x1.Idx → EReal) (init : EReal) :
    Ideal.hostReduceAdd Gen.reducesTo_S1x64x2x4x128x1_S64x2x4x128_d0_5 x init (ix4 n h g a) = init + x (ix6 0 n h g a 0) := by
  refine Cert.Math.hostReduceAdd_single _ x init _ _ fun i => ⟨fun e => ?_, ?_⟩
  · funext b; apply Fin.ext
    match b with
    | ⟨0, _⟩ => exact congrArg Fin.val (Subsingleton.elim (α := Fin 1) 0 (i 0))
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact congrArg Fin.val (Subsingleton.elim (α := Fin 1) 0 (i 5))
  · rintro rfl
    funext b; apply Fin.ext
    match b with
    | ⟨0, _⟩ => rfl
    | ⟨1, _⟩ => rfl
    | ⟨2, _⟩ => rfl
    | ⟨3, _⟩ => rfl

theorem through_apply : (res_main_v118 V (ix6 0 n h g a k) : EReal)
    = (Ideal.div ((C V n h g a).dp k) (C V n h g a).Z + -back V n h g a) * (C V n h g a).e k := by
  pointwise [res_main_v118]
  show @Eq EReal _ _
  refine congrArg₂ (fun p q : EReal => p * q) (congrArg₂ (fun p q : EReal => p + q) (congrArg₂ Ideal.div (dp_apply V n h g a k) (Z_apply V n h g a)) ?_) (e_apply V n h g a k)
  exact (sum_unit n h g a _ 0).trans ((zero_add _).trans (back_apply V n h g a))

/-- One where a key attains the largest masked score. -/
def tie : EReal := FloatOps.uitofp (F := Ideal) FTy.f32 (BitVec.ofBool (decide ((C V n h g a).masked k = Finset.univ.fold max ⊥ (C V n h g a).masked)))

theorem tie_apply : (res_main_v70 V (ix6 0 n h g a k) : EReal) = tie V n h g a k := by
  pointwise [res_main_v70]
  rw [masked_apply, best_apply]
  rfl

theorem tie_nonneg : 0 ≤ tie V n h g a k := by
  unfold tie
  by_cases hm : (C V n h g a).masked k = Finset.univ.fold max ⊥ (C V n h g a).masked
  · rw [decide_eq_true hm]
    show (0 : EReal) ≤ (((1 : ℕ) : ℝ) : EReal)
    norm_num
  · rw [decide_eq_false hm]
    show (0 : EReal) ≤ (((0 : ℕ) : ℝ) : EReal)
    norm_num

theorem ties_ne_zero (hA : (attn V).Finite) : ∑ k, tie V n h g a k ≠ 0 := by
  obtain ⟨k, hk⟩ := (hA.column n h g a).best.2
  have h1 : tie V n h g a k = 1 := by
    unfold tie
    rw [decide_eq_true hk]
    show (((1 : ℕ) : ℝ) : EReal) = 1
    norm_num
  have h2 := Finset.single_le_sum (f := tie V n h g a) (fun j _ => tie_nonneg V n h g a j) (Finset.mem_univ k)
  rw [h1] at h2
  exact fun h0 => absurd (h0 ▸ h2) (by norm_num)

end Cert.AttnRef
end
-- ==== Proof.AttnRefOut.lean ====
/- What the attention's reference returns: the query gradient of every column. -/
module

public import proofs.«01_k».proof.Proof.AttnRef
public import proofs.«01_k».proof.Proof.SinkColumn

@[expose] public section

set_option maxRecDepth 16384

noncomputable section

open Idealize.ShloMosaic Idealize.ShloMosaic.TcCoe Idealize.SL.Sem

namespace Cert.AttnRef
open Cert.Reference3Ideal Cert.Reference3Ideal.Gen Cert.Reference3Ideal.Value Cert.Math

variable (V : Valuation τ sig (Elt Ideal)) (n : Fin 64) (h : Fin 2) (g : Fin 4) (a : Fin 128) (k : Fin 256)

/-- The score's gradient: what passes through the subtracted maximum adds nothing. -/
theorem score_grad (hA : (attn V).Finite) (w : EReal) :
    (Ideal.div ((C V n h g a).dp k) (C V n h g a).Z + -back V n h g a) * (C V n h g a).e k
      + Ideal.div ((-(-back V n h g a * (C V n h g a).es)
          + ∑ l, -((Ideal.div ((C V n h g a).dp l) (C V n h g a).Z + -back V n h g a) * (C V n h g a).e l)) * w)
        (∑ l, tie V n h g a l) * tie V n h g a k
      = (C V n h g a).ds k := by
  have hR := hA.column n h g a
  exact sink_column (C V n h g a).e (C V n h g a).dp (C V n h g a).es hR.e hR.dp hR.es w _ _ (ties_ne_zero V n h g a hA) k

/-- The same as the reference leaves it, zero where the query reads no key. -/
theorem masked_grad (hA : (attn V).Finite) (w z : EReal) (hz : z = 0) (c : BitVec 1) (x t : Fin 256 → EReal) (b s : EReal)
    (hc : c = 1#1 ↔ (C V n h g a).valid k) (hx : ∀ l, x l = (Ideal.div ((C V n h g a).dp l) (C V n h g a).Z + -back V n h g a) * (C V n h g a).e l)
    (hb : b = -back V n h g a) (hs : s = (C V n h g a).es) (ht : ∀ l, t l = tie V n h g a l) :
    Scalar.select c (x k + Ideal.div ((-(b * s) + ∑ l, -x l) * w) (∑ l, t l) * t k) z = (C V n h g a).ds k := by
  simp only [hx, hb, hs, ht]
  rw [score_grad V n h g a k hA w, hz]
  unfold Scalar.select
  by_cases hv : (C V n h g a).valid k
  · exact if_pos (hc.2 hv)
  · exact (if_neg (mt hc.1 hv)).trans ((hA.column n h g a).ds_off k hv).symm

/-- What every key's score passes to the maximum the reference subtracts, summed and weighted. -/
abbrev share (x : FVec Ideal S1x64x2x4x128x256 .f32) (b s w : FVec Ideal S1x64x2x4x128x1 .f32) : FVec Ideal S64x2x4x128 .f32 :=
  Host.reduceAdd (mulf (addf (Host.negf (mulf b s)) (shapeCast _ (Host.reduceAdd (Host.negf x) (constant S_ .f32 0x00000000#32) reducesTo_S1x64x2x4x128x256_S1x64x2x4x128_d5 h_S_) shapeCasts_S1x64x2x4x128_S1x64x2x4x128x1)) w)
    (constant S_ .f32 0x00000000#32) reducesTo_S1x64x2x4x128x1_S64x2x4x128_d0_5 h_S_

theorem zero_lit : Ideal.ofBits FTy.f32 0x00000000#32 = 0 := by simp [Ideal.ofBits, Ideal.ieee]

theorem neg_sum_apply (x : FVec Ideal S1x64x2x4x128x256 .f32) :
    (Host.reduceAdd (Host.negf x) (constant S_ .f32 0x00000000#32) reducesTo_S1x64x2x4x128x256_S1x64x2x4x128_d5 h_S_ (ix5 0 n h g a) : EReal) = ∑ l : Fin 256, -(x (ix6 0 n h g a l) : EReal) :=
  (sum_keys n h g a _ _).trans ((congrArg₂ (fun p q : EReal => p + q) zero_lit rfl).trans (zero_add _))

theorem tie_sum_apply (x : FVec Ideal S1x64x2x4x128x256 .f32) :
    (Host.reduceAdd x (constant S_ .f32 0x00000000#32) reducesTo_S1x64x2x4x128x256_S1x64x2x4x128_d5 h_S_ (ix5 0 n h g a) : EReal) = ∑ l : Fin 256, (x (ix6 0 n h g a l) : EReal) :=
  (sum_keys n h g a _ _).trans ((congrArg₂ (fun p q : EReal => p + q) zero_lit rfl).trans (zero_add _))

theorem flat_apply (y : FVec Ideal S1x64x2x4x128 .f32) :
    (shapeCast S1x64x2x4x128x1 y shapeCasts_S1x64x2x4x128_S1x64x2x4x128x1 (ix6 0 n h g a 0) : EReal) = y (ix5 0 n h g a) := by
  pointwise []

theorem share_apply (x : FVec Ideal S1x64x2x4x128x256 .f32) (b s w : FVec Ideal S1x64x2x4x128x1 .f32) :
    (share x b s w (ix4 n h g a) : EReal)
      = (-((b (ix6 0 n h g a 0) : EReal) * (s (ix6 0 n h g a 0) : EReal)) + ∑ l : Fin 256, -(x (ix6 0 n h g a l) : EReal)) * (w (ix6 0 n h g a 0) : EReal) := by
  refine (sum_unit n h g a _ _).trans ((congrArg₂ (fun p q : EReal => p + q) zero_lit rfl).trans ((zero_add _).trans ?_))
  exact congrArg (fun p : EReal => (-((b (ix6 0 n h g a 0) : EReal) * (s (ix6 0 n h g a 0) : EReal)) + p) * (w (ix6 0 n h g a 0) : EReal))
    ((flat_apply n h g a _).trans (neg_sum_apply n h g a x))

/-- The scores' gradient from the softmax's, the masked keys' left out. -/
abbrev scores (c : IVec S1x64x2x4x128x256 1) (x : FVec Ideal S1x64x2x4x128x256 .f32) (y z : FVec Ideal S1x64x2x4x128 .f32) (t : FVec Ideal S1x64x2x4x128x256 .f32) : FVec Ideal S1x64x2x4x128x256 .f32 :=
  select c (addf x (mulf (broadcastInDim S1x64x2x4x128x256 ![0, 1, 2, 3, 4] bcast_S1x64x2x4x128_S1x64x2x4x128x256_0_1_2_3_4 (Host.divf y z)) t))
    (broadcastInDim S1x64x2x4x128x256 ![] bcast_S_S1x64x2x4x128x256 (constant S_ .f32 0x00000000#32))

theorem scores_apply (c : IVec S1x64x2x4x128x256 1) (x : FVec Ideal S1x64x2x4x128x256 .f32) (y z : FVec Ideal S1x64x2x4x128 .f32) (t : FVec Ideal S1x64x2x4x128x256 .f32) :
    (scores c x y z t (ix6 0 n h g a k) : EReal)
      = Scalar.select (c (ix6 0 n h g a k)) ((x (ix6 0 n h g a k) : EReal) + Ideal.div (y (ix5 0 n h g a)) (z (ix5 0 n h g a)) * (t (ix6 0 n h g a k) : EReal)) (Ideal.ofBits FTy.f32 0x00000000#32) := by
  pointwise []

theorem scores_at (c : IVec S1x64x2x4x128x256 1) (x : FVec Ideal S1x64x2x4x128x256 .f32) (y z : FVec Ideal S1x64x2x4x128 .f32) (t : FVec Ideal S1x64x2x4x128x256 .f32)
    (p q : EReal) (hp : y (ix5 0 n h g a) = p) (hq : z (ix5 0 n h g a) = q) :
    (scores c x y z t (ix6 0 n h g a k) : EReal)
      = Scalar.select (c (ix6 0 n h g a k)) ((x (ix6 0 n h g a k) : EReal) + Ideal.div p q * (t (ix6 0 n h g a k) : EReal)) (Ideal.ofBits FTy.f32 0x00000000#32) := by
  rw [scores_apply, hp, hq]

theorem lead_apply (y : FVec Ideal S64x2x4x128 .f32) :
    (broadcastInDim S1x64x2x4x128 ![1, 2, 3, 4] bcast_S64x2x4x128_S1x64x2x4x128_1_2_3_4 y (ix5 0 n h g a) : EReal) = y (ix4 n h g a) := by
  pointwise []

/-- The query gradient from the scores'. -/
abbrev queries (x : FVec Ideal S1x64x2x4x128x256 .f32) (y : FVec Ideal S1x64x256x2x64 .f32) : FVec Ideal S8192x512 .bf16 :=
  truncf .bf16 (shapeCast _ (shapeCast _ (transpose S1x64x128x2x4x64 [0, 1, 3, 2, 4, 5] (Host.dotGeneral dot_S1x64x2x256x128x4_S1x64x256x2x64_S1x64x2x128x4x64_3_2_45_4_012_013 none
    (transpose S1x64x2x256x128x4 [0, 1, 2, 5, 4, 3] (mulf x (broadcastInDim S1x64x2x4x128x256 ![] bcast_S_S1x64x2x4x128x256 (constant S_ .f32 0x3E000000#32))) transposes_S1x64x2x4x128x256_S1x64x2x256x128x4_0_1_2_5_4_3) y)
    transposes_S1x64x2x128x4x64_S1x64x128x2x4x64_0_1_3_2_4_5) shapeCasts_S1x64x128x2x4x64_S1x8192x512) shapeCasts_S1x8192x512_S8192x512) bitsLt_bf16_f32

theorem queries_apply (x : FVec Ideal S1x64x2x4x128x256 .f32) (y : FVec Ideal S1x64x256x2x64 .f32) (i : Fin 8192) (l : Fin 512) :
    (queries x y (ix2 i l) : EReal)
      = ∑ k : Fin 256, (x (ix6 0 ⟨i.val / 128, by omega⟩ ⟨l.val / 256, by omega⟩ ⟨l.val / 64 % 4, by omega⟩ ⟨i.val % 128, by omega⟩ k) : EReal) * Column.eighth
          * (y (ix5 0 ⟨i.val / 128, by omega⟩ k ⟨l.val / 256, by omega⟩ ⟨l.val % 64, by omega⟩) : EReal) := by
  pointwise []
  show @Eq EReal _ _
  refine Finset.sum_congr rfl fun k _ => ?_
  exact congrArg (fun p : EReal => _ * p * _) lit_eighth

theorem run_dq (m : (ℓ : Loc nD τ sig) → Buf (Elt Ideal) ℓ) (ρ : Dev nD → PrngReg) (hA : ∀ c, (attn (StableHlo.launchContents m c)).Finite) :
    θ_run defs (onTc (τ := τ) (main (F := Ideal))) ⟨m, fun _ => 0, ρ⟩ fun r => ∀ c : Dev nD,
      r.2.mem ((c.tc : Thread nD τ).loc main_v138) = fun j : S8192x512.Idx => (attn (StableHlo.launchContents m c)).dq (j 0) (j 1) := by
  refine (θ_run defs _ _).mono (fun r hr c => (hr c).1.trans ?_) (run m ρ)
  clear hr
  replace hA := hA c
  generalize StableHlo.launchContents m c = V at hA ⊢
  funext j
  have ej : j = ix2 (j 0) (j 1) := by funext b; match b with | ⟨0, _⟩ => rfl | ⟨1, _⟩ => rfl
  refine (congrArg (queries _ _) ej).trans ((queries_apply _ _ _ _).trans ?_)
  generalize hi : j 0 = i
  generalize hl : j 1 = l
  clear ej hi hl j
  have hi : i.val < 8192 := i.isLt
  have hl : l.val < 512 := l.isLt
  obtain ⟨n, hn⟩ : ∃ n : Fin 64, (⟨i.val / 128, by omega⟩ : Fin 64) = n := ⟨_, rfl⟩
  obtain ⟨a, ha⟩ : ∃ a : Fin 128, (⟨i.val % 128, by omega⟩ : Fin 128) = a := ⟨_, rfl⟩
  obtain ⟨h, hh⟩ : ∃ h : Fin 2, (⟨l.val / 256, by omega⟩ : Fin 2) = h := ⟨_, rfl⟩
  obtain ⟨g, hg⟩ : ∃ g : Fin 4, (⟨l.val / 64 % 4, by omega⟩ : Fin 4) = g := ⟨_, rfl⟩
  obtain ⟨d, hd⟩ : ∃ d : Fin 64, (⟨l.val % 64, by omega⟩ : Fin 64) = d := ⟨_, rfl⟩
  rw [(attn V).dq_at n h g a d i l (by rw [← hn, ← ha]; dsimp only; omega) (by rw [← hh, ← hg, ← hd]; dsimp only; omega)]
  rw [hn, ha, hh, hg, hd]
  unfold Column.dq
  refine Finset.sum_congr rfl fun k _ => ?_
  refine congrArg₂ (fun p q : EReal => p * q) (congrArg (fun p : EReal => p * Column.eighth) ?_) (keys_apply V n h g a k d)
  refine (scores_at n h g a k _ _ _ _ _ _ _ ((lead_apply n h g a _).trans (share_apply n h g a (res_main_v118 V) (res_main_v109 V) (res_main_v91 V) _))
    (tie_sum_apply n h g a (res_main_v70 V))).trans ?_
  exact masked_grad V n h g a k hA _ _ zero_lit _ (fun l => res_main_v118 V (ix6 0 n h g a l)) (fun l => res_main_v70 V (ix6 0 n h g a l)) _ _
    (mask_apply V n h g a k) (through_apply V n h g a) (back_apply V n h g a) (es_apply V n h g a) (tie_apply V n h g a)

end Cert.AttnRef
end
-- ==== Proof.Mixers.lean ====
/- The mixers' gradient: its frames, and that the attention's query gradient is the reference's. -/
module

public import proofs.«01_k».proof.Defs
public import proofs.«01_k».proof.Proof.MixQueries
public import proofs.«01_k».proof.Proof.MixFrame
public import proofs.«01_k».proof.Proof.AttnRefOut
public import Idealize.ShloMosaic.Lib.Quiescent

@[expose] public section

set_option maxRecDepth 16384

noncomputable section

namespace Cert.Proof.Mixers

open Idealize.ShloMosaic Idealize.SL.Sem Cert.Math

theorem pre_facts : Cert.Pre_finite_inputs3.Facts := by
  constructor <;> decide

/-- What the precondition says of one device's arguments. -/
theorem finite (m : (ℓ : Loc Cert.Kernel3Ideal.nD Cert.Kernel3Ideal.τ Cert.Kernel3Ideal.sig) → Buf (Elt Ideal) ℓ)
    (h : Cert.Pre_Kernel3Ideal_finite_inputs3 (hPre_finite_inputs3 := pre_facts) m) (c : Dev Cert.Kernel3Ideal.nD) : (Cert.Mix.attn m c).Finite := by
  obtain ⟨h0, h4, h6⟩ := h c
  exact ⟨fun i k => .of_abs_lt (congrFun h0 _), fun k => .of_abs_lt (congrFun h4 _), fun i k => .of_abs_lt (congrFun h6 _)⟩

theorem frame_reference : Cert.quiescent_Reference3Ideal (hReference3Ideal := Cert.Reference3Ideal.Gen.facts) := by
  intro m g _
  exact (θ_run _ _ _).mono (fun r h => ⟨fun c => (h c).2, sem_eq_zero_of_no_sems rfl _⟩) (Cert.Reference3Ideal.Value.run m g)

theorem algebraic : Cert.algebraic_Kernel3Ideal_Reference3Ideal_pre_finite_inputs3 (hKernel3Ideal := Cert.Kernel3Ideal.Gen.facts)
    (hReference3Ideal := Cert.Reference3Ideal.Gen.facts) (hPre_finite_inputs3 := pre_facts) := by
  intro m g m' g' hpre hargs
  have hA := finite m hpre
  refine ⟨fun c => Cert.Mix.resDq m c, ?_, ?_⟩
  · refine (θ_run _ _ _).mono (fun r h c => ⟨?_, h.2.1 c⟩) (θ_run_and (Cert.Mix.run_main (F := Ideal) m g) (Cert.Mix.frame (F := Ideal) m g))
    exact ((h.1 c).1 14).trans (Cert.Mix.final14 m c (hA c))
  · have e : ∀ c, Cert.AttnRef.attn (StableHlo.launchContents m' c) = Cert.Mix.attn m c := fun c => by
      obtain ⟨e0, -, -, -, e4, -, e6⟩ := hargs c
      have e0' : Cert.AttnRef.refZ (StableHlo.launchContents m' c) = Cert.Mix.argZ m c := e0
      have e4' : Cert.AttnRef.refSink (StableHlo.launchContents m' c) = Cert.Mix.argSink m c := e4
      have e6' : Cert.AttnRef.refDo (StableHlo.launchContents m' c) = Cert.Mix.argDo m c := e6
      unfold Cert.AttnRef.attn Cert.Mix.attn
      rw [e0', e4', e6']
    refine (θ_run _ _ _).mono (fun r h c => ⟨(h.1 c).trans ?_, (h.2 c).2⟩)
      (θ_run_and (Cert.AttnRef.run_dq m' g' fun c => (e c).symm ▸ hA c) (Cert.Reference3Ideal.Value.run m' g'))
    rw [e c]

end Cert.Proof.Mixers

end
-- ==== Proof.lean ====
module

public import proofs.«01_k».proof.Defs
public import proofs.«01_k».proof.Proof.InBwd
public import proofs.«01_k».proof.Proof.Gen.Kernel2.Frame
public import proofs.«01_k».proof.Proof.Core
public import proofs.«01_k».proof.Proof.MixSame
public import proofs.«01_k».proof.Proof.Mixers

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, InBwd.pre_facts, Core.pre_facts, Mixers.pre_facts,
    fun m ρ _ => Cert.Kernel.Gen.frame m ρ,
    fun m ρ _ => Cert.KernelIdeal.Gen.frame m ρ,
    fun m ρ _ => Cert.KernelIdeal.Gen.frame m ρ,
    InBwd.frame_reference,
    fun m ρ _ => InBwd.frame_reference m ρ trivial,
    fun m ρ _ => Cert.Kernel2.Gen.frame m ρ,
    fun m ρ _ => Cert.Kernel2Ideal.Gen.frame m ρ,
    fun m ρ _ => Cert.Kernel2Ideal.Gen.frame m ρ,
    Core.frame_reference,
    fun m ρ _ => Core.frame_reference m ρ trivial,
    fun m ρ _ => Cert.Mix.frame_plain m ρ,
    fun m ρ _ => Cert.Mix.frame (F := Ideal) m ρ,
    fun m ρ _ => Cert.Mix.frame (F := Ideal) m ρ,
    Mixers.frame_reference,
    fun m ρ _ => Mixers.frame_reference m ρ trivial,
    trivial,
    InBwd.algebraic,
    trivial,
    Core.algebraic,
    IdealRules.named_const.statement Cert.Kernel3Ideal.κ "mask" .f32 0xF149F2CA#32 ⊥ rfl,
    Mixers.algebraic⟩

end Cert.Proof

end
